-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelRec (m : (ℓ : Loc Cert.KernelRec.nD Cert.KernelRec.τ Cert.KernelRec.sig) → Buf (Elt Bits) ℓ) : Prop :=
  True

def Pre_KernelRecIdeal (m : (ℓ : Loc Cert.KernelRecIdeal.nD Cert.KernelRecIdeal.τ Cert.KernelRecIdeal.sig) → Buf (Elt Ideal) ℓ) : Prop :=
  True

def Pre_ReferenceRecIdeal (m : (ℓ : Loc Cert.ReferenceRecIdeal.nD Cert.ReferenceRecIdeal.τ Cert.ReferenceRecIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5))
      ∧ r.2.sem = fun _ => 0)

def quiescent_KernelRec [hKernelRec : Cert.KernelRec.Facts] : Prop :=
  ∀ (m : (ℓ : Loc Cert.KernelRec.nD Cert.KernelRec.τ Cert.KernelRec.sig) → Buf (Elt Bits) ℓ) (g : Dev Cert.KernelRec.nD → PrngReg), Pre_KernelRec m →
    θ_run (Cert.KernelRec.defs (F := Bits)) (onTc (τ := Cert.KernelRec.τ) (Cert.KernelRec.main (F := Bits))) ⟨m, fun _ => 0, g⟩ (fun r => (∀ c : Dev Cert.KernelRec.nD,
      r.2.mem ((c.tc : Thread Cert.KernelRec.nD Cert.KernelRec.τ).loc Cert.KernelRec.main_arg0) = m ((c.tc : Thread Cert.KernelRec.nD Cert.KernelRec.τ).loc Cert.KernelRec.main_arg0)
      ∧ r.2.mem ((c.tc : Thread Cert.KernelRec.nD Cert.KernelRec.τ).loc Cert.KernelRec.main_arg1) = m ((c.tc : Thread Cert.KernelRec.nD Cert.KernelRec.τ).loc Cert.KernelRec.main_arg1)
      ∧ r.2.mem ((c.tc : Thread Cert.KernelRec.nD Cert.KernelRec.τ).loc Cert.KernelRec.main_arg2) = m ((c.tc : Thread Cert.KernelRec.nD Cert.KernelRec.τ).loc Cert.KernelRec.main_arg2)
      ∧ r.2.mem ((c.tc : Thread Cert.KernelRec.nD Cert.KernelRec.τ).loc Cert.KernelRec.main_arg3) = m ((c.tc : Thread Cert.KernelRec.nD Cert.KernelRec.τ).loc Cert.KernelRec.main_arg3)
      ∧ r.2.mem ((c.tc : Thread Cert.KernelRec.nD Cert.KernelRec.τ).loc Cert.KernelRec.main_arg4) = m ((c.tc : Thread Cert.KernelRec.nD Cert.KernelRec.τ).loc Cert.KernelRec.main_arg4)
      ∧ r.2.mem ((c.tc : Thread Cert.KernelRec.nD Cert.KernelRec.τ).loc Cert.KernelRec.main_arg5) = m ((c.tc : Thread Cert.KernelRec.nD Cert.KernelRec.τ).loc Cert.KernelRec.main_arg5)
      ∧ r.2.mem ((c.tc : Thread Cert.KernelRec.nD Cert.KernelRec.τ).loc Cert.KernelRec.main_arg6) = m ((c.tc : Thread Cert.KernelRec.nD Cert.KernelRec.τ).loc Cert.KernelRec.main_arg6)
      ∧ r.2.mem ((c.tc : Thread Cert.KernelRec.nD Cert.KernelRec.τ).loc Cert.KernelRec.main_arg7) = m ((c.tc : Thread Cert.KernelRec.nD Cert.KernelRec.τ).loc Cert.KernelRec.main_arg7)
      ∧ r.2.mem ((c.tc : Thread Cert.KernelRec.nD Cert.KernelRec.τ).loc Cert.KernelRec.main_arg8) = m ((c.tc : Thread Cert.KernelRec.nD Cert.KernelRec.τ).loc Cert.KernelRec.main_arg8)
      ∧ r.2.mem ((c.tc : Thread Cert.KernelRec.nD Cert.KernelRec.τ).loc Cert.KernelRec.main_arg9) = m ((c.tc : Thread Cert.KernelRec.nD Cert.KernelRec.τ).loc Cert.KernelRec.main_arg9)
      ∧ r.2.mem ((c.tc : Thread Cert.KernelRec.nD Cert.KernelRec.τ).loc Cert.KernelRec.main_arg10) = m ((c.tc : Thread Cert.KernelRec.nD Cert.KernelRec.τ).loc Cert.KernelRec.main_arg10)
      ∧ r.2.mem ((c.tc : Thread Cert.KernelRec.nD Cert.KernelRec.τ).loc Cert.KernelRec.main_arg11) = m ((c.tc : Thread Cert.KernelRec.nD Cert.KernelRec.τ).loc Cert.KernelRec.main_arg11))
      ∧ r.2.sem = fun _ => 0)

def quiescent_KernelRecIdeal [hKernelRecIdeal : Cert.KernelRecIdeal.Facts] : Prop :=
  ∀ (m : (ℓ : Loc Cert.KernelRecIdeal.nD Cert.KernelRecIdeal.τ Cert.KernelRecIdeal.sig) → Buf (Elt Ideal) ℓ) (g : Dev Cert.KernelRecIdeal.nD → PrngReg), Pre_KernelRecIdeal m →
    θ_run (Cert.KernelRecIdeal.defs (F := Ideal)) (onTc (τ := Cert.KernelRecIdeal.τ) (Cert.KernelRecIdeal.main (F := Ideal))) ⟨m, fun _ => 0, g⟩ (fun r => (∀ c : Dev Cert.KernelRecIdeal.nD,
      r.2.mem ((c.tc : Thread Cert.KernelRecIdeal.nD Cert.KernelRecIdeal.τ).loc Cert.KernelRecIdeal.main_arg0) = m ((c.tc : Thread Cert.KernelRecIdeal.nD Cert.KernelRecIdeal.τ).loc Cert.KernelRecIdeal.main_arg0)
      ∧ r.2.mem ((c.tc : Thread Cert.KernelRecIdeal.nD Cert.KernelRecIdeal.τ).loc Cert.KernelRecIdeal.main_arg1) = m ((c.tc : Thread Cert.KernelRecIdeal.nD Cert.KernelRecIdeal.τ).loc Cert.KernelRecIdeal.main_arg1)
      ∧ r.2.mem ((c.tc : Thread Cert.KernelRecIdeal.nD Cert.KernelRecIdeal.τ).loc Cert.KernelRecIdeal.main_arg2) = m ((c.tc : Thread Cert.KernelRecIdeal.nD Cert.KernelRecIdeal.τ).loc Cert.KernelRecIdeal.main_arg2)
      ∧ r.2.mem ((c.tc : Thread Cert.KernelRecIdeal.nD Cert.KernelRecIdeal.τ).loc Cert.KernelRecIdeal.main_arg3) = m ((c.tc : Thread Cert.KernelRecIdeal.nD Cert.KernelRecIdeal.τ).loc Cert.KernelRecIdeal.main_arg3)
      ∧ r.2.mem ((c.tc : Thread Cert.KernelRecIdeal.nD Cert.KernelRecIdeal.τ).loc Cert.KernelRecIdeal.main_arg4) = m ((c.tc : Thread Cert.KernelRecIdeal.nD Cert.KernelRecIdeal.τ).loc Cert.KernelRecIdeal.main_arg4)
      ∧ r.2.mem ((c.tc : Thread Cert.KernelRecIdeal.nD Cert.KernelRecIdeal.τ).loc Cert.KernelRecIdeal.main_arg5) = m ((c.tc : Thread Cert.KernelRecIdeal.nD Cert.KernelRecIdeal.τ).loc Cert.KernelRecIdeal.main_arg5)
      ∧ r.2.mem ((c.tc : Thread Cert.KernelRecIdeal.nD Cert.KernelRecIdeal.τ).loc Cert.KernelRecIdeal.main_arg6) = m ((c.tc : Thread Cert.KernelRecIdeal.nD Cert.KernelRecIdeal.τ).loc Cert.KernelRecIdeal.main_arg6)
      ∧ r.2.mem ((c.tc : Thread Cert.KernelRecIdeal.nD Cert.KernelRecIdeal.τ).loc Cert.KernelRecIdeal.main_arg7) = m ((c.tc : Thread Cert.KernelRecIdeal.nD Cert.KernelRecIdeal.τ).loc Cert.KernelRecIdeal.main_arg7)
      ∧ r.2.mem ((c.tc : Thread Cert.KernelRecIdeal.nD Cert.KernelRecIdeal.τ).loc Cert.KernelRecIdeal.main_arg8) = m ((c.tc : Thread Cert.KernelRecIdeal.nD Cert.KernelRecIdeal.τ).loc Cert.KernelRecIdeal.main_arg8)
      ∧ r.2.mem ((c.tc : Thread Cert.KernelRecIdeal.nD Cert.KernelRecIdeal.τ).loc Cert.KernelRecIdeal.main_arg9) = m ((c.tc : Thread Cert.KernelRecIdeal.nD Cert.KernelRecIdeal.τ).loc Cert.KernelRecIdeal.main_arg9)
      ∧ r.2.mem ((c.tc : Thread Cert.KernelRecIdeal.nD Cert.KernelRecIdeal.τ).loc Cert.KernelRecIdeal.main_arg10) = m ((c.tc : Thread Cert.KernelRecIdeal.nD Cert.KernelRecIdeal.τ).loc Cert.KernelRecIdeal.main_arg10)
      ∧ r.2.mem ((c.tc : Thread Cert.KernelRecIdeal.nD Cert.KernelRecIdeal.τ).loc Cert.KernelRecIdeal.main_arg11) = m ((c.tc : Thread Cert.KernelRecIdeal.nD Cert.KernelRecIdeal.τ).loc Cert.KernelRecIdeal.main_arg11))
      ∧ r.2.sem = fun _ => 0)

def quiescent_ReferenceRecIdeal [hReferenceRecIdeal : Cert.ReferenceRecIdeal.Facts] : Prop :=
  ∀ (m : (ℓ : Loc Cert.ReferenceRecIdeal.nD Cert.ReferenceRecIdeal.τ Cert.ReferenceRecIdeal.sig) → Buf (Elt Ideal) ℓ) (g : Dev Cert.ReferenceRecIdeal.nD → PrngReg), Pre_ReferenceRecIdeal m →
    θ_run (Cert.ReferenceRecIdeal.defs (F := Ideal)) (onTc (τ := Cert.ReferenceRecIdeal.τ) (Cert.ReferenceRecIdeal.main (F := Ideal))) ⟨m, fun _ => 0, g⟩ (fun r => (∀ c : Dev Cert.ReferenceRecIdeal.nD,
      r.2.mem ((c.tc : Thread Cert.ReferenceRecIdeal.nD Cert.ReferenceRecIdeal.τ).loc Cert.ReferenceRecIdeal.main_arg0) = m ((c.tc : Thread Cert.ReferenceRecIdeal.nD Cert.ReferenceRecIdeal.τ).loc Cert.ReferenceRecIdeal.main_arg0)
      ∧ r.2.mem ((c.tc : Thread Cert.ReferenceRecIdeal.nD Cert.ReferenceRecIdeal.τ).loc Cert.ReferenceRecIdeal.main_arg1) = m ((c.tc : Thread Cert.ReferenceRecIdeal.nD Cert.ReferenceRecIdeal.τ).loc Cert.ReferenceRecIdeal.main_arg1)
      ∧ r.2.mem ((c.tc : Thread Cert.ReferenceRecIdeal.nD Cert.ReferenceRecIdeal.τ).loc Cert.ReferenceRecIdeal.main_arg2) = m ((c.tc : Thread Cert.ReferenceRecIdeal.nD Cert.ReferenceRecIdeal.τ).loc Cert.ReferenceRecIdeal.main_arg2)
      ∧ r.2.mem ((c.tc : Thread Cert.ReferenceRecIdeal.nD Cert.ReferenceRecIdeal.τ).loc Cert.ReferenceRecIdeal.main_arg3) = m ((c.tc : Thread Cert.ReferenceRecIdeal.nD Cert.ReferenceRecIdeal.τ).loc Cert.ReferenceRecIdeal.main_arg3)
      ∧ r.2.mem ((c.tc : Thread Cert.ReferenceRecIdeal.nD Cert.ReferenceRecIdeal.τ).loc Cert.ReferenceRecIdeal.main_arg4) = m ((c.tc : Thread Cert.ReferenceRecIdeal.nD Cert.ReferenceRecIdeal.τ).loc Cert.ReferenceRecIdeal.main_arg4)
      ∧ r.2.mem ((c.tc : Thread Cert.ReferenceRecIdeal.nD Cert.ReferenceRecIdeal.τ).loc Cert.ReferenceRecIdeal.main_arg5) = m ((c.tc : Thread Cert.ReferenceRecIdeal.nD Cert.ReferenceRecIdeal.τ).loc Cert.ReferenceRecIdeal.main_arg5)
      ∧ r.2.mem ((c.tc : Thread Cert.ReferenceRecIdeal.nD Cert.ReferenceRecIdeal.τ).loc Cert.ReferenceRecIdeal.main_arg6) = m ((c.tc : Thread Cert.ReferenceRecIdeal.nD Cert.ReferenceRecIdeal.τ).loc Cert.ReferenceRecIdeal.main_arg6)
      ∧ r.2.mem ((c.tc : Thread Cert.ReferenceRecIdeal.nD Cert.ReferenceRecIdeal.τ).loc Cert.ReferenceRecIdeal.main_arg7) = m ((c.tc : Thread Cert.ReferenceRecIdeal.nD Cert.ReferenceRecIdeal.τ).loc Cert.ReferenceRecIdeal.main_arg7)
      ∧ r.2.mem ((c.tc : Thread Cert.ReferenceRecIdeal.nD Cert.ReferenceRecIdeal.τ).loc Cert.ReferenceRecIdeal.main_arg8) = m ((c.tc : Thread Cert.ReferenceRecIdeal.nD Cert.ReferenceRecIdeal.τ).loc Cert.ReferenceRecIdeal.main_arg8)
      ∧ r.2.mem ((c.tc : Thread Cert.ReferenceRecIdeal.nD Cert.ReferenceRecIdeal.τ).loc Cert.ReferenceRecIdeal.main_arg9) = m ((c.tc : Thread Cert.ReferenceRecIdeal.nD Cert.ReferenceRecIdeal.τ).loc Cert.ReferenceRecIdeal.main_arg9)
      ∧ r.2.mem ((c.tc : Thread Cert.ReferenceRecIdeal.nD Cert.ReferenceRecIdeal.τ).loc Cert.ReferenceRecIdeal.main_arg10) = m ((c.tc : Thread Cert.ReferenceRecIdeal.nD Cert.ReferenceRecIdeal.τ).loc Cert.ReferenceRecIdeal.main_arg10)
      ∧ r.2.mem ((c.tc : Thread Cert.ReferenceRecIdeal.nD Cert.ReferenceRecIdeal.τ).loc Cert.ReferenceRecIdeal.main_arg11) = m ((c.tc : Thread Cert.ReferenceRecIdeal.nD Cert.ReferenceRecIdeal.τ).loc Cert.ReferenceRecIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)) →
    ∃ (v0 : (c : Dev Cert.KernelMlpIdeal.nD) → Buf (Elt Ideal) ((c.tc : Thread Cert.KernelMlpIdeal.nD Cert.KernelMlpIdeal.τ).loc Cert.KernelMlpIdeal.main_v1)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v1) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v21) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)) →
    ∃ (v0 : (c : Dev Cert.KernelQkvIdeal.nD) → Buf (Elt Ideal) ((c.tc : Thread Cert.KernelQkvIdeal.nD Cert.KernelQkvIdeal.τ).loc Cert.KernelQkvIdeal.main_v3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v3) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v19) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v15) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)) →
    ∃ (v0 : (c : Dev Cert.KernelPleIdeal.nD) → Buf (Elt Ideal) ((c.tc : Thread Cert.KernelPleIdeal.nD Cert.KernelPleIdeal.τ).loc Cert.KernelPleIdeal.main_v4)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v4) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v41) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)) →
    ∃ (v0 : (c : Dev Cert.KernelMidIdeal.nD) → Buf (Elt Ideal) ((c.tc : Thread Cert.KernelMidIdeal.nD Cert.KernelMidIdeal.τ).loc Cert.KernelMidIdeal.main_v4)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v4) = v0 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v28) = v0 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5))

def preserves_KernelRec_KernelRecIdeal : Prop :=
  True

def algebraic_KernelRecIdeal_ReferenceRecIdeal [hKernelRecIdeal : Cert.KernelRecIdeal.Facts] [hReferenceRecIdeal : Cert.ReferenceRecIdeal.Facts] : Prop :=
  ∀ (m : (ℓ : Loc Cert.KernelRecIdeal.nD Cert.KernelRecIdeal.τ Cert.KernelRecIdeal.sig) → Buf (Elt Ideal) ℓ) (g : Dev Cert.KernelRecIdeal.nD → PrngReg)
    (m' : (ℓ : Loc Cert.ReferenceRecIdeal.nD Cert.ReferenceRecIdeal.τ Cert.ReferenceRecIdeal.sig) → Buf (Elt Ideal) ℓ) (g' : Dev Cert.ReferenceRecIdeal.nD → PrngReg), Pre_KernelRecIdeal m →
    (∀ c : Dev Cert.KernelRecIdeal.nD,
      m' ((c.tc : Thread Cert.ReferenceRecIdeal.nD Cert.ReferenceRecIdeal.τ).loc Cert.ReferenceRecIdeal.main_arg0) = m ((c.tc : Thread Cert.KernelRecIdeal.nD Cert.KernelRecIdeal.τ).loc Cert.KernelRecIdeal.main_arg0)
      ∧ m' ((c.tc : Thread Cert.ReferenceRecIdeal.nD Cert.ReferenceRecIdeal.τ).loc Cert.ReferenceRecIdeal.main_arg1) = m ((c.tc : Thread Cert.KernelRecIdeal.nD Cert.KernelRecIdeal.τ).loc Cert.KernelRecIdeal.main_arg1)
      ∧ m' ((c.tc : Thread Cert.ReferenceRecIdeal.nD Cert.ReferenceRecIdeal.τ).loc Cert.ReferenceRecIdeal.main_arg2) = m ((c.tc : Thread Cert.KernelRecIdeal.nD Cert.KernelRecIdeal.τ).loc Cert.KernelRecIdeal.main_arg2)
      ∧ m' ((c.tc : Thread Cert.ReferenceRecIdeal.nD Cert.ReferenceRecIdeal.τ).loc Cert.ReferenceRecIdeal.main_arg3) = m ((c.tc : Thread Cert.KernelRecIdeal.nD Cert.KernelRecIdeal.τ).loc Cert.KernelRecIdeal.main_arg3)
      ∧ m' ((c.tc : Thread Cert.ReferenceRecIdeal.nD Cert.ReferenceRecIdeal.τ).loc Cert.ReferenceRecIdeal.main_arg4) = m ((c.tc : Thread Cert.KernelRecIdeal.nD Cert.KernelRecIdeal.τ).loc Cert.KernelRecIdeal.main_arg4)
      ∧ m' ((c.tc : Thread Cert.ReferenceRecIdeal.nD Cert.ReferenceRecIdeal.τ).loc Cert.ReferenceRecIdeal.main_arg5) = m ((c.tc : Thread Cert.KernelRecIdeal.nD Cert.KernelRecIdeal.τ).loc Cert.KernelRecIdeal.main_arg5)
      ∧ m' ((c.tc : Thread Cert.ReferenceRecIdeal.nD Cert.ReferenceRecIdeal.τ).loc Cert.ReferenceRecIdeal.main_arg6) = m ((c.tc : Thread Cert.KernelRecIdeal.nD Cert.KernelRecIdeal.τ).loc Cert.KernelRecIdeal.main_arg6)
      ∧ m' ((c.tc : Thread Cert.ReferenceRecIdeal.nD Cert.ReferenceRecIdeal.τ).loc Cert.ReferenceRecIdeal.main_arg7) = m ((c.tc : Thread Cert.KernelRecIdeal.nD Cert.KernelRecIdeal.τ).loc Cert.KernelRecIdeal.main_arg7)
      ∧ m' ((c.tc : Thread Cert.ReferenceRecIdeal.nD Cert.ReferenceRecIdeal.τ).loc Cert.ReferenceRecIdeal.main_arg8) = m ((c.tc : Thread Cert.KernelRecIdeal.nD Cert.KernelRecIdeal.τ).loc Cert.KernelRecIdeal.main_arg8)
      ∧ m' ((c.tc : Thread Cert.ReferenceRecIdeal.nD Cert.ReferenceRecIdeal.τ).loc Cert.ReferenceRecIdeal.main_arg9) = m ((c.tc : Thread Cert.KernelRecIdeal.nD Cert.KernelRecIdeal.τ).loc Cert.KernelRecIdeal.main_arg9)
      ∧ m' ((c.tc : Thread Cert.ReferenceRecIdeal.nD Cert.ReferenceRecIdeal.τ).loc Cert.ReferenceRecIdeal.main_arg10) = m ((c.tc : Thread Cert.KernelRecIdeal.nD Cert.KernelRecIdeal.τ).loc Cert.KernelRecIdeal.main_arg10)
      ∧ m' ((c.tc : Thread Cert.ReferenceRecIdeal.nD Cert.ReferenceRecIdeal.τ).loc Cert.ReferenceRecIdeal.main_arg11) = m ((c.tc : Thread Cert.KernelRecIdeal.nD Cert.KernelRecIdeal.τ).loc Cert.KernelRecIdeal.main_arg11)) →
    ∃ (v0 : (c : Dev Cert.KernelRecIdeal.nD) → Buf (Elt Ideal) ((c.tc : Thread Cert.KernelRecIdeal.nD Cert.KernelRecIdeal.τ).loc Cert.KernelRecIdeal.main_v27)),
      θ_run (Cert.KernelRecIdeal.defs (F := Ideal)) (onTc (τ := Cert.KernelRecIdeal.τ) (Cert.KernelRecIdeal.main (F := Ideal))) ⟨m, fun _ => 0, g⟩ (fun r => ∀ c : Dev Cert.KernelRecIdeal.nD,
          r.2.mem ((c.tc : Thread Cert.KernelRecIdeal.nD Cert.KernelRecIdeal.τ).loc Cert.KernelRecIdeal.main_v27) = v0 c
          ∧ r.2.mem ((c.tc : Thread Cert.KernelRecIdeal.nD Cert.KernelRecIdeal.τ).loc Cert.KernelRecIdeal.main_arg0) = m ((c.tc : Thread Cert.KernelRecIdeal.nD Cert.KernelRecIdeal.τ).loc Cert.KernelRecIdeal.main_arg0)
          ∧ r.2.mem ((c.tc : Thread Cert.KernelRecIdeal.nD Cert.KernelRecIdeal.τ).loc Cert.KernelRecIdeal.main_arg1) = m ((c.tc : Thread Cert.KernelRecIdeal.nD Cert.KernelRecIdeal.τ).loc Cert.KernelRecIdeal.main_arg1)
          ∧ r.2.mem ((c.tc : Thread Cert.KernelRecIdeal.nD Cert.KernelRecIdeal.τ).loc Cert.KernelRecIdeal.main_arg2) = m ((c.tc : Thread Cert.KernelRecIdeal.nD Cert.KernelRecIdeal.τ).loc Cert.KernelRecIdeal.main_arg2)
          ∧ r.2.mem ((c.tc : Thread Cert.KernelRecIdeal.nD Cert.KernelRecIdeal.τ).loc Cert.KernelRecIdeal.main_arg3) = m ((c.tc : Thread Cert.KernelRecIdeal.nD Cert.KernelRecIdeal.τ).loc Cert.KernelRecIdeal.main_arg3)
          ∧ r.2.mem ((c.tc : Thread Cert.KernelRecIdeal.nD Cert.KernelRecIdeal.τ).loc Cert.KernelRecIdeal.main_arg4) = m ((c.tc : Thread Cert.KernelRecIdeal.nD Cert.KernelRecIdeal.τ).loc Cert.KernelRecIdeal.main_arg4)
          ∧ r.2.mem ((c.tc : Thread Cert.KernelRecIdeal.nD Cert.KernelRecIdeal.τ).loc Cert.KernelRecIdeal.main_arg5) = m ((c.tc : Thread Cert.KernelRecIdeal.nD Cert.KernelRecIdeal.τ).loc Cert.KernelRecIdeal.main_arg5)
          ∧ r.2.mem ((c.tc : Thread Cert.KernelRecIdeal.nD Cert.KernelRecIdeal.τ).loc Cert.KernelRecIdeal.main_arg6) = m ((c.tc : Thread Cert.KernelRecIdeal.nD Cert.KernelRecIdeal.τ).loc Cert.KernelRecIdeal.main_arg6)
          ∧ r.2.mem ((c.tc : Thread Cert.KernelRecIdeal.nD Cert.KernelRecIdeal.τ).loc Cert.KernelRecIdeal.main_arg7) = m ((c.tc : Thread Cert.KernelRecIdeal.nD Cert.KernelRecIdeal.τ).loc Cert.KernelRecIdeal.main_arg7)
          ∧ r.2.mem ((c.tc : Thread Cert.KernelRecIdeal.nD Cert.KernelRecIdeal.τ).loc Cert.KernelRecIdeal.main_arg8) = m ((c.tc : Thread Cert.KernelRecIdeal.nD Cert.KernelRecIdeal.τ).loc Cert.KernelRecIdeal.main_arg8)
          ∧ r.2.mem ((c.tc : Thread Cert.KernelRecIdeal.nD Cert.KernelRecIdeal.τ).loc Cert.KernelRecIdeal.main_arg9) = m ((c.tc : Thread Cert.KernelRecIdeal.nD Cert.KernelRecIdeal.τ).loc Cert.KernelRecIdeal.main_arg9)
          ∧ r.2.mem ((c.tc : Thread Cert.KernelRecIdeal.nD Cert.KernelRecIdeal.τ).loc Cert.KernelRecIdeal.main_arg10) = m ((c.tc : Thread Cert.KernelRecIdeal.nD Cert.KernelRecIdeal.τ).loc Cert.KernelRecIdeal.main_arg10)
          ∧ r.2.mem ((c.tc : Thread Cert.KernelRecIdeal.nD Cert.KernelRecIdeal.τ).loc Cert.KernelRecIdeal.main_arg11) = m ((c.tc : Thread Cert.KernelRecIdeal.nD Cert.KernelRecIdeal.τ).loc Cert.KernelRecIdeal.main_arg11))
      ∧ θ_run (Cert.ReferenceRecIdeal.defs (F := Ideal)) (onTc (τ := Cert.ReferenceRecIdeal.τ) (Cert.ReferenceRecIdeal.main (F := Ideal))) ⟨m', fun _ => 0, g'⟩ (fun r => ∀ c : Dev Cert.ReferenceRecIdeal.nD,
          r.2.mem ((c.tc : Thread Cert.ReferenceRecIdeal.nD Cert.ReferenceRecIdeal.τ).loc Cert.ReferenceRecIdeal.main_v371) = v0 c
          ∧ r.2.mem ((c.tc : Thread Cert.ReferenceRecIdeal.nD Cert.ReferenceRecIdeal.τ).loc Cert.ReferenceRecIdeal.main_arg0) = m' ((c.tc : Thread Cert.ReferenceRecIdeal.nD Cert.ReferenceRecIdeal.τ).loc Cert.ReferenceRecIdeal.main_arg0)
          ∧ r.2.mem ((c.tc : Thread Cert.ReferenceRecIdeal.nD Cert.ReferenceRecIdeal.τ).loc Cert.ReferenceRecIdeal.main_arg1) = m' ((c.tc : Thread Cert.ReferenceRecIdeal.nD Cert.ReferenceRecIdeal.τ).loc Cert.ReferenceRecIdeal.main_arg1)
          ∧ r.2.mem ((c.tc : Thread Cert.ReferenceRecIdeal.nD Cert.ReferenceRecIdeal.τ).loc Cert.ReferenceRecIdeal.main_arg2) = m' ((c.tc : Thread Cert.ReferenceRecIdeal.nD Cert.ReferenceRecIdeal.τ).loc Cert.ReferenceRecIdeal.main_arg2)
          ∧ r.2.mem ((c.tc : Thread Cert.ReferenceRecIdeal.nD Cert.ReferenceRecIdeal.τ).loc Cert.ReferenceRecIdeal.main_arg3) = m' ((c.tc : Thread Cert.ReferenceRecIdeal.nD Cert.ReferenceRecIdeal.τ).loc Cert.ReferenceRecIdeal.main_arg3)
          ∧ r.2.mem ((c.tc : Thread Cert.ReferenceRecIdeal.nD Cert.ReferenceRecIdeal.τ).loc Cert.ReferenceRecIdeal.main_arg4) = m' ((c.tc : Thread Cert.ReferenceRecIdeal.nD Cert.ReferenceRecIdeal.τ).loc Cert.ReferenceRecIdeal.main_arg4)
          ∧ r.2.mem ((c.tc : Thread Cert.ReferenceRecIdeal.nD Cert.ReferenceRecIdeal.τ).loc Cert.ReferenceRecIdeal.main_arg5) = m' ((c.tc : Thread Cert.ReferenceRecIdeal.nD Cert.ReferenceRecIdeal.τ).loc Cert.ReferenceRecIdeal.main_arg5)
          ∧ r.2.mem ((c.tc : Thread Cert.ReferenceRecIdeal.nD Cert.ReferenceRecIdeal.τ).loc Cert.ReferenceRecIdeal.main_arg6) = m' ((c.tc : Thread Cert.ReferenceRecIdeal.nD Cert.ReferenceRecIdeal.τ).loc Cert.ReferenceRecIdeal.main_arg6)
          ∧ r.2.mem ((c.tc : Thread Cert.ReferenceRecIdeal.nD Cert.ReferenceRecIdeal.τ).loc Cert.ReferenceRecIdeal.main_arg7) = m' ((c.tc : Thread Cert.ReferenceRecIdeal.nD Cert.ReferenceRecIdeal.τ).loc Cert.ReferenceRecIdeal.main_arg7)
          ∧ r.2.mem ((c.tc : Thread Cert.ReferenceRecIdeal.nD Cert.ReferenceRecIdeal.τ).loc Cert.ReferenceRecIdeal.main_arg8) = m' ((c.tc : Thread Cert.ReferenceRecIdeal.nD Cert.ReferenceRecIdeal.τ).loc Cert.ReferenceRecIdeal.main_arg8)
          ∧ r.2.mem ((c.tc : Thread Cert.ReferenceRecIdeal.nD Cert.ReferenceRecIdeal.τ).loc Cert.ReferenceRecIdeal.main_arg9) = m' ((c.tc : Thread Cert.ReferenceRecIdeal.nD Cert.ReferenceRecIdeal.τ).loc Cert.ReferenceRecIdeal.main_arg9)
          ∧ r.2.mem ((c.tc : Thread Cert.ReferenceRecIdeal.nD Cert.ReferenceRecIdeal.τ).loc Cert.ReferenceRecIdeal.main_arg10) = m' ((c.tc : Thread Cert.ReferenceRecIdeal.nD Cert.ReferenceRecIdeal.τ).loc Cert.ReferenceRecIdeal.main_arg10)
          ∧ r.2.mem ((c.tc : Thread Cert.ReferenceRecIdeal.nD Cert.ReferenceRecIdeal.τ).loc Cert.ReferenceRecIdeal.main_arg11) = m' ((c.tc : Thread Cert.ReferenceRecIdeal.nD Cert.ReferenceRecIdeal.τ).loc Cert.ReferenceRecIdeal.main_arg11))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelOut : Cert.KernelOut.Facts) (hKernelOutIdeal : Cert.KernelOutIdeal.Facts) (hReferenceOutIdeal : Cert.ReferenceOutIdeal.Facts) (hKernelQkv : Cert.KernelQkv.Facts) (hKernelQkvIdeal : Cert.KernelQkvIdeal.Facts) (hReferenceQkvIdeal : Cert.ReferenceQkvIdeal.Facts) (hKernelIn : Cert.KernelIn.Facts) (hKernelInIdeal : Cert.KernelInIdeal.Facts) (hReferenceInIdeal : Cert.ReferenceInIdeal.Facts) (hKernelPle : Cert.KernelPle.Facts) (hKernelPleIdeal : Cert.KernelPleIdeal.Facts) (hReferencePleIdeal : Cert.ReferencePleIdeal.Facts) (hKernelMid : Cert.KernelMid.Facts) (hKernelMidIdeal : Cert.KernelMidIdeal.Facts) (hReferenceMidIdeal : Cert.ReferenceMidIdeal.Facts) (hKernelRec : Cert.KernelRec.Facts) (hKernelRecIdeal : Cert.KernelRecIdeal.Facts) (hReferenceRecIdeal : Cert.ReferenceRecIdeal.Facts),
    quiescent_Kernel (hKernel := hKernel)
    ∧ quiescent_KernelIdeal (hKernelIdeal := hKernelIdeal)
    ∧ quiescent_ReferenceIdeal (hReferenceIdeal := hReferenceIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelRec (hKernelRec := hKernelRec)
    ∧ quiescent_KernelRecIdeal (hKernelRecIdeal := hKernelRecIdeal)
    ∧ quiescent_ReferenceRecIdeal (hReferenceRecIdeal := hReferenceRecIdeal)
    ∧ preserves_Kernel_KernelIdeal
    ∧ algebraic_KernelIdeal_ReferenceIdeal (hKernelIdeal := hKernelIdeal) (hReferenceIdeal := hReferenceIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelOut_KernelOutIdeal
    ∧ algebraic_KernelOutIdeal_ReferenceOutIdeal (hKernelOutIdeal := hKernelOutIdeal) (hReferenceOutIdeal := hReferenceOutIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelIn_KernelInIdeal
    ∧ algebraic_KernelInIdeal_ReferenceInIdeal (hKernelInIdeal := hKernelInIdeal) (hReferenceInIdeal := hReferenceInIdeal)
    ∧ preserves_KernelPle_KernelPleIdeal
    ∧ algebraic_KernelPleIdeal_ReferencePleIdeal (hKernelPleIdeal := hKernelPleIdeal) (hReferencePleIdeal := hReferencePleIdeal)
    ∧ preserves_KernelMid_KernelMidIdeal
    ∧ algebraic_KernelMidIdeal_ReferenceMidIdeal (hKernelMidIdeal := hKernelMidIdeal) (hReferenceMidIdeal := hReferenceMidIdeal)
    ∧ preserves_KernelRec_KernelRecIdeal
    ∧ algebraic_KernelRecIdeal_ReferenceRecIdeal (hKernelRecIdeal := hKernelRecIdeal) (hReferenceRecIdeal := hReferenceRecIdeal)
-- ==== Kernel.lean ====
abbrev S8192x6144 : Shape := ⟨2, ![8192, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x2048 : Shape := ⟨2, ![8192, 2048]⟩
abbrev S1024x256 : Shape := ⟨2, ![1024, 256]⟩
abbrev S8192x256 : Shape := ⟨2, ![8192, 256]⟩
abbrev S2x1024x128 : Shape := ⟨3, ![2, 1024, 128]⟩
abbrev S2x1024x1 : Shape := ⟨3, ![2, 1024, 1]⟩
abbrev S256x128 : Shape := ⟨2, ![256, 128]⟩
abbrev S1x256x128 : Shape := ⟨3, ![1, 256, 128]⟩
abbrev S1x256x1 : Shape := ⟨3, ![1, 256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S1024x1 : Shape := ⟨2, ![1024, 1]⟩
abbrev S1024x1024 : Shape := ⟨2, ![1024, 1024]⟩
abbrev S1x1024x128 : Shape := ⟨3, ![1, 1024, 128]⟩
abbrev S1x1024x1 : Shape := ⟨3, ![1, 1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S256x256, .bf16⟩
  | .hbm, ⟨10, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .bf16⟩
  | .local _ .vmem, ⟨7, _⟩ => ⟨S1024x256, .bf16⟩
  | .local _ .vmem, ⟨8, _⟩ => ⟨S1024x256, .bf16⟩
  | .local _ .vmem, ⟨9, _⟩ => ⟨S2x1024x128, .f32⟩
  | .local _ .vmem, ⟨10, _⟩ => ⟨S2x1024x1, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c4_i32 : BitVec 32 := 4#32
  let arg1 : BitVec 32 := BitVec.ofNat 32 (i 1).val
  let v13 : BitVec 32 := Scalar.muli c4_i32 arg1
  let c0_i32 : BitVec 32 := 0#32
  let v14 : BitVec 32 := Scalar.addi v13 c0_i32
  let c0_i32_8 : BitVec 32 := 0#32
  let v15 : BitVec 32 := Scalar.subi v14 c0_i32_8
  let c256_i32 : BitVec 32 := 256#32
  let v17 : BitVec 32 := Scalar.muli v15 c256_i32
  v17
def k0_off1 (i : grid0.Coords) (c0_i32 : BitVec 32) (c0_i32_8 : BitVec 32) : Fin 2 → Nat :=
  let c4_i32 : BitVec 32 := 4#32
  let arg1 : BitVec 32 := BitVec.ofNat 32 (i 1).val
  let v13 : BitVec 32 := Scalar.muli c4_i32 arg1
  let v14 : BitVec 32 := Scalar.addi v13 c0_i32
  let v15 : BitVec 32 := Scalar.subi v14 c0_i32_8
  let c256_i32 : BitVec 32 := 256#32
  let v17 : BitVec 32 := Scalar.muli v15 c256_i32
  let v18 : BitVec 32 := v17
  let v19 : Index := Scalar.indexCast v18
  let c0_11 : Index := 0#32
  ![v19.toNat, 0]
def k0_off1_at (r : Fin 10) : BitVec 32 × BitVec 32 :=
  if r.val < 5 then
    if r.val < 2 then
      if r.val < 1 then
        (0#32, 0#32)
      else
        (1#32, 0#32)
    else
      if r.val < 3 then
        (1#32, 1#32)
      else
        if r.val < 4 then
          (2#32, 0#32)
        else
          (2#32, 1#32)
  else
    if r.val < 7 then
      if r.val < 6 then
        (2#32, 2#32)
      else
        (3#32, 0#32)
    else
      if r.val < 8 then
        (3#32, 1#32)
      else
        if r.val < 9 then
          (3#32, 2#32)
        else
          (3#32, 3#32)
def k0_mult2 (i : grid0.Coords) : BitVec 32 :=
  let c4_i32 : BitVec 32 := 4#32
  let arg1 : BitVec 32 := BitVec.ofNat 32 (i 1).val
  let v13 : BitVec 32 := Scalar.muli c4_i32 arg1
  let c0_i32 : BitVec 32 := 0#32
  let v14 : BitVec 32 := Scalar.addi v13 c0_i32
  let c0_i32_8 : BitVec 32 := 0#32
  let v15 : BitVec 32 := Scalar.subi v14 c0_i32_8
  let c256_i32_14 : BitVec 32 := 256#32
  let v23 : BitVec 32 := Scalar.muli v15 c256_i32_14
  v23
def k0_off2 (i : grid0.Coords) (c0_i32 : BitVec 32) (c0_i32_8 : BitVec 32) : Fin 2 → Nat :=
  let c4_i32 : BitVec 32 := 4#32
  let arg1 : BitVec 32 := BitVec.ofNat 32 (i 1).val
  let v13 : BitVec 32 := Scalar.muli c4_i32 arg1
  let v14 : BitVec 32 := Scalar.addi v13 c0_i32
  let v15 : BitVec 32 := Scalar.subi v14 c0_i32_8
  let c256_i32_14 : BitVec 32 := 256#32
  let v23 : BitVec 32 := Scalar.muli v15 c256_i32_14
  let v24 : BitVec 32 := v23
  let v25 : Index := Scalar.indexCast v24
  let c128_15 : Index := 128#32
  ![v25.toNat, 128]
def k0_off2_at (r : Fin 10) : BitVec 32 × BitVec 32 :=
  if r.val < 5 then
    if r.val < 2 then
      if r.val < 1 then
        (0#32, 0#32)
      else
        (1#32, 0#32)
    else
      if r.val < 3 then
        (1#32, 1#32)
      else
        if r.val < 4 then
          (2#32, 0#32)
        else
          (2#32, 1#32)
  else
    if r.val < 7 then
      if r.val < 6 then
        (2#32, 2#32)
      else
        (3#32, 0#32)
    else
      if r.val < 8 then
        (3#32, 1#32)
      else
        if r.val < 9 then
          (3#32, 2#32)
        else
          (3#32, 3#32)
def k0_mult3 (i : grid0.Coords) : BitVec 32 :=
  let c4_i32 : BitVec 32 := 4#32
  let arg1 : BitVec 32 := BitVec.ofNat 32 (i 1).val
  let v13 : BitVec 32 := Scalar.muli c4_i32 arg1
  let c0_i32 : BitVec 32 := 0#32
  let v14 : BitVec 32 := Scalar.addi v13 c0_i32
  let c0_i32_8 : BitVec 32 := 0#32
  let v15 : BitVec 32 := Scalar.subi v14 c0_i32_8
  let c256_i32_29 : BitVec 32 := 256#32
  let v64 : BitVec 32 := Scalar.muli v15 c256_i32_29
  v64
def k0_mult4 (i : grid0.Coords) : BitVec 32 :=
  let c4_i32_65 : BitVec 32 := 4#32
  let arg1 : BitVec 32 := BitVec.ofNat 32 (i 1).val
  let v114 : BitVec 32 := Scalar.muli c4_i32_65 arg1
  let c1_i32 : BitVec 32 := 1#32
  let v115 : BitVec 32 := Scalar.addi v114 c1_i32
  let c0_i32_66 : BitVec 32 := 0#32
  let v116 : BitVec 32 := Scalar.subi v115 c0_i32_66
  let c256_i32_71 : BitVec 32 := 256#32
  let v121 : BitVec 32 := Scalar.muli v116 c256_i32_71
  v121
def k0_mult5 (i : grid0.Coords) : BitVec 32 :=
  let c4_i32_67 : BitVec 32 := 4#32
  let arg1 : BitVec 32 := BitVec.ofNat 32 (i 1).val
  let v117 : BitVec 32 := Scalar.muli c4_i32_67 arg1
  let c1_i32_68 : BitVec 32 := 1#32
  let v118 : BitVec 32 := Scalar.addi v117 c1_i32_68
  let c1_i32_69 : BitVec 32 := 1#32
  let v119 : BitVec 32 := Scalar.subi v118 c1_i32_69
  let c256_i32_76 : BitVec 32 := 256#32
  let v127 : BitVec 32 := Scalar.muli v119 c256_i32_76
  v127
def k0_mult6 (i : grid0.Coords) : BitVec 32 :=
  let c4_i32_65 : BitVec 32 := 4#32
  let arg1 : BitVec 32 := BitVec.ofNat 32 (i 1).val
  let v114 : BitVec 32 := Scalar.muli c4_i32_65 arg1
  let c1_i32 : BitVec 32 := 1#32
  let v115 : BitVec 32 := Scalar.addi v114 c1_i32
  let c0_i32_66 : BitVec 32 := 0#32
  let v116 : BitVec 32 := Scalar.subi v115 c0_i32_66
  let c256_i32_81 : BitVec 32 := 256#32
  let v133 : BitVec 32 := Scalar.muli v116 c256_i32_81
  v133
def k0_mult7 (i : grid0.Coords) : BitVec 32 :=
  let c4_i32_67 : BitVec 32 := 4#32
  let arg1 : BitVec 32 := BitVec.ofNat 32 (i 1).val
  let v117 : BitVec 32 := Scalar.muli c4_i32_67 arg1
  let c1_i32_68 : BitVec 32 := 1#32
  let v118 : BitVec 32 := Scalar.addi v117 c1_i32_68
  let c1_i32_69 : BitVec 32 := 1#32
  let v119 : BitVec 32 := Scalar.subi v118 c1_i32_69
  let c256_i32_86 : BitVec 32 := 256#32
  let v139 : BitVec 32 := Scalar.muli v119 c256_i32_86
  v139
def k0_mult8 (i : grid0.Coords) : BitVec 32 :=
  let c4_i32_67 : BitVec 32 := 4#32
  let arg1 : BitVec 32 := BitVec.ofNat 32 (i 1).val
  let v117 : BitVec 32 := Scalar.muli c4_i32_67 arg1
  let c1_i32_68 : BitVec 32 := 1#32
  let v118 : BitVec 32 := Scalar.addi v117 c1_i32_68
  let c1_i32_69 : BitVec 32 := 1#32
  let v119 : BitVec 32 := Scalar.subi v118 c1_i32_69
  let c256_i32_111 : BitVec 32 := 256#32
  let v218 : BitVec 32 := Scalar.muli v119 c256_i32_111
  v218
def k0_off3 (i : grid0.Coords) : Fin 2 → Nat :=
  let c4_i32_67 : BitVec 32 := 4#32
  let arg1 : BitVec 32 := BitVec.ofNat 32 (i 1).val
  let v117 : BitVec 32 := Scalar.muli c4_i32_67 arg1
  let c1_i32_68 : BitVec 32 := 1#32
  let v118 : BitVec 32 := Scalar.addi v117 c1_i32_68
  let c1_i32_69 : BitVec 32 := 1#32
  let v119 : BitVec 32 := Scalar.subi v118 c1_i32_69
  let c256_i32_111 : BitVec 32 := 256#32
  let v218 : BitVec 32 := Scalar.muli v119 c256_i32_111
  let v219 : BitVec 32 := v218
  let v227 : Index := Scalar.indexCast v219
  let c0_113 : Index := 0#32
  ![v227.toNat, 0]
def k0_off4 (i : grid0.Coords) : Fin 2 → Nat :=
  let c4_i32_67 : BitVec 32 := 4#32
  let arg1 : BitVec 32 := BitVec.ofNat 32 (i 1).val
  let v117 : BitVec 32 := Scalar.muli c4_i32_67 arg1
  let c1_i32_68 : BitVec 32 := 1#32
  let v118 : BitVec 32 := Scalar.addi v117 c1_i32_68
  let c1_i32_69 : BitVec 32 := 1#32
  let v119 : BitVec 32 := Scalar.subi v118 c1_i32_69
  let c256_i32_111 : BitVec 32 := 256#32
  let v218 : BitVec 32 := Scalar.muli v119 c256_i32_111
  let v219 : BitVec 32 := v218
  let v254 : Index := Scalar.indexCast v219
  let c128_131 : Index := 128#32
  ![v254.toNat, 128]
def k0_mult9 (i : grid0.Coords) : BitVec 32 :=
  let c4_i32_148 : BitVec 32 := 4#32
  let arg1 : BitVec 32 := BitVec.ofNat 32 (i 1).val
  let v274 : BitVec 32 := Scalar.muli c4_i32_148 arg1
  let c2_i32 : BitVec 32 := 2#32
  let v275 : BitVec 32 := Scalar.addi v274 c2_i32
  let c0_i32_149 : BitVec 32 := 0#32
  let v276 : BitVec 32 := Scalar.subi v275 c0_i32_149
  let c256_i32_157 : BitVec 32 := 256#32
  let v284 : BitVec 32 := Scalar.muli v276 c256_i32_157
  v284
def k0_mult10 (i : grid0.Coords) : BitVec 32 :=
  let c4_i32_150 : BitVec 32 := 4#32
  let arg1 : BitVec 32 := BitVec.ofNat 32 (i 1).val
  let v277 : BitVec 32 := Scalar.muli c4_i32_150 arg1
  let c2_i32_151 : BitVec 32 := 2#32
  let v278 : BitVec 32 := Scalar.addi v277 c2_i32_151
  let c1_i32_152 : BitVec 32 := 1#32
  let v279 : BitVec 32 := Scalar.subi v278 c1_i32_152
  let c256_i32_162 : BitVec 32 := 256#32
  let v290 : BitVec 32 := Scalar.muli v279 c256_i32_162
  v290
def k0_mult11 (i : grid0.Coords) : BitVec 32 :=
  let c4_i32_153 : BitVec 32 := 4#32
  let arg1 : BitVec 32 := BitVec.ofNat 32 (i 1).val
  let v280 : BitVec 32 := Scalar.muli c4_i32_153 arg1
  let c2_i32_154 : BitVec 32 := 2#32
  let v281 : BitVec 32 := Scalar.addi v280 c2_i32_154
  let c2_i32_155 : BitVec 32 := 2#32
  let v282 : BitVec 32 := Scalar.subi v281 c2_i32_155
  let c256_i32_167 : BitVec 32 := 256#32
  let v296 : BitVec 32 := Scalar.muli v282 c256_i32_167
  v296
def k0_mult12 (i : grid0.Coords) : BitVec 32 :=
  let c4_i32_148 : BitVec 32 := 4#32
  let arg1 : BitVec 32 := BitVec.ofNat 32 (i 1).val
  let v274 : BitVec 32 := Scalar.muli c4_i32_148 arg1
  let c2_i32 : BitVec 32 := 2#32
  let v275 : BitVec 32 := Scalar.addi v274 c2_i32
  let c0_i32_149 : BitVec 32 := 0#32
  let v276 : BitVec 32 := Scalar.subi v275 c0_i32_149
  let c256_i32_172 : BitVec 32 := 256#32
  let v302 : BitVec 32 := Scalar.muli v276 c256_i32_172
  v302
def k0_mult13 (i : grid0.Coords) : BitVec 32 :=
  let c4_i32_150 : BitVec 32 := 4#32
  let arg1 : BitVec 32 := BitVec.ofNat 32 (i 1).val
  let v277 : BitVec 32 := Scalar.muli c4_i32_150 arg1
  let c2_i32_151 : BitVec 32 := 2#32
  let v278 : BitVec 32 := Scalar.addi v277 c2_i32_151
  let c1_i32_152 : BitVec 32 := 1#32
  let v279 : BitVec 32 := Scalar.subi v278 c1_i32_152
  let c256_i32_177 : BitVec 32 := 256#32
  let v308 : BitVec 32 := Scalar.muli v279 c256_i32_177
  v308
def k0_mult14 (i : grid0.Coords) : BitVec 32 :=
  let c4_i32_153 : BitVec 32 := 4#32
  let arg1 : BitVec 32 := BitVec.ofNat 32 (i 1).val
  let v280 : BitVec 32 := Scalar.muli c4_i32_153 arg1
  let c2_i32_154 : BitVec 32 := 2#32
  let v281 : BitVec 32 := Scalar.addi v280 c2_i32_154
  let c2_i32_155 : BitVec 32 := 2#32
  let v282 : BitVec 32 := Scalar.subi v281 c2_i32_155
  let c256_i32_182 : BitVec 32 := 256#32
  let v314 : BitVec 32 := Scalar.muli v282 c256_i32_182
  v314
def k0_mult15 (i : grid0.Coords) : BitVec 32 :=
  let c4_i32_153 : BitVec 32 := 4#32
  let arg1 : BitVec 32 := BitVec.ofNat 32 (i 1).val
  let v280 : BitVec 32 := Scalar.muli c4_i32_153 arg1
  let c2_i32_154 : BitVec 32 := 2#32
  let v281 : BitVec 32 := Scalar.addi v280 c2_i32_154
  let c2_i32_155 : BitVec 32 := 2#32
  let v282 : BitVec 32 := Scalar.subi v281 c2_i32_155
  let c256_i32_217 : BitVec 32 := 256#32
  let v431 : BitVec 32 := Scalar.muli v282 c256_i32_217
  v431
def k0_off5 (i : grid0.Coords) : Fin 2 → Nat :=
  let c4_i32_153 : BitVec 32 := 4#32
  let arg1 : BitVec 32 := BitVec.ofNat 32 (i 1).val
  let v280 : BitVec 32 := Scalar.muli c4_i32_153 arg1
  let c2_i32_154 : BitVec 32 := 2#32
  let v281 : BitVec 32 := Scalar.addi v280 c2_i32_154
  let c2_i32_155 : BitVec 32 := 2#32
  let v282 : BitVec 32 := Scalar.subi v281 c2_i32_155
  let c256_i32_217 : BitVec 32 := 256#32
  let v431 : BitVec 32 := Scalar.muli v282 c256_i32_217
  let v432 : BitVec 32 := v431
  let v442 : Index := Scalar.indexCast v432
  let c0_219 : Index := 0#32
  ![v442.toNat, 0]
def k0_off6 (i : grid0.Coords) : Fin 2 → Nat :=
  let c4_i32_153 : BitVec 32 := 4#32
  let arg1 : BitVec 32 := BitVec.ofNat 32 (i 1).val
  let v280 : BitVec 32 := Scalar.muli c4_i32_153 arg1
  let c2_i32_154 : BitVec 32 := 2#32
  let v281 : BitVec 32 := Scalar.addi v280 c2_i32_154
  let c2_i32_155 : BitVec 32 := 2#32
  let v282 : BitVec 32 := Scalar.subi v281 c2_i32_155
  let c256_i32_217 : BitVec 32 := 256#32
  let v431 : BitVec 32 := Scalar.muli v282 c256_i32_217
  let v432 : BitVec 32 := v431
  let v471 : Index := Scalar.indexCast v432
  let c128_237 : Index := 128#32
  ![v471.toNat, 128]
def k0_mult16 (i : grid0.Coords) : BitVec 32 :=
  let c4_i32_254 : BitVec 32 := 4#32
  let arg1 : BitVec 32 := BitVec.ofNat 32 (i 1).val
  let v491 : BitVec 32 := Scalar.muli c4_i32_254 arg1
  let c3_i32 : BitVec 32 := 3#32
  let v492 : BitVec 32 := Scalar.addi v491 c3_i32
  let c0_i32_255 : BitVec 32 := 0#32
  let v493 : BitVec 32 := Scalar.subi v492 c0_i32_255
  let c256_i32_266 : BitVec 32 := 256#32
  let v504 : BitVec 32 := Scalar.muli v493 c256_i32_266
  v504
def k0_mult17 (i : grid0.Coords) : BitVec 32 :=
  let c4_i32_256 : BitVec 32 := 4#32
  let arg1 : BitVec 32 := BitVec.ofNat 32 (i 1).val
  let v494 : BitVec 32 := Scalar.muli c4_i32_256 arg1
  let c3_i32_257 : BitVec 32 := 3#32
  let v495 : BitVec 32 := Scalar.addi v494 c3_i32_257
  let c1_i32_258 : BitVec 32 := 1#32
  let v496 : BitVec 32 := Scalar.subi v495 c1_i32_258
  let c256_i32_271 : BitVec 32 := 256#32
  let v510 : BitVec 32 := Scalar.muli v496 c256_i32_271
  v510
def k0_mult18 (i : grid0.Coords) : BitVec 32 :=
  let c4_i32_259 : BitVec 32 := 4#32
  let arg1 : BitVec 32 := BitVec.ofNat 32 (i 1).val
  let v497 : BitVec 32 := Scalar.muli c4_i32_259 arg1
  let c3_i32_260 : BitVec 32 := 3#32
  let v498 : BitVec 32 := Scalar.addi v497 c3_i32_260
  let c2_i32_261 : BitVec 32 := 2#32
  let v499 : BitVec 32 := Scalar.subi v498 c2_i32_261
  let c256_i32_276 : BitVec 32 := 256#32
  let v516 : BitVec 32 := Scalar.muli v499 c256_i32_276
  v516
def k0_mult19 (i : grid0.Coords) : BitVec 32 :=
  let c4_i32_262 : BitVec 32 := 4#32
  let arg1 : BitVec 32 := BitVec.ofNat 32 (i 1).val
  let v500 : BitVec 32 := Scalar.muli c4_i32_262 arg1
  let c3_i32_263 : BitVec 32 := 3#32
  let v501 : BitVec 32 := Scalar.addi v500 c3_i32_263
  let c3_i32_264 : BitVec 32 := 3#32
  let v502 : BitVec 32 := Scalar.subi v501 c3_i32_264
  let c256_i32_281 : BitVec 32 := 256#32
  let v522 : BitVec 32 := Scalar.muli v502 c256_i32_281
  v522
def k0_mult20 (i : grid0.Coords) : BitVec 32 :=
  let c4_i32_254 : BitVec 32 := 4#32
  let arg1 : BitVec 32 := BitVec.ofNat 32 (i 1).val
  let v491 : BitVec 32 := Scalar.muli c4_i32_254 arg1
  let c3_i32 : BitVec 32 := 3#32
  let v492 : BitVec 32 := Scalar.addi v491 c3_i32
  let c0_i32_255 : BitVec 32 := 0#32
  let v493 : BitVec 32 := Scalar.subi v492 c0_i32_255
  let c256_i32_286 : BitVec 32 := 256#32
  let v528 : BitVec 32 := Scalar.muli v493 c256_i32_286
  v528
def k0_mult21 (i : grid0.Coords) : BitVec 32 :=
  let c4_i32_256 : BitVec 32 := 4#32
  let arg1 : BitVec 32 := BitVec.ofNat 32 (i 1).val
  let v494 : BitVec 32 := Scalar.muli c4_i32_256 arg1
  let c3_i32_257 : BitVec 32 := 3#32
  let v495 : BitVec 32 := Scalar.addi v494 c3_i32_257
  let c1_i32_258 : BitVec 32 := 1#32
  let v496 : BitVec 32 := Scalar.subi v495 c1_i32_258
  let c256_i32_291 : BitVec 32 := 256#32
  let v534 : BitVec 32 := Scalar.muli v496 c256_i32_291
  v534
def k0_mult22 (i : grid0.Coords) : BitVec 32 :=
  let c4_i32_259 : BitVec 32 := 4#32
  let arg1 : BitVec 32 := BitVec.ofNat 32 (i 1).val
  let v497 : BitVec 32 := Scalar.muli c4_i32_259 arg1
  let c3_i32_260 : BitVec 32 := 3#32
  let v498 : BitVec 32 := Scalar.addi v497 c3_i32_260
  let c2_i32_261 : BitVec 32 := 2#32
  let v499 : BitVec 32 := Scalar.subi v498 c2_i32_261
  let c256_i32_296 : BitVec 32 := 256#32
  let v540 : BitVec 32 := Scalar.muli v499 c256_i32_296
  v540
def k0_mult23 (i : grid0.Coords) : BitVec 32 :=
  let c4_i32_262 : BitVec 32 := 4#32
  let arg1 : BitVec 32 := BitVec.ofNat 32 (i 1).val
  let v500 : BitVec 32 := Scalar.muli c4_i32_262 arg1
  let c3_i32_263 : BitVec 32 := 3#32
  let v501 : BitVec 32 := Scalar.addi v500 c3_i32_263
  let c3_i32_264 : BitVec 32 := 3#32
  let v502 : BitVec 32 := Scalar.subi v501 c3_i32_264
  let c256_i32_301 : BitVec 32 := 256#32
  let v546 : BitVec 32 := Scalar.muli v502 c256_i32_301
  v546
def k0_mult24 (i : grid0.Coords) : BitVec 32 :=
  let c4_i32_262 : BitVec 32 := 4#32
  let arg1 : BitVec 32 := BitVec.ofNat 32 (i 1).val
  let v500 : BitVec 32 := Scalar.muli c4_i32_262 arg1
  let c3_i32_263 : BitVec 32 := 3#32
  let v501 : BitVec 32 := Scalar.addi v500 c3_i32_263
  let c3_i32_264 : BitVec 32 := 3#32
  let v502 : BitVec 32 := Scalar.subi v501 c3_i32_264
  let c256_i32_346 : BitVec 32 := 256#32
  let v701 : BitVec 32 := Scalar.muli v502 c256_i32_346
  v701
def k0_off7 (i : grid0.Coords) : Fin 2 → Nat :=
  let c4_i32_262 : BitVec 32 := 4#32
  let arg1 : BitVec 32 := BitVec.ofNat 32 (i 1).val
  let v500 : BitVec 32 := Scalar.muli c4_i32_262 arg1
  let c3_i32_263 : BitVec 32 := 3#32
  let v501 : BitVec 32 := Scalar.addi v500 c3_i32_263
  let c3_i32_264 : BitVec 32 := 3#32
  let v502 : BitVec 32 := Scalar.subi v501 c3_i32_264
  let c256_i32_346 : BitVec 32 := 256#32
  let v701 : BitVec 32 := Scalar.muli v502 c256_i32_346
  let v702 : BitVec 32 := v701
  let v714 : Index := Scalar.indexCast v702
  let c0_348 : Index := 0#32
  ![v714.toNat, 0]
def k0_off8 (i : grid0.Coords) : Fin 2 → Nat :=
  let c4_i32_262 : BitVec 32 := 4#32
  let arg1 : BitVec 32 := BitVec.ofNat 32 (i 1).val
  let v500 : BitVec 32 := Scalar.muli c4_i32_262 arg1
  let c3_i32_263 : BitVec 32 := 3#32
  let v501 : BitVec 32 := Scalar.addi v500 c3_i32_263
  let c3_i32_264 : BitVec 32 := 3#32
  let v502 : BitVec 32 := Scalar.subi v501 c3_i32_264
  let c256_i32_346 : BitVec 32 := 256#32
  let v701 : BitVec 32 := Scalar.muli v502 c256_i32_346
  let v702 : BitVec 32 := v701
  let v745 : Index := Scalar.indexCast v702
  let c128_366 : Index := 128#32
  ![v745.toNat, 128]
@[reducible] def k0_t1_loop (i : grid0.Coords) : Scf.Loop 32 :=
  let c0_i32_383 : BitVec 32 := 0#32
  let arg1 : BitVec 32 := BitVec.ofNat 32 (i 1).val
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_386 : BitVec 32 := 1#32
  ⟨c0_i32_383, v769, c1_i32_386⟩
def k0_mult25 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c0_i32_400 : BitVec 32 := 0#32
  let v783 : BitVec 32 := Scalar.subi v782 c0_i32_400
  let c256_i32_406 : BitVec 32 := 256#32
  let v788 : BitVec 32 := Scalar.muli v783 c256_i32_406
  v788
def k0_off9 (i : grid0.Coords) (k0_t1 : Fin (k0_t1_loop i).trips) (c0_i32_400 : BitVec 32) : Fin 2 → Nat :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let v783 : BitVec 32 := Scalar.subi v782 c0_i32_400
  let c256_i32_406 : BitVec 32 := 256#32
  let v788 : BitVec 32 := Scalar.muli v783 c256_i32_406
  let v789 : BitVec 32 := v788
  let v790 : Index := Scalar.indexCast v789
  let c0_407 : Index := 0#32
  ![v790.toNat, 0]
def k0_mult26 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c1_i32_401 : BitVec 32 := 1#32
  let v784 : BitVec 32 := Scalar.subi v782 c1_i32_401
  let c256_i32_411 : BitVec 32 := 256#32
  let v794 : BitVec 32 := Scalar.muli v784 c256_i32_411
  v794
def k0_mult27 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c2_i32_402 : BitVec 32 := 2#32
  let v785 : BitVec 32 := Scalar.subi v782 c2_i32_402
  let c256_i32_416 : BitVec 32 := 256#32
  let v800 : BitVec 32 := Scalar.muli v785 c256_i32_416
  v800
def k0_mult28 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_421 : BitVec 32 := 256#32
  let v806 : BitVec 32 := Scalar.muli v786 c256_i32_421
  v806
def k0_mult29 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c0_i32_400 : BitVec 32 := 0#32
  let v783 : BitVec 32 := Scalar.subi v782 c0_i32_400
  let c256_i32_426 : BitVec 32 := 256#32
  let v812 : BitVec 32 := Scalar.muli v783 c256_i32_426
  v812
def k0_off10 (i : grid0.Coords) (k0_t1 : Fin (k0_t1_loop i).trips) (c0_i32_400 : BitVec 32) : Fin 2 → Nat :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let v783 : BitVec 32 := Scalar.subi v782 c0_i32_400
  let c256_i32_426 : BitVec 32 := 256#32
  let v812 : BitVec 32 := Scalar.muli v783 c256_i32_426
  let v813 : BitVec 32 := v812
  let v814 : Index := Scalar.indexCast v813
  let c128_427 : Index := 128#32
  ![v814.toNat, 128]
def k0_mult30 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c1_i32_401 : BitVec 32 := 1#32
  let v784 : BitVec 32 := Scalar.subi v782 c1_i32_401
  let c256_i32_431 : BitVec 32 := 256#32
  let v818 : BitVec 32 := Scalar.muli v784 c256_i32_431
  v818
def k0_mult31 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c2_i32_402 : BitVec 32 := 2#32
  let v785 : BitVec 32 := Scalar.subi v782 c2_i32_402
  let c256_i32_436 : BitVec 32 := 256#32
  let v824 : BitVec 32 := Scalar.muli v785 c256_i32_436
  v824
def k0_mult32 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_441 : BitVec 32 := 256#32
  let v830 : BitVec 32 := Scalar.muli v786 c256_i32_441
  v830
def k0_mult33 (i : grid0.Coords) (k0_t1 : Fin (k0_t1_loop i).trips) : BitVec 32 :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  v981
def k0_off11 (i : grid0.Coords) (k0_t1 : Fin (k0_t1_loop i).trips) : Fin 2 → Nat :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  let v982 : BitVec 32 := v981
  let v992 : Index := Scalar.indexCast v982
  let c0_485 : Index := 0#32
  ![v992.toNat, 0]
def k0_off12 (i : grid0.Coords) (k0_t1 : Fin (k0_t1_loop i).trips) : Fin 2 → Nat :=
  let c4_i32_398 : BitVec 32 := 4#32
  let arg1 : BitVec 32 := BitVec.ofNat 32 (i 1).val
  let c0_i32_383 : BitVec 32 := 0#32
  let c1_i32_386 : BitVec 32 := 1#32
  let arg9 : BitVec 32 := Scf.iv c0_i32_383 c1_i32_386 k0_t1
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  let v982 : BitVec 32 := v981
  let v1021 : Index := Scalar.indexCast v982
  let c128_502 : Index := 128#32
  ![v1021.toNat, 128]
@[reducible] def k0_t2_loop (i : grid0.Coords) : Scf.Loop 32 :=
  let c0_i32_383 : BitVec 32 := 0#32
  let arg1 : BitVec 32 := BitVec.ofNat 32 (i 1).val
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let v766 : BitVec 32 := Scalar.addi c0_i32_383 v765
  let c1_i32_387 : BitVec 32 := 1#32
  ⟨v769, v766, c1_i32_387⟩
def k0_mult34 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c0_i32_400 : BitVec 32 := 0#32
  let v783 : BitVec 32 := Scalar.subi v782 c0_i32_400
  let c256_i32_406 : BitVec 32 := 256#32
  let v788 : BitVec 32 := Scalar.muli v783 c256_i32_406
  v788
def k0_off13 (i : grid0.Coords) (k0_t2 : Fin (k0_t2_loop i).trips) (c0_i32_400 : BitVec 32) : Fin 2 → Nat :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let v783 : BitVec 32 := Scalar.subi v782 c0_i32_400
  let c256_i32_406 : BitVec 32 := 256#32
  let v788 : BitVec 32 := Scalar.muli v783 c256_i32_406
  let v789 : BitVec 32 := v788
  let v790 : Index := Scalar.indexCast v789
  let c0_407 : Index := 0#32
  ![v790.toNat, 0]
def k0_mult35 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c1_i32_401 : BitVec 32 := 1#32
  let v784 : BitVec 32 := Scalar.subi v782 c1_i32_401
  let c256_i32_411 : BitVec 32 := 256#32
  let v794 : BitVec 32 := Scalar.muli v784 c256_i32_411
  v794
def k0_mult36 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c2_i32_402 : BitVec 32 := 2#32
  let v785 : BitVec 32 := Scalar.subi v782 c2_i32_402
  let c256_i32_416 : BitVec 32 := 256#32
  let v800 : BitVec 32 := Scalar.muli v785 c256_i32_416
  v800
def k0_mult37 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_421 : BitVec 32 := 256#32
  let v806 : BitVec 32 := Scalar.muli v786 c256_i32_421
  v806
def k0_mult38 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c0_i32_400 : BitVec 32 := 0#32
  let v783 : BitVec 32 := Scalar.subi v782 c0_i32_400
  let c256_i32_426 : BitVec 32 := 256#32
  let v812 : BitVec 32 := Scalar.muli v783 c256_i32_426
  v812
def k0_off14 (i : grid0.Coords) (k0_t2 : Fin (k0_t2_loop i).trips) (c0_i32_400 : BitVec 32) : Fin 2 → Nat :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let v783 : BitVec 32 := Scalar.subi v782 c0_i32_400
  let c256_i32_426 : BitVec 32 := 256#32
  let v812 : BitVec 32 := Scalar.muli v783 c256_i32_426
  let v813 : BitVec 32 := v812
  let v814 : Index := Scalar.indexCast v813
  let c128_427 : Index := 128#32
  ![v814.toNat, 128]
def k0_mult39 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c1_i32_401 : BitVec 32 := 1#32
  let v784 : BitVec 32 := Scalar.subi v782 c1_i32_401
  let c256_i32_431 : BitVec 32 := 256#32
  let v818 : BitVec 32 := Scalar.muli v784 c256_i32_431
  v818
def k0_mult40 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c2_i32_402 : BitVec 32 := 2#32
  let v785 : BitVec 32 := Scalar.subi v782 c2_i32_402
  let c256_i32_436 : BitVec 32 := 256#32
  let v824 : BitVec 32 := Scalar.muli v785 c256_i32_436
  v824
def k0_mult41 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_441 : BitVec 32 := 256#32
  let v830 : BitVec 32 := Scalar.muli v786 c256_i32_441
  v830
def k0_mult42 (i : grid0.Coords) (k0_t2 : Fin (k0_t2_loop i).trips) : BitVec 32 :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  v981
def k0_off15 (i : grid0.Coords) (k0_t2 : Fin (k0_t2_loop i).trips) : Fin 2 → Nat :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  let v982 : BitVec 32 := v981
  let v992 : Index := Scalar.indexCast v982
  let c0_485 : Index := 0#32
  ![v992.toNat, 0]
def k0_off16 (i : grid0.Coords) (k0_t2 : Fin (k0_t2_loop i).trips) : Fin 2 → Nat :=
  let c4_i32_398 : BitVec 32 := 4#32
  let arg1 : BitVec 32 := BitVec.ofNat 32 (i 1).val
  let c0_i32_383 : BitVec 32 := 0#32
  let v765 : BitVec 32 := Scalar.subi arg1 c0_i32_383
  let c1_i32_385 : BitVec 32 := 1#32
  let v767 : BitVec 32 := Scalar.divsi v765 c1_i32_385
  let v768 : BitVec 32 := Scalar.muli v767 c1_i32_385
  let v769 : BitVec 32 := Scalar.addi c0_i32_383 v768
  let c1_i32_387 : BitVec 32 := 1#32
  let arg9 : BitVec 32 := Scf.iv v769 c1_i32_387 k0_t2
  let v780 : BitVec 32 := Scalar.subi arg1 arg9
  let v781 : BitVec 32 := Scalar.muli c4_i32_398 v780
  let c1_i32_399 : BitVec 32 := 1#32
  let v782 : BitVec 32 := Scalar.subi v781 c1_i32_399
  let c3_i32_403 : BitVec 32 := 3#32
  let v786 : BitVec 32 := Scalar.subi v782 c3_i32_403
  let c256_i32_484 : BitVec 32 := 256#32
  let v981 : BitVec 32 := Scalar.muli v786 c256_i32_484
  let v982 : BitVec 32 := v981
  let v1021 : Index := Scalar.indexCast v982
  let c128_502 : Index := 128#32
  ![v1021.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x16x128, .f32⟩
  | .hbm, ⟨6, _⟩ => ⟨S16x8192x128, .f32⟩
  | .hbm, ⟨7, _⟩ => ⟨S8192x16x128, .f32⟩
  | .hbm, ⟨8, _⟩ => ⟨S16x8192x128, .f32⟩
  | .hbm, ⟨9, _⟩ => ⟨S8192x16x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S_, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .i1⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S_, .f32⟩
  | .hbm, ⟨66, _⟩ => ⟨S16x8192x8192, .i1⟩
  | .hbm, ⟨67, _⟩ => ⟨S16x8192x8192, .f32⟩
  | .hbm, ⟨68, _⟩ => ⟨S16x8192x8192, .f32⟩
  | .hbm, ⟨69, _⟩ => ⟨S16x8192x128, .f32⟩
  | .hbm, ⟨70, _⟩ => ⟨S8192x16x128, .f32⟩
  | .hbm, ⟨71, _⟩ => ⟨S8192x2048, .f32⟩
  | .hbm, ⟨72, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]
-- ==== KernelMlp.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMlpIdeal.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x8192, .f32⟩
  | .hbm, ⟨21, _⟩ => ⟨S2048x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S1x8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelOut.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkv.lean ====
abbrev S8192x2048 : Shape := ⟨2, ![8192, 2048]⟩
abbrev S2048 : Shape := ⟨1, ![2048]⟩
abbrev S2x2048x6144 : Shape := ⟨3, ![2, 2048, 6144]⟩
abbrev S6144 : Shape := ⟨1, ![6144]⟩
abbrev S1x2048 : Shape := ⟨2, ![1, 2048]⟩
abbrev S1x6144 : Shape := ⟨2, ![1, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6144, .f32⟩
  | .hbm, ⟨3, _⟩ => ⟨S6144, .f32⟩
  | .hbm, ⟨4, _⟩ => ⟨S2x2048x6144, .bf16⟩
  | .hbm, ⟨5, _⟩ => ⟨S1x2048, .f32⟩
  | .hbm, ⟨6, _⟩ => ⟨S1x6144, .f32⟩
  | .hbm, ⟨7, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQkvIdeal.lean ====
abbrev S8192x2048 : Shape := ⟨2, ![8192, 2048]⟩
abbrev S2048 : Shape := ⟨1, ![2048]⟩
abbrev S2x2048x6144 : Shape := ⟨3, ![2, 2048, 6144]⟩
abbrev S6144 : Shape := ⟨1, ![6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6144 : Shape := ⟨3, ![1, 2048, 6144]⟩
abbrev S2048x6144 : Shape := ⟨2, ![2048, 6144]⟩
abbrev S8192x6144 : Shape := ⟨2, ![8192, 6144]⟩
abbrev S1x6144 : Shape := ⟨2, ![1, 6144]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6144, .f32⟩
  | .hbm, ⟨3, _⟩ => ⟨S6144, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x6144, .f32⟩
  | .hbm, ⟨21, _⟩ => ⟨S2048x6144, .f32⟩
  | .hbm, ⟨22, _⟩ => ⟨S8192x6144, .f32⟩
  | .hbm, ⟨23, _⟩ => ⟨S1x6144, .f32⟩
  | .hbm, ⟨24, _⟩ => ⟨S8192x6144, .f32⟩
  | .hbm, ⟨25, _⟩ => ⟨S8192x6144, .f32⟩
  | .hbm, ⟨26, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelIn.lean ====
abbrev S8192x2048 : Shape := ⟨2, ![8192, 2048]⟩
abbrev S2048 : Shape := ⟨1, ![2048]⟩
abbrev S2x2048x4096 : Shape := ⟨3, ![2, 2048, 4096]⟩
abbrev S1x2048 : Shape := ⟨2, ![1, 2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x4096, .f32⟩
  | .hbm, ⟨3, _⟩ => ⟨S2x2048x4096, .bf16⟩
  | .hbm, ⟨4, _⟩ => ⟨S1x2048, .f32⟩
  | .hbm, ⟨5, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S8192x2048 : Shape := ⟨2, ![8192, 2048]⟩
abbrev S2048 : Shape := ⟨1, ![2048]⟩
abbrev S2x2048x4096 : Shape := ⟨3, ![2, 2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x4096, .f32⟩
  | .hbm, ⟨20, _⟩ => ⟨S2048x4096, .f32⟩
  | .hbm, ⟨21, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelPle.lean ====
abbrev S8192x2048 : Shape := ⟨2, ![8192, 2048]⟩
abbrev S2048 : Shape := ⟨1, ![2048]⟩
abbrev S4x2048x2048 : Shape := ⟨3, ![4, 2048, 2048]⟩
abbrev S4x1x8192x256 : Shape := ⟨4, ![4, 1, 8192, 256]⟩
abbrev S4x256x2048 : Shape := ⟨3, ![4, 256, 2048]⟩
abbrev S1x2048 : Shape := ⟨2, ![1, 2048]⟩
abbrev S256x2048 : Shape := ⟨2, ![256, 2048]⟩
abbrev S1x2048x2048 : Shape := ⟨3, ![1, 2048, 2048]⟩
abbrev S1x1x256x256 : Shape := ⟨4, ![1, 1, 256, 256]⟩
abbrev S1x256x2048 : Shape := ⟨3, ![1, 256, 2048]⟩
abbrev S256 : Shape := ⟨1, ![256]⟩
abbrev S256x1 : Shape := ⟨2, ![256, 1]⟩
abbrev S256x256 : Shape := ⟨2, ![256, 256]⟩
abbrev S1x2048x1024 : Shape := ⟨3, ![1, 2048, 1024]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x1x8192x256, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x1x256x256, .f32⟩
  | .local _ .vmem, ⟨5, _⟩ => ⟨S1x1x256x256, .f32⟩
  | .local _ .vmem, ⟨6, _⟩ => ⟨S1x256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePleIdeal.lean ====
abbrev S8192x2048 : Shape := ⟨2, ![8192, 2048]⟩
abbrev S2048 : Shape := ⟨1, ![2048]⟩
abbrev S4x2048x2048 : Shape := ⟨3, ![4, 2048, 2048]⟩
abbrev S4x1x8192x256 : Shape := ⟨4, ![4, 1, 8192, 256]⟩
abbrev S4x256x2048 : Shape := ⟨3, ![4, 256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x1x8192x256, .f32⟩
  | .hbm, ⟨4, _⟩ => ⟨S4x256x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x2048, .f32⟩
  | .hbm, ⟨23, _⟩ => ⟨S2048x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S1x1x8192x256, .f32⟩
  | .hbm, ⟨34, _⟩ => ⟨S8192x256, .f32⟩
  | .hbm, ⟨35, _⟩ => ⟨S1x256x2048, .f32⟩
  | .hbm, ⟨36, _⟩ => ⟨S256x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelMid.lean ====
abbrev S8192x2048 : Shape := ⟨2, ![8192, 2048]⟩
abbrev S2048 : Shape := ⟨1, ![2048]⟩
abbrev S4x2048x2048 : Shape := ⟨3, ![4, 2048, 2048]⟩
abbrev S4x1x8192x256 : Shape := ⟨4, ![4, 1, 8192, 256]⟩
abbrev S4x256x2048 : Shape := ⟨3, ![4, 256, 2048]⟩
abbrev S1x2048 : Shape := ⟨2, ![1, 2048]⟩
abbrev S256x2048 : Shape := ⟨2, ![256, 2048]⟩
abbrev S1x2048x2048 : Shape := ⟨3, ![1, 2048, 2048]⟩
abbrev S1x1x256x256 : Shape := ⟨4, ![1, 1, 256, 256]⟩
abbrev S1x256x2048 : Shape := ⟨3, ![1, 256, 2048]⟩
abbrev S256 : Shape := ⟨1, ![256]⟩
abbrev S256x1 : Shape := ⟨2, ![256, 1]⟩
abbrev S256x256 : Shape := ⟨2, ![256, 256]⟩
abbrev S1x2048x1024 : Shape := ⟨3, ![1, 2048, 1024]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x1x8192x256, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x1x256x256, .f32⟩
  | .local _ .vmem, ⟨5, _⟩ => ⟨S1x1x256x256, .f32⟩
  | .local _ .vmem, ⟨6, _⟩ => ⟨S1x256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMidIdeal.lean ====
abbrev S8192x2048 : Shape := ⟨2, ![8192, 2048]⟩
abbrev S2048 : Shape := ⟨1, ![2048]⟩
abbrev S4x2048x2048 : Shape := ⟨3, ![4, 2048, 2048]⟩
abbrev S4x1x8192x256 : Shape := ⟨4, ![4, 1, 8192, 256]⟩
abbrev S4x256x2048 : Shape := ⟨3, ![4, 256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x1x8192x256, .f32⟩
  | .hbm, ⟨4, _⟩ => ⟨S4x256x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x2048, .f32⟩
  | .hbm, ⟨23, _⟩ => ⟨S2048x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S1x1x8192x256, .f32⟩
  | .hbm, ⟨34, _⟩ => ⟨S8192x256, .f32⟩
  | .hbm, ⟨35, _⟩ => ⟨S1x256x2048, .f32⟩
  | .hbm, ⟨36, _⟩ => ⟨S256x2048, .f32⟩
  | .hbm, ⟨37, _⟩ => ⟨S8192x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelRec.lean ====
abbrev S8192x4096 : Shape := ⟨2, ![8192, 4096]⟩
abbrev S2x31x1024 : Shape := ⟨3, ![2, 31, 1024]⟩
abbrev S2x1024 : Shape := ⟨2, ![2, 1024]⟩
abbrev S2x4x1024 : Shape := ⟨3, ![2, 4, 1024]⟩
abbrev S2x8x128x128 : Shape := ⟨4, ![2, 8, 128, 128]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S1x4x1024 : Shape := ⟨3, ![1, 4, 1024]⟩
abbrev S4x1024 : Shape := ⟨2, ![4, 1024]⟩
abbrev S8192x2048 : Shape := ⟨2, ![8192, 2048]⟩
abbrev S256x4096 : Shape := ⟨2, ![256, 4096]⟩
abbrev S1x8x128x128 : Shape := ⟨4, ![1, 8, 128, 128]⟩
abbrev S256x2048 : Shape := ⟨2, ![256, 2048]⟩
abbrev S288x1024 : Shape := ⟨2, ![288, 1024]⟩
abbrev S256x1024 : Shape := ⟨2, ![256, 1024]⟩
abbrev S264x1024 : Shape := ⟨2, ![264, 1024]⟩
abbrev S32x1024 : Shape := ⟨2, ![32, 1024]⟩
abbrev S8x1024 : Shape := ⟨2, ![8, 1024]⟩
abbrev S288x128 : Shape := ⟨2, ![288, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1x128x128 : Shape := ⟨4, ![1, 1, 128, 128]⟩
abbrev S128x128 : Shape := ⟨2, ![128, 128]⟩

abbrev nBuf : Space → Nat
  | .hbm => 40
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S2x31x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x4x1024, .f32⟩
  | .hbm, ⟨6, _⟩ => ⟨S2x1024, .f32⟩
  | .hbm, ⟨7, _⟩ => ⟨S2x8x128x128, .f32⟩
  | .hbm, ⟨8, _⟩ => ⟨S2x1024, .f32⟩
  | .hbm, ⟨9, _⟩ => ⟨S2x8x128x128, .f32⟩
  | .hbm, ⟨10, _⟩ => ⟨S2x1024, .f32⟩
  | .hbm, ⟨11, _⟩ => ⟨S2x1024, .f32⟩
  | .hbm, ⟨12, _⟩ => ⟨S1x31x1024, .f32⟩
  | .hbm, ⟨13, _⟩ => ⟨S31x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x4x1024, .f32⟩
  | .hbm, ⟨21, _⟩ => ⟨S4x1024, .f32⟩
  | .hbm, ⟨22, _⟩ => ⟨S1x1024, .f32⟩
  | .hbm, ⟨23, _⟩ => ⟨S1024, .f32⟩
  | .hbm, ⟨24, _⟩ => ⟨S2x8x128x128, .bf16⟩
  | .hbm, ⟨25, _⟩ => ⟨S1x1024, .f32⟩
  | .hbm, ⟨26, _⟩ => ⟨S1024, .f32⟩
  | .hbm, ⟨27, _⟩ => ⟨S2x8x128x128, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S8192x2048, .bf16⟩
  | .local _ .vmem, ⟨0, _⟩ => ⟨S256x4096, .f32⟩
  | .local _ .vmem, ⟨1, _⟩ => ⟨S256x4096, .f32⟩
  | .local _ .vmem, ⟨2, _⟩ => ⟨S31x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x1024, .f32⟩
  | .local _ .vmem, ⟨7, _⟩ => ⟨S1x1024, .f32⟩
  | .local _ .vmem, ⟨8, _⟩ => ⟨S1x8x128x128, .bf16⟩
  | .local _ .vmem, ⟨9, _⟩ => ⟨S1x1024, .f32⟩
  | .local _ .vmem, ⟨10, _⟩ => ⟨S1x8x128x128, .bf16⟩
  | .local _ .vmem, ⟨11, _⟩ => ⟨S1x1024, .f32⟩
  | .local _ .vmem, ⟨12, _⟩ => ⟨S1x1024, .f32⟩
  | .local _ .vmem, ⟨13, _⟩ => ⟨S256x2048, .bf16⟩
  | .local _ .vmem, ⟨14, _⟩ => ⟨S256x2048, .bf16⟩
  | .local _ .vmem, ⟨15, _⟩ => ⟨S288x1024, .f32⟩
  | .local _ .vmem, ⟨16, _⟩ => ⟨S256x1024, .f32⟩
  | .local _ .vmem, ⟨17, _⟩ => ⟨S264x1024, .f32⟩
  | .local _ .vmem, ⟨18, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceRecIdeal.lean ====
abbrev S8192x4096 : Shape := ⟨2, ![8192, 4096]⟩
abbrev S2x31x1024 : Shape := ⟨3, ![2, 31, 1024]⟩
abbrev S2x1024 : Shape := ⟨2, ![2, 1024]⟩
abbrev S2x4x1024 : Shape := ⟨3, ![2, 4, 1024]⟩
abbrev S2x8x128x128 : Shape := ⟨4, ![2, 8, 128, 128]⟩
abbrev S8192x1024 : Shape := ⟨2, ![8192, 1024]⟩
abbrev S_ : Shape := ⟨0, ![]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S30x1024 : Shape := ⟨2, ![30, 1024]⟩
abbrev S8222x1024 : Shape := ⟨2, ![8222, 1024]⟩
abbrev S8192 : Shape := ⟨1, ![8192]⟩
abbrev S8192x1 : Shape := ⟨2, ![8192, 1]⟩
abbrev S1x4x1024 : Shape := ⟨3, ![1, 4, 1024]⟩
abbrev S4x1024 : Shape := ⟨2, ![4, 1024]⟩
abbrev S3x1024 : Shape := ⟨2, ![3, 1024]⟩
abbrev S8195x1024 : Shape := ⟨2, ![8195, 1024]⟩
abbrev S8192x8x128 : Shape := ⟨3, ![8192, 8, 128]⟩
abbrev S1x8x128x128 : Shape := ⟨4, ![1, 8, 128, 128]⟩
abbrev S8x128x128 : Shape := ⟨3, ![8, 128, 128]⟩
abbrev S8x128x8192 : Shape := ⟨3, ![8, 128, 8192]⟩
abbrev S8192x2048 : Shape := ⟨2, ![8192, 2048]⟩
abbrev S2048 : Shape := ⟨1, ![2048]⟩
abbrev S1x2048 : Shape := ⟨2, ![1, 2048]⟩

abbrev nBuf : Space → Nat
  | .hbm => 458
  | .vmem => 0
  | .smem => 0
  | _ => 0

abbrev hbmTy0_0 (i : Nat) : BufTy := match i % 128 with
  | 0 => ⟨S8192x4096, .f32⟩
  | 1 => ⟨S2x31x1024, .f32⟩
  | 2 => ⟨S2x1024, .f32⟩
  | 3 => ⟨S2x1024, .f32⟩
  | 4 => ⟨S2x1024, .f32⟩
  | 5 => ⟨S2x4x1024, .f32⟩
  | 6 => ⟨S2x1024, .f32⟩
  | 7 => ⟨S2x8x128x128, .f32⟩
  | 8 => ⟨S2x1024, .f32⟩
  | 9 => ⟨S2x8x128x128, .f32⟩
  | 10 => ⟨S2x1024, .f32⟩
  | 11 => ⟨S2x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S1x31x1024, .f32⟩
  | 26 => ⟨S31x1024, .f32⟩
  | 27 => ⟨S1x1024, .f32⟩
  | 28 => ⟨S1024, .f32⟩
  | 29 => ⟨S_, .f32⟩
  | 30 => ⟨S30x1024, .f32⟩
  | 31 => ⟨S8222x1024, .f32⟩
  | 32 => ⟨S1x1024, .f32⟩
  | 33 => ⟨S1024, .f32⟩
  | 34 => ⟨S8192x1024, .f32⟩
  | 35 => ⟨S1x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S1x1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S8192x1024, .f32⟩
  | 93 => ⟨S1x1024, .f32⟩
  | 94 => ⟨S8192x1024, .f32⟩
  | 95 => ⟨S8192x1024, .f32⟩
  | 96 => ⟨S8192x1024, .f32⟩
  | 97 => ⟨S1x1024, .f32⟩
  | 98 => ⟨S1024, .f32⟩
  | 99 => ⟨S8192x1024, .f32⟩
  | 100 => ⟨S1x1024, .f32⟩
  | 101 => ⟨S8192x1024, .f32⟩
  | 102 => ⟨S8192x1024, .f32⟩
  | 103 => ⟨S8192x1024, .f32⟩
  | 104 => ⟨S1x1024, .f32⟩
  | 105 => ⟨S1024, .f32⟩
  | 106 => ⟨S8192x1024, .f32⟩
  | 107 => ⟨S1x1024, .f32⟩
  | 108 => ⟨S8192x1024, .f32⟩
  | 109 => ⟨S8192x1024, .f32⟩
  | 110 => ⟨S8192x1024, .f32⟩
  | 111 => ⟨S1x1024, .f32⟩
  | 112 => ⟨S1024, .f32⟩
  | 113 => ⟨S8192x1024, .f32⟩
  | 114 => ⟨S1x1024, .f32⟩
  | 115 => ⟨S8192x1024, .f32⟩
  | 116 => ⟨S8192x1024, .f32⟩
  | 117 => ⟨S8192x1024, .f32⟩
  | 118 => ⟨S1x1024, .f32⟩
  | 119 => ⟨S1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S1x1024, .f32⟩
  | 126 => ⟨S1024, .f32⟩
  | 127 => ⟨S8192x1024, .f32⟩
  | _ => ⟨S8192x4096, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S1x1024, .f32⟩
  | 5 => ⟨S1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S1x1024, .f32⟩
  | 12 => ⟨S1024, .f32⟩
  | 13 => ⟨S8192x1024, .f32⟩
  | 14 => ⟨S1x1024, .f32⟩
  | 15 => ⟨S8192x1024, .f32⟩
  | 16 => ⟨S8192x1024, .f32⟩
  | 17 => ⟨S8192x1024, .f32⟩
  | 18 => ⟨S1x1024, .f32⟩
  | 19 => ⟨S1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S1x1024, .f32⟩
  | 26 => ⟨S1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S1x1024, .f32⟩
  | 33 => ⟨S1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S1x1024, .f32⟩
  | 40 => ⟨S1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S1x1024, .f32⟩
  | 47 => ⟨S1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S1x1024, .f32⟩
  | 54 => ⟨S1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S1x1024, .f32⟩
  | 61 => ⟨S1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S1x1024, .f32⟩
  | 68 => ⟨S1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S1x1024, .f32⟩
  | 75 => ⟨S1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S1x1024, .f32⟩
  | 82 => ⟨S1024, .f32⟩
  | 83 => ⟨S8192x1024, .f32⟩
  | 84 => ⟨S1x1024, .f32⟩
  | 85 => ⟨S8192x1024, .f32⟩
  | 86 => ⟨S8192x1024, .f32⟩
  | 87 => ⟨S8192x1024, .f32⟩
  | 88 => ⟨S1x1024, .f32⟩
  | 89 => ⟨S1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S1x1024, .f32⟩
  | 96 => ⟨S1024, .f32⟩
  | 97 => ⟨S8192x1024, .f32⟩
  | 98 => ⟨S1x1024, .f32⟩
  | 99 => ⟨S8192x1024, .f32⟩
  | 100 => ⟨S8192x1024, .f32⟩
  | 101 => ⟨S8192x1024, .f32⟩
  | 102 => ⟨S1x1024, .f32⟩
  | 103 => ⟨S1024, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S1x1024, .f32⟩
  | 110 => ⟨S1024, .f32⟩
  | 111 => ⟨S8192x1024, .f32⟩
  | 112 => ⟨S1x1024, .f32⟩
  | 113 => ⟨S8192x1024, .f32⟩
  | 114 => ⟨S8192x1024, .f32⟩
  | 115 => ⟨S8192x1024, .f32⟩
  | 116 => ⟨S1x1024, .f32⟩
  | 117 => ⟨S1024, .f32⟩
  | 118 => ⟨S8192x1024, .f32⟩
  | 119 => ⟨S1x1024, .f32⟩
  | 120 => ⟨S8192x1024, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S1x1024, .f32⟩
  | 127 => ⟨S1024, .f32⟩
  | _ => ⟨S8192x4096, .f32⟩

abbrev hbmTy0_2 (i : Nat) : BufTy := match i % 128 with
  | 0 => ⟨S1x1024, .f32⟩
  | 1 => ⟨S1024, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S1x4x1024, .f32⟩
  | 41 => ⟨S4x1024, .f32⟩
  | 42 => ⟨S1x1024, .f32⟩
  | 43 => ⟨S1024, .f32⟩
  | 44 => ⟨S_, .f32⟩
  | 45 => ⟨S3x1024, .f32⟩
  | 46 => ⟨S8195x1024, .f32⟩
  | 47 => ⟨S1x1024, .f32⟩
  | 48 => ⟨S1024, .f32⟩
  | 49 => ⟨S8192x1024, .f32⟩
  | 50 => ⟨S1x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S1x1024, .f32⟩
  | 57 => ⟨S1024, .f32⟩
  | 58 => ⟨S8192x1024, .f32⟩
  | 59 => ⟨S1x1024, .f32⟩
  | 60 => ⟨S8192x1024, .f32⟩
  | 61 => ⟨S8192x1024, .f32⟩
  | 62 => ⟨S8192x1024, .f32⟩
  | 63 => ⟨S1x1024, .f32⟩
  | 64 => ⟨S1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S1x1024, .f32⟩
  | 71 => ⟨S1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x8x128, .f32⟩
  | 81 => ⟨S1x8x128x128, .f32⟩
  | 82 => ⟨S8x128x128, .f32⟩
  | 83 => ⟨S8x128x8192, .f32⟩
  | 84 => ⟨S8192x8x128, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S1x8x128x128, .f32⟩
  | 100 => ⟨S8x128x128, .f32⟩
  | 101 => ⟨S8x128x8192, .f32⟩
  | 102 => ⟨S8192x8x128, .f32⟩
  | 103 => ⟨S8192x1024, .f32⟩
  | 104 => ⟨S1x1024, .f32⟩
  | 105 => ⟨S1024, .f32⟩
  | 106 => ⟨S1x1024, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S1x1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S1024, .f32⟩
  | _ => ⟨S8192x4096, .f32⟩

abbrev hbmTy0_3 (i : Nat) : BufTy := match i % 128 with
  | 0 => ⟨S1024, .i1⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S_, .f32⟩
  | 41 => ⟨S8192x2048, .f32⟩
  | 42 => ⟨S_, .i32⟩
  | 43 => ⟨S8192x1024, .f32⟩
  | 44 => ⟨S8192x1024, .f32⟩
  | 45 => ⟨S8192x1024, .f32⟩
  | 46 => ⟨S8192x1024, .f32⟩
  | 47 => ⟨S_, .i32⟩
  | 48 => ⟨S1024, .f32⟩
  | 49 => ⟨S8192x2048, .f32⟩
  | 50 => ⟨S_, .i32⟩
  | 51 => ⟨S_, .i1⟩
  | 52 => ⟨S_, .i32⟩
  | 53 => ⟨S1x1024, .f32⟩
  | 54 => ⟨S1024, .f32⟩
  | 55 => ⟨S_, .i32⟩
  | 56 => ⟨S1x1024, .f32⟩
  | 57 => ⟨S1024, .f32⟩
  | 58 => ⟨S_, .i32⟩
  | 59 => ⟨S1x1024, .f32⟩
  | 60 => ⟨S1024, .f32⟩
  | 61 => ⟨S_, .i32⟩
  | 62 => ⟨S1x1024, .f32⟩
  | 63 => ⟨S1024, .f32⟩
  | 64 => ⟨S1024, .f32⟩
  | 65 => ⟨S1024, .f32⟩
  | 66 => ⟨S1024, .f32⟩
  | 67 => ⟨S2048, .f32⟩
  | 68 => ⟨S1x2048, .f32⟩
  | 69 => ⟨S_, .i32⟩
  | 70 => ⟨S8192x2048, .f32⟩
  | 71 => ⟨S_, .i32⟩
  | 72 => ⟨S_, .i32⟩
  | 73 => ⟨S8192x2048, .bf16⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_cst_3 : Ref sig .tc := ⟨.hbm, 258, rfl⟩
abbrev main_v242 : Ref sig .tc := ⟨.hbm, 259, rfl⟩
abbrev main_v243 : Ref sig .tc := ⟨.hbm, 260, rfl⟩
abbrev main_cst_4 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_cst_5 : Ref sig .tc := ⟨.hbm, 267, rfl⟩
abbrev main_v249 : Ref sig .tc := ⟨.hbm, 268, rfl⟩
abbrev main_v250 : Ref sig .tc := ⟨.hbm, 269, rfl⟩
abbrev main_cst_6 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_cst_7 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_call0_v0 : Ref sig .tc := ⟨.hbm, 287, rfl⟩
abbrev main_call0_v1 : Ref sig .tc := ⟨.hbm, 288, rfl⟩
abbrev main_call0_cst : Ref sig .tc := ⟨.hbm, 289, rfl⟩
abbrev main_call0_v2 : Ref sig .tc := ⟨.hbm, 290, rfl⟩
abbrev main_call0_v3 : Ref sig .tc := ⟨.hbm, 291, rfl⟩
abbrev main_call0_cst_0 : Ref sig .tc := ⟨.hbm, 292, rfl⟩
abbrev main_call0_v4 : Ref sig .tc := ⟨.hbm, 293, rfl⟩
abbrev main_call0_v5 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_cst_8 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_cst_9 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_cst_10 : Ref sig .tc := ⟨.hbm, 349, rfl⟩
abbrev main_v318 : Ref sig .tc := ⟨.hbm, 350, rfl⟩
abbrev main_v319 : Ref sig .tc := ⟨.hbm, 351, rfl⟩
abbrev main_cst_11 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_cst_12 : Ref sig .tc := ⟨.hbm, 367, rfl⟩
abbrev main_v334 : Ref sig .tc := ⟨.hbm, 368, rfl⟩
abbrev main_v335 : Ref sig .tc := ⟨.hbm, 369, rfl⟩
abbrev main_cst_13 : Ref sig .tc := ⟨.hbm, 370, rfl⟩
abbrev main_v336 : Ref sig .tc := ⟨.hbm, 371, rfl⟩
abbrev main_v337 : Ref sig .tc := ⟨.hbm, 372, rfl⟩
abbrev main_cst_14 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_call1_cst : Ref sig .tc := ⟨.hbm, 379, rfl⟩
abbrev main_call1_v0 : Ref sig .tc := ⟨.hbm, 380, rfl⟩
abbrev main_call1_v1 : Ref sig .tc := ⟨.hbm, 381, rfl⟩
abbrev main_call1_v2 : Ref sig .tc := ⟨.hbm, 382, rfl⟩
abbrev main_call1_v3 : Ref sig .tc := ⟨.hbm, 383, rfl⟩
abbrev main_call1_v4 : Ref sig .tc := ⟨.hbm, 384, rfl⟩
abbrev main_call1_v5 : Ref sig .tc := ⟨.hbm, 385, rfl⟩
abbrev main_call1_v6 : Ref sig .tc := ⟨.hbm, 386, rfl⟩
abbrev main_call1_v7 : Ref sig .tc := ⟨.hbm, 387, rfl⟩
abbrev main_call1_v8 : Ref sig .tc := ⟨.hbm, 388, rfl⟩
abbrev main_call1_v9 : Ref sig .tc := ⟨.hbm, 389, rfl⟩
abbrev main_call1_v10 : Ref sig .tc := ⟨.hbm, 390, rfl⟩
abbrev main_call1_v11 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_cst_15 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_cst_16 : Ref sig .tc := ⟨.hbm, 405, rfl⟩
abbrev main_v355 : Ref sig .tc := ⟨.hbm, 406, rfl⟩
abbrev main_v356 : Ref sig .tc := ⟨.hbm, 407, rfl⟩
abbrev main_v357 : Ref sig .tc := ⟨.hbm, 408, rfl⟩
abbrev main_cst_17 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_cst_18 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_cst_19 : Ref sig .tc := ⟨.hbm, 417, rfl⟩
abbrev main_v364 : Ref sig .tc := ⟨.hbm, 418, rfl⟩
abbrev main_v365 : Ref sig .tc := ⟨.hbm, 419, rfl⟩
abbrev main_cst_20 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_cst_21 : Ref sig .tc := ⟨.hbm, 424, rfl⟩
abbrev main_v369 : Ref sig .tc := ⟨.hbm, 425, rfl⟩
abbrev main_c : Ref sig .tc := ⟨.hbm, 426, rfl⟩
abbrev main_v370_0 : Ref sig .tc := ⟨.hbm, 427, rfl⟩
abbrev main_v370_1 : Ref sig .tc := ⟨.hbm, 428, rfl⟩
abbrev main_v370_2 : Ref sig .tc := ⟨.hbm, 429, rfl⟩
abbrev main_v370_3 : Ref sig .tc := ⟨.hbm, 430, rfl⟩
abbrev main_v370_4 : Ref sig .tc := ⟨.hbm, 431, rfl⟩
abbrev main_v370_5 : Ref sig .tc := ⟨.hbm, 432, rfl⟩
abbrev main_v370_6 : Ref sig .tc := ⟨.hbm, 433, rfl⟩
abbrev main_while0c_c_28 : Ref sig .tc := ⟨.hbm, 434, rfl⟩
abbrev main_while0c_v372 : Ref sig .tc := ⟨.hbm, 435, rfl⟩
abbrev main_while0b_call2_c : Ref sig .tc := ⟨.hbm, 436, rfl⟩
abbrev main_while0b_call2_v0 : Ref sig .tc := ⟨.hbm, 437, rfl⟩
abbrev main_while0b_v372 : Ref sig .tc := ⟨.hbm, 438, rfl⟩
abbrev main_while0b_call3_c : Ref sig .tc := ⟨.hbm, 439, rfl⟩
abbrev main_while0b_call3_v0 : Ref sig .tc := ⟨.hbm, 440, rfl⟩
abbrev main_while0b_v373 : Ref sig .tc := ⟨.hbm, 441, rfl⟩
abbrev main_while0b_call4_c : Ref sig .tc := ⟨.hbm, 442, rfl⟩
abbrev main_while0b_call4_v0 : Ref sig .tc := ⟨.hbm, 443, rfl⟩
abbrev main_while0b_v374 : Ref sig .tc := ⟨.hbm, 444, rfl⟩
abbrev main_while0b_call5_c : Ref sig .tc := ⟨.hbm, 445, rfl⟩
abbrev main_while0b_call5_v0 : Ref sig .tc := ⟨.hbm, 446, rfl⟩
abbrev main_while0b_v375 : Ref sig .tc := ⟨.hbm, 447, rfl⟩
abbrev main_while0b_v376 : Ref sig .tc := ⟨.hbm, 448, rfl⟩
abbrev main_while0b_v377 : Ref sig .tc := ⟨.hbm, 449, rfl⟩
abbrev main_while0b_v378 : Ref sig .tc := ⟨.hbm, 450, rfl⟩
abbrev main_while0b_v379 : Ref sig .tc := ⟨.hbm, 451, rfl⟩
abbrev main_while0b_call6_v0 : Ref sig .tc := ⟨.hbm, 452, rfl⟩
abbrev main_while0b_call6_c : Ref sig .tc := ⟨.hbm, 453, rfl⟩
abbrev main_while0b_v380 : Ref sig .tc := ⟨.hbm, 454, rfl⟩
abbrev main_while0b_c_28 : Ref sig .tc := ⟨.hbm, 455, rfl⟩
abbrev main_while0b_v381 : Ref sig .tc := ⟨.hbm, 456, rfl⟩
abbrev main_v371 : Ref sig .tc := ⟨.hbm, 457, rfl⟩

abbrev nD : Nat := 1
abbrev τ : Topo := Topo.v7x

variable {F : FTy → Type} [FloatOps F]

abbrev main_while0_count : Scf.Loop 32 := ⟨0#32, 8192#32, 1#32⟩
-- ==== Proof.Stick.lean ====
module

public import Idealize.ShloMosaic.Lib.Pointwise
public import Mathlib.Analysis.SpecialFunctions.Pow.Real
public import Mathlib.Algebra.BigOperators.Intervals
public import Mathlib.Tactic.Linarith

@[expose] public section

noncomputable section

open Idealize.ShloMosaic

/-! # The stick-breaking attention of one query, over the extended reals

A query at position `T` meets the scores `z 0, z 1, …` of the keys. Key `s < T` gets the weight
`2 ^ (z s + decay z s T)`: `decay z s T` is minus the sum of the base-two softplus of the scores from
`s` up to `T`. The sums can be cut at any position, which is what lets a kernel walk the keys from the
newest to the oldest one group at a time. Scores and values may be infinite. -/

namespace Stick

/-- The natural logarithm of two, and its inverse. -/
abbrev ln2 : EReal := ((Real.log 2 : ℝ) : EReal)
abbrev invLn2 : EReal := (((Real.log 2)⁻¹ : ℝ) : EReal)

/-- The softplus to base two, written as the kernel writes it. -/
def soft (z : EReal) : EReal := max z 0 + Ideal.log (1 + Ideal.exp2 (0 - max z (-z))) * invLn2

/-- The logarithm to base two of what is left of the stick below position `T`, down to and with `lo`. -/
def decay (z : ℕ → EReal) (lo T : ℕ) : EReal := ∑ j ∈ Finset.Ico lo T, -soft (z j)

/-- The weight of key `s` in the eyes of a query at `T`. -/
def weight (z : ℕ → EReal) (T s : ℕ) : EReal := Ideal.exp2 (z s + decay z s T)

/-- The weighted sum of the values of the keys from `lo` to below `T`. -/
def mix (z v : ℕ → EReal) (lo T : ℕ) : EReal := ∑ s ∈ Finset.Ico lo T, weight z T s * v s

theorem decay_self (z : ℕ → EReal) (T : ℕ) : decay z T T = 0 := by simp [decay]

theorem mix_self (z v : ℕ → EReal) (T : ℕ) : mix z v T T = 0 := by simp [mix]

theorem decay_split (z : ℕ → EReal) {a b T : ℕ} (h : a ≤ b) (h' : b ≤ T) :
    decay z a T = decay z b T + decay z a b := by
  unfold decay
  rw [add_comm, Finset.sum_Ico_consecutive _ h h']

/-! ## The functions at real numbers and at the two infinities -/

theorem max_coe (a b : ℝ) : max (a : EReal) (b : EReal) = ((max a b : ℝ) : EReal) :=
  (EReal.coe_strictMono.monotone.map_max).symm

theorem abs_coe (a : ℝ) : max (a : EReal) (-(a : EReal)) = ((|a| : ℝ) : EReal) := by
  rw [← EReal.coe_neg, max_coe]; rfl

theorem log_coe {a : ℝ} (h : 0 < a) : Ideal.log (a : EReal) = ((Real.log a : ℝ) : EReal) := by
  show (if a ≤ 0 then ⊥ else _) = _
  rw [if_neg (not_le.mpr h)]

theorem log_one : Ideal.log 1 = 0 := by
  rw [← EReal.coe_one, log_coe one_pos, Real.log_one, EReal.coe_zero]

theorem ln2_pos : 0 < Real.log 2 := Real.log_pos (by norm_num)

theorem soft_coe (z : ℝ) : soft z = ((max z 0 + Real.log (1 + (2 : ℝ) ^ (-|z|)) * (Real.log 2)⁻¹ : ℝ) : EReal) := by
  have h2 : (0 : EReal) - ((|z| : ℝ) : EReal) = ((-|z| : ℝ) : EReal) := by rw [zero_sub, EReal.coe_neg]
  have h3 : Ideal.exp2 ((-|z| : ℝ) : EReal) = (((2 : ℝ) ^ (-|z|) : ℝ) : EReal) := rfl
  unfold soft
  rw [abs_coe, h2, h3, ← EReal.coe_one, ← EReal.coe_add, log_coe (by positivity), ← EReal.coe_mul, ← EReal.coe_zero, max_coe, ← EReal.coe_add]

theorem soft_top : soft ⊤ = ⊤ := by
  unfold soft
  rw [max_eq_left le_top, max_eq_left le_top, zero_sub, EReal.neg_top]
  show ⊤ + Ideal.log (1 + 0) * _ = _
  rw [add_zero, log_one, zero_mul, add_zero]

theorem soft_bot : soft ⊥ = 0 := by
  unfold soft
  rw [max_eq_right bot_le, EReal.neg_bot, max_eq_right bot_le, zero_sub, EReal.neg_top]
  show 0 + Ideal.log (1 + 0) * _ = _
  rw [add_zero, log_one, zero_mul, add_zero]

theorem soft_nonneg (z : EReal) : 0 ≤ soft z := by
  induction z with
  | bot => rw [soft_bot]
  | top => rw [soft_top]; exact le_top
  | coe z =>
    rw [soft_coe]
    refine EReal.coe_nonneg.mpr (add_nonneg (le_max_right _ _) (mul_nonneg (Real.log_nonneg ?_) (inv_nonneg.mpr ln2_pos.le)))
    have : 0 < (2 : ℝ) ^ (-|z|) := by positivity
    linarith

theorem decay_nonpos (z : ℕ → EReal) (lo T : ℕ) : decay z lo T ≤ 0 :=
  Finset.sum_nonpos fun j _ => EReal.neg_le_zero.mpr (soft_nonneg (z j))

theorem exp2_coe (a : ℝ) : Ideal.exp2 (a : EReal) = (((2 : ℝ) ^ a : ℝ) : EReal) := rfl

/-- Two to a sum. -/
theorem exp2_add (x y : EReal) : Ideal.exp2 (x + y) = Ideal.exp2 x * Ideal.exp2 y := by
  have h0 : Ideal.exp2 ⊥ = 0 := rfl
  have h1 : Ideal.exp2 ⊤ = ⊤ := rfl
  have hp : ∀ a : ℝ, (0 : ℝ) < (2 : ℝ) ^ a := fun a => by positivity
  induction x with
  | bot => rw [EReal.bot_add, h0, zero_mul]
  | top =>
    induction y with
    | bot => rw [EReal.add_bot, h0, mul_zero]
    | top => rw [EReal.top_add_top, h1, EReal.top_mul_top]
    | coe y => rw [EReal.top_add_coe, h1, exp2_coe, EReal.top_mul_coe_of_pos (hp y)]
  | coe x =>
    induction y with
    | bot => rw [EReal.add_bot, h0, mul_zero]
    | top => rw [EReal.coe_add_top, h1, exp2_coe, EReal.coe_mul_top_of_pos (hp x)]
    | coe y => rw [← EReal.coe_add, exp2_coe, exp2_coe, exp2_coe, ← EReal.coe_mul, Real.rpow_add (by norm_num)]

theorem exp2_nonneg (x : EReal) : 0 ≤ Ideal.exp2 x := by
  induction x with
  | bot => exact le_rfl
  | top => exact le_top
  | coe x => exact EReal.coe_nonneg.mpr (Real.rpow_nonneg (by norm_num) x)

/-- Two to something that is not positive is a number. -/
theorem exp2_ne_top {x : EReal} (h : x ≤ 0) : Ideal.exp2 x ≠ ⊤ := by
  induction x with
  | bot => exact EReal.zero_ne_top
  | top => exact absurd h (by simp)
  | coe x => exact EReal.coe_ne_top _

/-- A factor that is a number and not negative goes into a sum. -/
theorem scale_sum {c : EReal} (h : 0 ≤ c) (ht : c ≠ ⊤) {ι : Type} (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h ht, ih]

theorem weight_split (z : ℕ → EReal) {s b T : ℕ} (h : s ≤ b) (h' : b ≤ T) :
    weight z T s = Ideal.exp2 (decay z b T) * weight z b s := by
  unfold weight
  rw [decay_split z h h', ← exp2_add, add_left_comm]

theorem mix_split (z v : ℕ → EReal) {a b T : ℕ} (h : a ≤ b) (h' : b ≤ T) :
    mix z v a T = mix z v b T + Ideal.exp2 (decay z b T) * mix z v a b := by
  unfold mix
  rw [← Finset.sum_Ico_consecutive _ h h', add_comm, scale_sum (exp2_nonneg _) (exp2_ne_top (decay_nonpos _ _ _))]
  congr 1
  refine Finset.sum_congr rfl fun s hs => ?_
  rw [weight_split z (Finset.mem_Ico.mp hs).2.le h', mul_assoc]

/-- The sum over the `n` positions of a block of what lies at or past place `l` and below `T`. -/
theorem block_tail (z : ℕ → EReal) (n b T : ℕ) (hT : T ≤ b + n) (l : ℕ) :
    ∑ j : Fin n, (if b + j.val < T then soft (z (b + j.val)) else 0) * (if l ≤ j.val then (-1 : EReal) else 0)
      = decay z (b + l) T := by
  have h1 : decay z (b + l) T = ∑ j ∈ Finset.Ico b (b + n),
      (if j < T ∧ b + l ≤ j then -soft (z j) else 0) := by
    rw [← Finset.sum_filter]
    refine Finset.sum_congr ?_ fun _ _ => rfl
    ext j
    simp only [Finset.mem_Ico, Finset.mem_filter]
    omega
  rw [h1, Finset.sum_Ico_eq_sum_range, Nat.add_sub_cancel_left,
    ← Fin.sum_univ_eq_sum_range (fun k => if b + k < T ∧ b + l ≤ b + k then -soft (z (b + k)) else 0)]
  refine Finset.sum_congr rfl fun j _ => ?_
  by_cases hj : b + j.val < T <;> by_cases hl : l ≤ j.val <;> simp [hj, hl]

/-- The weighted values of the `n` positions from `b` on that lie below `T`. -/
theorem block_mix (z v : ℕ → EReal) (n b T : ℕ) (hT : T ≤ b + n) :
    ∑ k : Fin n, (if b + k.val < T then weight z T (b + k.val) else 0) * v (b + k.val) = mix z v b T := by
  have h1 : mix z v b T = ∑ j ∈ Finset.Ico b (b + n), (if j < T then weight z T j * v j else 0) := by
    rw [← Finset.sum_filter]
    refine Finset.sum_congr ?_ fun _ _ => rfl
    ext j
    simp only [Finset.mem_Ico, Finset.mem_filter]
    omega
  rw [h1, Finset.sum_Ico_eq_sum_range, Nat.add_sub_cancel_left,
    ← Fin.sum_univ_eq_sum_range (fun k => if b + k < T then weight z T (b + k) * v (b + k) else 0)]
  refine Finset.sum_congr rfl fun j _ => ?_
  split_ifs <;> simp

/-! ## The reference's form of the weights: natural logarithms and exponentials -/

/-- The softplus as the reference writes it. -/
def splus (y : EReal) : EReal := max y 0 + Ideal.log1p (Ideal.exp (-max y (-y)))

theorem splus_coe (y : ℝ) : splus y = ((max y 0 + Real.log (1 + Real.exp (-|y|)) : ℝ) : EReal) := by
  have h3 : Ideal.exp ((-|y| : ℝ) : EReal) = ((Real.exp (-|y|) : ℝ) : EReal) := rfl
  unfold splus Ideal.log1p
  rw [abs_coe, ← EReal.coe_neg, h3, ← EReal.coe_one, ← EReal.coe_add, log_coe (by positivity), ← EReal.coe_zero, max_coe, ← EReal.coe_add]

theorem splus_top : splus ⊤ = ⊤ := by
  unfold splus Ideal.log1p
  rw [max_eq_left le_top, max_eq_left le_top, EReal.neg_top]
  show ⊤ + Ideal.log (1 + 0) = _
  rw [add_zero, log_one, add_zero]

theorem splus_bot : splus ⊥ = 0 := by
  unfold splus Ideal.log1p
  rw [max_eq_right bot_le, EReal.neg_bot, max_eq_right bot_le, EReal.neg_top]
  show 0 + Ideal.log (1 + 0) = _
  rw [add_zero, log_one, add_zero]

theorem top_ln2 : (⊤ : EReal) * ln2 = ⊤ := EReal.top_mul_coe_of_pos ln2_pos
theorem bot_ln2 : (⊥ : EReal) * ln2 = ⊥ := EReal.bot_mul_coe_of_pos ln2_pos

theorem two_rpow (x : ℝ) : (2 : ℝ) ^ x = Real.exp (x * Real.log 2) := by
  rw [Real.rpow_def_of_pos (by norm_num), mul_comm]

/-- A power of two as a natural exponential. -/
theorem exp2_eq (x : EReal) : Ideal.exp2 x = Ideal.exp (x * ln2) := by
  induction x with
  | bot => rw [bot_ln2]; rfl
  | top => rw [top_ln2]; rfl
  | coe x => rw [← EReal.coe_mul, exp2_coe, two_rpow]; rfl

theorem splus_scaled (z : EReal) : splus (z * ln2) = soft z * ln2 := by
  induction z with
  | bot => rw [bot_ln2, splus_bot, soft_bot, zero_mul]
  | top => rw [top_ln2, splus_top, soft_top, top_ln2]
  | coe z =>
    have hp := ln2_pos
    rw [← EReal.coe_mul, splus_coe, soft_coe, ← EReal.coe_mul]
    congr 1
    have h1 : max (z * Real.log 2) 0 = max z 0 * Real.log 2 := by
      rw [max_mul_of_nonneg _ _ hp.le, zero_mul]
    rw [h1, two_rpow, abs_mul, abs_of_pos hp, neg_mul, add_mul, mul_assoc, inv_mul_cancel₀ hp.ne', mul_one]

theorem ln2_distrib (x y : EReal) : (x + y) * ln2 = x * ln2 + y * ln2 := by
  rw [mul_comm, EReal.left_distrib_of_nonneg_of_ne_top (EReal.coe_nonneg.mpr ln2_pos.le) (EReal.coe_ne_top _), mul_comm x, mul_comm y]

/-- The reference's running sum from place `s` to the end, of minus the softplus below `T`. -/
theorem running (z : ℕ → EReal) (n T : ℕ) (hT : T ≤ n) (s : ℕ) :
    ∑ j ∈ Finset.Ico s n, (if j < T then -splus (z j * ln2) else 0)
      = decay z s T * ln2 := by
  rw [← Finset.sum_filter, decay, mul_comm, scale_sum (EReal.coe_nonneg.mpr ln2_pos.le) (EReal.coe_ne_top _)]
  refine Finset.sum_congr ?_ fun j _ => by rw [splus_scaled, mul_comm, mul_neg]
  ext j
  simp only [Finset.mem_Ico, Finset.mem_filter]
  omega

theorem splus_neg (y : ℝ) : -splus (-(y : EReal)) = y - splus y := by
  rw [← EReal.coe_neg, splus_coe, splus_coe, ← EReal.coe_neg, ← EReal.coe_sub]
  congr 1
  rw [abs_neg]
  rcases le_total y 0 with h | h
  · rw [max_eq_left (by linarith), max_eq_right h]; ring
  · rw [max_eq_right (by linarith), max_eq_left h]; ring

/-- The reference's weight of a key below `T` is the weight above. -/
theorem weight_ref (z : ℕ → EReal) {s T : ℕ} (h : s < T) :
    Ideal.exp (-splus (-(z s * ln2)) + (decay z s T * ln2 - -splus (z s * ln2)))
      = weight z T s := by
  have hd : decay z s T = -soft (z s) + decay z (s + 1) T := by
    unfold decay
    rw [Finset.sum_eq_sum_Ico_succ_bot h]
  rw [weight, exp2_eq, ln2_distrib, hd]
  generalize decay z (s + 1) T = D
  generalize z s = x
  refine congrArg Ideal.exp ?_
  induction x with
  | bot => rw [bot_ln2, EReal.neg_bot, splus_top, EReal.neg_top, EReal.bot_add, EReal.bot_add]
  | top => rw [soft_top, EReal.neg_top, EReal.bot_add, bot_ln2, sub_eq_add_neg, EReal.bot_add, EReal.add_bot, EReal.add_bot]
  | coe x =>
    rw [ln2_distrib, ← EReal.coe_mul, splus_neg, neg_mul, ← splus_scaled, ← EReal.coe_mul, splus_coe, ← EReal.coe_sub, ← EReal.coe_neg]
    generalize max (x * Real.log 2) 0 + Real.log (1 + Real.exp (-|x * Real.log 2|)) = p
    generalize D * ln2 = E
    induction E with
    | bot => rw [EReal.add_bot, sub_eq_add_neg (⊥ : EReal), EReal.bot_add, EReal.add_bot, EReal.add_bot]
    | top => rw [EReal.coe_add_top, EReal.coe_add_top, EReal.top_sub_coe, EReal.coe_add_top]
    | coe e => rw [← EReal.coe_add, ← EReal.coe_sub, ← EReal.coe_add, ← EReal.coe_add]; congr 1; ring

end Stick
-- ==== Proof.Sweep.lean ====
module

public import Idealize.ShloMosaic.Lib.Pipeline.ValueKit
public import Idealize.ShloMosaic.Lib.Pointwise
public import Idealize.ShloMosaic.Lib.MatmulPlain
public import proofs.«01_k».proof.Proof.Stick

@[expose] public section

set_option maxRecDepth 16384

noncomputable section

open Idealize.ShloMosaic Idealize.ShloMosaic.TcCoe Idealize.SL.Sem
open Stick

/-! # One block of keys in the kernel's sweep, on `R` rows of queries

The vector operations of one block of 256 keys, for any number of rows, and what they hold: the positions are counted over the whole sequence, so that a block starting at
`b` has key `b + l` at lane `l`. -/

namespace Sweep

/-- A block of scores. -/
abbrev Sq (R : ℕ) : Shape := ⟨2, ![R, 256]⟩
/-- One number per row. -/
abbrev Col (R : ℕ) : Shape := ⟨2, ![R, 1]⟩

variable {R : ℕ}

/-- The base-two softplus of a block of scores; `c` multiplies the natural logarithm. -/
def spV (c : Ideal .f32) (z : FVec Ideal (Sq R) .f32) : FVec Ideal (Sq R) .f32 :=
  addf (maximumf z (broadcast (Sq R) (Scalar.ofBits .f32 0x00000000#32)))
    (mulf (log (addf (broadcast (Sq R) (Scalar.ofBits .f32 0x3F800000#32))
      (exp2 (subf (broadcast (Sq R) (Scalar.ofBits .f32 0x00000000#32)) (absf z))))) (broadcast (Sq R) c))

/-- The sums of a block from each lane on, negated by the triangle `N`. -/
def tailV (hb : FTy.bits .bf16 < FTy.bits .f32) (N : FVec Ideal (Sq 256) .bf16) (s : FVec Ideal (Sq R) .f32) :
    FVec Ideal (Sq R) .f32 :=
  matmul (DotDims.plain R 256 256) none (truncf .bf16 s hb) N (constant (Sq R) .f32 0x00000000#32)

/-- The scores of a block that starts at `b`. -/
def IsZ (z : FVec Ideal (Sq R) .f32) (zf : Fin R → ℕ → EReal) (b : ℕ) : Prop :=
  ∀ r l, z (ix2 r l) = zf r (b + l.val)
/-- The exponents of the weights of a block that starts at `b`, for queries that stop at `U`. -/
def IsX (x : FVec Ideal (Sq R) .f32) (zf : Fin R → ℕ → EReal) (U : Fin R → ℕ) (b : ℕ) : Prop :=
  ∀ r l, x (ix2 r l) = zf r (b + l.val) + decay (zf r) (b + l.val) (U r)
/-- What is left of the stick, as a logarithm, down to `b`. -/
def IsN (n : FVec Ideal (Col R) .f32) (zf : Fin R → ℕ → EReal) (U : Fin R → ℕ) (b : ℕ) : Prop :=
  ∀ r, n (ix2 r 0) = decay (zf r) b (U r)
/-- The negated triangle. -/
def IsTri (N : FVec Ideal (Sq 256) .bf16) : Prop :=
  ∀ j l, N (ix2 j l) = (if l.val ≤ j.val then (-1 : EReal) else 0)

theorem spV_coe {c : Ideal .f32} (hc : c = invLn2) {z : FVec Ideal (Sq R) .f32}
    {zf : Fin R → ℕ → EReal} {b : ℕ} (hz : IsZ z zf b) (r : Fin R) (l : Fin 256) :
    spV c z (ix2 r l) = soft (zf r (b + l.val)) := by
  rw [← hz r l]
  subst hc
  pointwise [spV]
  rfl

/-- The sums from each lane on, when the block holds the softplus of what lies below `T`. -/
theorem tailV_coe {hb : FTy.bits .bf16 < FTy.bits .f32} {N : FVec Ideal (Sq 256) .bf16} (hN : IsTri N) {s : FVec Ideal (Sq R) .f32}
    {zf : Fin R → ℕ → EReal} {b : ℕ} {U : Fin R → ℕ} (hU : ∀ r, U r ≤ b + 256)
    (hs : ∀ r l, s (ix2 r l) = (if b + l.val < U r then soft (zf r (b + l.val)) else 0)) (r : Fin R) (l : Fin 256) :
    tailV hb N s (ix2 r l) = decay (zf r) (b + l.val) (U r) := by
  refine (Ideal.matmul_plain_apply _ _ _ _ r l).trans ?_
  have h0 : (constant (Sq R) .f32 0x00000000#32 : FVec Ideal (Sq R) .f32) (ix2 r l) = 0 := by pointwise
  refine (congrArg (· + _) h0).trans ?_
  rw [zero_add, ← block_tail (zf r) 256 b (U r) (hU r) l.val]
  refine Finset.sum_congr rfl fun j _ => ?_
  exact congrArg₂ (· * ·) (hs r j) (hN j l)

/-- The exponents of the newest block of a sweep. -/
def x0 (hb : FTy.bits .bf16 < FTy.bits .f32) (N : FVec Ideal (Sq 256) .bf16) (s z : FVec Ideal (Sq R) .f32) : FVec Ideal (Sq R) .f32 :=
  addf z (tailV hb N s)
/-- The sum of a whole block. -/
def n0 (hb : FTy.bits .bf16 < FTy.bits .f32) (hs : (Sq R).Slices ![0, 0] (Col R)) (N : FVec Ideal (Sq 256) .bf16)
    (s : FVec Ideal (Sq R) .f32) : FVec Ideal (Col R) .f32 :=
  extractStridedSlice (Col R) ![0, 0] (tailV hb N s) hs
/-- The exponents of a later block, below the sum `n` of the newer blocks. -/
def xS (hb : FTy.bits .bf16 < FTy.bits .f32) (hc : (Col R).Broadcasts (Sq R)) (N : FVec Ideal (Sq 256) .bf16)
    (s z : FVec Ideal (Sq R) .f32) (n : FVec Ideal (Col R) .f32) : FVec Ideal (Sq R) .f32 :=
  addf (addf z (tailV hb N s)) (broadcastTo (Sq R) n hc)
/-- The sum of the newer blocks and this one. -/
def nS (hb : FTy.bits .bf16 < FTy.bits .f32) (hs : (Sq R).Slices ![0, 0] (Col R)) (N : FVec Ideal (Sq 256) .bf16)
    (s : FVec Ideal (Sq R) .f32) (n : FVec Ideal (Col R) .f32) : FVec Ideal (Col R) .f32 :=
  addf n (n0 hb hs N s)

/-- A column spread over the lanes. -/
theorem spread_apply {n : ℕ} (hc : (Col R).Broadcasts ⟨2, ![R, n]⟩) (v : FVec Ideal (Col R) .f32) (r : Fin R) (l : Fin n) :
    broadcastTo ⟨2, ![R, n]⟩ v hc (ix2 r l) = v (ix2 r 0) := by
  refine congrArg v (funext fun a => Fin.ext ?_)
  match a with
  | ⟨0, h0⟩ =>
    show (if h : R = 1 then (⟨0, _⟩ : Fin R) else ⟨r.val, _⟩).val = r.val
    split_ifs with h
    · have := r.isLt
      simp only
      omega
    · rfl
  | ⟨1, _⟩ => rfl

theorem x0_coe {hb : FTy.bits .bf16 < FTy.bits .f32} {N : FVec Ideal (Sq 256) .bf16} (hN : IsTri N) {s z : FVec Ideal (Sq R) .f32}
    {zf : Fin R → ℕ → EReal} {b : ℕ} {U : Fin R → ℕ} (hz : IsZ z zf b) (hU : ∀ r, U r ≤ b + 256)
    (hs : ∀ r l, s (ix2 r l) = (if b + l.val < U r then soft (zf r (b + l.val)) else 0)) :
    IsX (x0 hb N s z) zf U b := by
  intro r l
  rw [← hz r l, ← tailV_coe (hb := hb) hN hU hs r l]
  rfl

theorem n0_coe {hb : FTy.bits .bf16 < FTy.bits .f32} {hsl : (Sq R).Slices ![0, 0] (Col R)} {N : FVec Ideal (Sq 256) .bf16} (hN : IsTri N)
    {s : FVec Ideal (Sq R) .f32} {zf : Fin R → ℕ → EReal} {b : ℕ} {U : Fin R → ℕ} (hU : ∀ r, U r ≤ b + 256)
    (hs : ∀ r l, s (ix2 r l) = (if b + l.val < U r then soft (zf r (b + l.val)) else 0)) :
    IsN (n0 hb hsl N s) zf U b := by
  intro r
  have h := tailV_coe (hb := hb) hN hU hs r 0
  rw [show b + (0 : Fin 256).val = b from rfl] at h
  rw [← h]
  refine congrArg (tailV hb N s) (funext fun a => Fin.ext ?_)
  match a with
  | ⟨0, _⟩ => exact Nat.zero_add _
  | ⟨1, _⟩ => rfl

theorem xS_coe {hb : FTy.bits .bf16 < FTy.bits .f32} {hc : (Col R).Broadcasts (Sq R)} {N : FVec Ideal (Sq 256) .bf16} (hN : IsTri N)
    {s z : FVec Ideal (Sq R) .f32} {n : FVec Ideal (Col R) .f32}
    {zf : Fin R → ℕ → EReal} {b : ℕ} {U : Fin R → ℕ} (hz : IsZ z zf b) (hU : ∀ r, b + 256 ≤ U r)
    (hs : ∀ r l, s (ix2 r l) = soft (zf r (b + l.val))) (hn : IsN n zf U (b + 256)) :
    IsX (xS hb hc N s z n) zf U b := by
  intro r l
  have ht := tailV_coe (hb := hb) (U := fun _ => b + 256) (zf := zf) hN (fun _ => le_rfl) (fun r l => by
    rw [if_pos (by omega)]; exact hs r l) r l
  have e : zf r (b + l.val) + decay (zf r) (b + l.val) (U r)
      = (zf r (b + l.val) + decay (zf r) (b + l.val) (b + 256)) + decay (zf r) (b + 256) (U r) := by
    rw [decay_split (zf r) (show b + l.val ≤ b + 256 by omega) (hU r), add_comm (decay _ _ (U r)), add_assoc]
  rw [e, ← hz r l, ← ht, ← hn r]
  exact congrArg (z (ix2 r l) + tailV hb N s (ix2 r l) + ·) (spread_apply hc n r l)

theorem nS_coe {hb : FTy.bits .bf16 < FTy.bits .f32} {hsl : (Sq R).Slices ![0, 0] (Col R)} {N : FVec Ideal (Sq 256) .bf16} (hN : IsTri N)
    {s : FVec Ideal (Sq R) .f32} {n : FVec Ideal (Col R) .f32} {zf : Fin R → ℕ → EReal} {b : ℕ} {U : Fin R → ℕ} (hU : ∀ r, b + 256 ≤ U r)
    (hs : ∀ r l, s (ix2 r l) = soft (zf r (b + l.val))) (hn : IsN n zf U (b + 256)) :
    IsN (nS hb hsl N s n) zf U b := by
  intro r
  have ht := n0_coe (hb := hb) (hsl := hsl) (U := fun _ => b + 256) (zf := zf) hN (fun _ => le_rfl) (fun r l => by
    rw [if_pos (by omega)]; exact hs r l) r
  rw [decay_split (zf r) (show b ≤ b + 256 by omega) (hU r), ← hn r, ← ht]
  rfl

/-- A softplus kept below the diagonal. -/
theorem masked_sp {m : IVec (Sq R) 1} {U : Fin R → ℕ} {b : ℕ} (hm : ∀ r l, m (ix2 r l) = if b + l.val < U r then 1#1 else 0#1)
    {s : FVec Ideal (Sq R) .f32} {zf : Fin R → ℕ → EReal} (hs : ∀ r l, s (ix2 r l) = soft (zf r (b + l.val)))
    (r : Fin R) (l : Fin 256) :
    select m s (broadcast (Sq R) (Scalar.ofBits .f32 0x00000000#32)) (ix2 r l)
      = (if b + l.val < U r then soft (zf r (b + l.val)) else 0) := by
  rw [← hs r l]
  pointwise
  rw [hm]
  split_ifs <;> simp_all [Scalar.select]

/-- The weights of a block: what lies at or past `U` has none. -/
def IsW (w : FVec Ideal (Sq R) .bf16) (zf : Fin R → ℕ → EReal) (U : Fin R → ℕ) (b : ℕ) : Prop :=
  ∀ r l, w (ix2 r l) = (if b + l.val < U r then weight (zf r) (U r) (b + l.val) else 0)

theorem exp2_coe {hb : FTy.bits .bf16 < FTy.bits .f32} {x : FVec Ideal (Sq R) .f32} {zf : Fin R → ℕ → EReal} {U : Fin R → ℕ} {b : ℕ}
    (hx : IsX x zf U b) (hU : ∀ r, b + 256 ≤ U r) : IsW (truncf .bf16 (exp2 x) hb) zf U b := by
  intro r l
  rw [if_pos (by have := hU r; omega)]
  have e : Ideal.exp2 (x (ix2 r l)) = weight (zf r) (U r) (b + l.val) := by rw [hx r l]; rfl
  rw [← e]
  rfl

theorem masked_exp2_coe {hb : FTy.bits .bf16 < FTy.bits .f32} {m : IVec (Sq R) 1} {x : FVec Ideal (Sq R) .f32}
    {zf : Fin R → ℕ → EReal} {U : Fin R → ℕ} {b : ℕ} (hm : ∀ r l, m (ix2 r l) = if b + l.val < U r then 1#1 else 0#1)
    (hx : IsX x zf U b) :
    IsW (truncf .bf16 (select m (exp2 x) (broadcast (Sq R) (Scalar.ofBits .f32 0x00000000#32))) hb) zf U b := by
  intro r l
  have e : Ideal.exp2 (x (ix2 r l)) = weight (zf r) (U r) (b + l.val) := by rw [hx r l]; rfl
  rw [← e]
  pointwise
  rw [hm]
  split_ifs
  · rfl
  · rfl

/-- The weighted values of `n` lanes from `b` on. -/
theorem pv_coe {n : ℕ} {w : FVec Ideal ⟨2, ![R, n]⟩ .bf16} {v : FVec Ideal ⟨2, ![n, 128]⟩ .bf16}
    {zf : Fin R → ℕ → EReal} {vf : ℕ → Fin 128 → EReal} {U : Fin R → ℕ} {b : ℕ} (hU : ∀ r, U r ≤ b + n)
    (hw : ∀ r l, w (ix2 r l) = (if b + l.val < U r then weight (zf r) (U r) (b + l.val) else 0))
    (hv : ∀ l d, v (ix2 l d) = vf (b + l.val) d) (r : Fin R) (d : Fin 128) :
    matmul (DotDims.plain R n 128) none w v (constant ⟨2, ![R, 128]⟩ .f32 0x00000000#32) (ix2 r d)
      = mix (zf r) (fun p => vf p d) b (U r) := by
  refine (Ideal.matmul_plain_apply _ _ _ _ r d).trans ?_
  have h0 : (constant ⟨2, ![R, 128]⟩ .f32 0x00000000#32 : FVec Ideal ⟨2, ![R, 128]⟩ .f32) (ix2 r d) = 0 := by pointwise
  refine (congrArg (· + _) h0).trans ?_
  rw [zero_add, ← block_mix (zf r) (fun p => vf p d) n b (U r) (hU r)]
  refine Finset.sum_congr rfl fun j _ => ?_
  exact congrArg₂ (· * ·) (hw r j) (hv j d)

/-- The scores of a block of keys. -/
theorem z_coe {q : FVec Ideal ⟨2, ![R, 128]⟩ .bf16} {k : FVec Ideal ⟨2, ![256, 128]⟩ .bf16}
    {qf : Fin R → Fin 128 → EReal} {kf : ℕ → Fin 128 → EReal} {b : ℕ}
    (hq : ∀ r d, q (ix2 r d) = qf r d) (hk : ∀ l d, k (ix2 l d) = kf (b + l.val) d) :
    IsZ (matmul (DotDims.transposedRhs R 128 256) none q k (constant (Sq R) .f32 0x00000000#32))
      (fun r p => ∑ d, qf r d * kf p d) b := by
  intro r l
  refine (Ideal.matmul_transposedRhs_apply _ _ _ _ r l).trans ?_
  have h0 : (constant (Sq R) .f32 0x00000000#32 : FVec Ideal (Sq R) .f32) (ix2 r l) = 0 := by pointwise
  refine (congrArg (· + _) h0).trans ?_
  rw [zero_add]
  refine Finset.sum_congr rfl fun j _ => ?_
  exact congrArg₂ (· * ·) (hq r j) (hk l j)

end Sweep
-- ==== Proof.Running.lean ====
module

public import proofs.«01_k».proof.Proof.Sweep

@[expose] public section

set_option maxRecDepth 16384

noncomputable section

open Idealize.ShloMosaic
open Stick

/-! # The reference's running sum from the end -/

/-- A fold that adds is the sum. -/
theorem fold_sum {N : ℕ} (g : Fin N → EReal) : (List.finRange N).foldl (fun r n => r + g n) 0 = ∑ n, g n := by
  rw [Fin.sum_univ_def, List.sum_eq_foldl, List.foldl_map]

/-- The places of a window that is one wide on its first two axes. -/
def winEquiv (n : ℕ) : Fin n ≃ (⟨3, ![1, 1, n]⟩ : Shape).Idx where
  toFun k := ix3 0 0 k
  invFun w := ⟨(w 2).val, (w 2).isLt⟩
  left_inv k := rfl
  right_inv w := funext fun a => by
    match a with
    | ⟨0, _⟩ => exact Fin.ext (Nat.lt_one_iff.mp (w 0).isLt).symm
    | ⟨1, _⟩ => exact Fin.ext (Nat.lt_one_iff.mp (w 1).isLt).symm
    | ⟨2, _⟩ => rfl

theorem cum_coe {A B n : ℕ} {hi : Fin 3 → ℕ} {u : Shape} (x : FVec Ideal ⟨3, ![A, B, n]⟩ .f32) (init : FVec Ideal u .f32)
    (h : (⟨3, ![A, B, n]⟩ : Shape).ReduceWindows ![1, 1, n] ![1, 1, 1] ![0, 0, 0] hi ⟨3, ![A, B, n]⟩) (hu : 0 < u.numel)
    (h0 : init (Shape.Idx.first hu) = 0) (a : Fin A) (b : Fin B) (f : ℕ → EReal) (hx : ∀ k : Fin n, x (ix3 a b k) = f k.val) (s : Fin n) :
    Host.reduceWindowAdd ![1, 1, n] ![1, 1, 1] ![0, 0, 0] hi x init h hu (ix3 a b s) = (∑ j ∈ Finset.Ico s.val n, f j) := by
  have hr : ∑ j ∈ Finset.Ico s.val n, f j = ∑ k : Fin n, (if s.val + k.val < n then f (s.val + k.val) else 0) := by
    rw [Fin.sum_univ_eq_sum_range (fun k => if s.val + k < n then f (s.val + k) else 0) n, ← Finset.sum_filter, Finset.sum_Ico_eq_sum_range]
    refine Finset.sum_congr ?_ fun _ _ => rfl
    ext j
    simp only [Finset.mem_filter, Finset.mem_range]
    omega
  rw [hr]
  refine Eq.trans (show _ = (List.finRange (⟨3, ![1, 1, n]⟩ : Shape).numel).foldl (fun r m => r + _) (init (Shape.Idx.first hu)) from rfl) ?_
  rw [h0, fold_sum]
  rw [← Equiv.sum_comp (⟨3, ![1, 1, n]⟩ : Shape).rowMajor, ← Equiv.sum_comp (winEquiv n)]
  refine Finset.sum_congr rfl fun k _ => ?_
  simp only [Equiv.symm_apply_apply]
  have e0 : ((winEquiv n k) 0).val = 0 := rfl
  have e1 : ((winEquiv n k) 1).val = 0 := rfl
  have e2 : ((winEquiv n k) 2).val = k.val := rfl
  by_cases hk : s.val + k.val < n
  · rw [if_pos hk, dif_pos (by
      intro d
      match d with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨Nat.zero_le _, by show s.val * 1 + k.val - 0 < n; omega⟩)]
    refine Eq.trans (congrArg x (funext fun d => ?_)) (hx ⟨s.val + k.val, hk⟩)
    match d with
    | ⟨0, _⟩ => exact Fin.ext (by show a.val * 1 + 0 - 0 = a.val; omega)
    | ⟨1, _⟩ => exact Fin.ext (by show b.val * 1 + 0 - 0 = b.val; omega)
    | ⟨2, _⟩ => exact Fin.ext (by show s.val * 1 + k.val - 0 = s.val + k.val; omega)
  · rw [if_neg hk, dif_neg (by
      intro hd
      have h2 : s.val * 1 + k.val - 0 < n := (hd 2).2
      omega)]
-- ==== Proof.Loads.lean ====
module

public import proofs.«01_k».proof.Proof.Gen.KernelIdeal.Value
public import proofs.«01_k».proof.Proof.Sweep
public import Idealize.ShloMosaic.Lib.WholeRead

@[expose] public section

set_option maxRecDepth 16384

noncomputable section

open Idealize.ShloMosaic Idealize.ShloMosaic.TcCoe Idealize.SL.Sem
open Stick Sweep

/-! # Where the kernel reads, and what it reads there -/

namespace Cert.KernelIdeal.Gen

/-- The long sweep makes one trip per older block of queries. -/
theorem trips1 : ∀ i : grid0.Coords, (k0_t1_loop i).trips = (i 1).val := by decide +kernel
/-- The remainder loop has no trip. -/
theorem trips2 : ∀ i : grid0.Coords, (k0_t2_loop i).trips = 0 := by decide +kernel

theorem off9 : ∀ (i : grid0.Coords) (k : Fin (k0_t1_loop i).trips) (r : Fin 4),
    k0_off9 i k (BitVec.ofNat 32 r.val) = ![1024 * ((i 1).val - k.val - 1) + 256 * (3 - r.val), 0] := by decide +kernel
theorem off10 : ∀ (i : grid0.Coords) (k : Fin (k0_t1_loop i).trips) (r : Fin 4),
    k0_off10 i k (BitVec.ofNat 32 r.val) = ![1024 * ((i 1).val - k.val - 1) + 256 * (3 - r.val), 128] := by decide +kernel
theorem off11 : ∀ (i : grid0.Coords) (k : Fin (k0_t1_loop i).trips),
    k0_off11 i k = ![1024 * ((i 1).val - k.val - 1), 0] := by decide +kernel
theorem off12 : ∀ (i : grid0.Coords) (k : Fin (k0_t1_loop i).trips),
    k0_off12 i k = ![1024 * ((i 1).val - k.val - 1), 128] := by decide +kernel
theorem off1 : ∀ (i : grid0.Coords) (r m : Fin 4), m ≤ r →
    k0_off1 i (BitVec.ofNat 32 r.val) (BitVec.ofNat 32 m.val) = ![1024 * (i 1).val + 256 * (r.val - m.val), 0] := by decide +kernel
theorem off2 : ∀ (i : grid0.Coords) (r m : Fin 4), m ≤ r →
    k0_off2 i (BitVec.ofNat 32 r.val) (BitVec.ofNat 32 m.val) = ![1024 * (i 1).val + 256 * (r.val - m.val), 128] := by decide +kernel
theorem off3 : ∀ i : grid0.Coords, k0_off3 i = ![1024 * (i 1).val, 0] := by decide +kernel
theorem off4 : ∀ i : grid0.Coords, k0_off4 i = ![1024 * (i 1).val, 128] := by decide +kernel
theorem off5 : ∀ i : grid0.Coords, k0_off5 i = ![1024 * (i 1).val, 0] := by decide +kernel
theorem off6 : ∀ i : grid0.Coords, k0_off6 i = ![1024 * (i 1).val, 128] := by decide +kernel
theorem off7 : ∀ i : grid0.Coords, k0_off7 i = ![1024 * (i 1).val, 0] := by decide +kernel
theorem off8 : ∀ i : grid0.Coords, k0_off8 i = ![1024 * (i 1).val, 128] := by decide +kernel

/-- The contents of a table. -/
def IsTable {M N : ℕ} {φ : FTy} (X : FVec Ideal ⟨2, ![M, N]⟩ φ) (K : ℕ → ℕ → EReal) : Prop :=
  ∀ p c, X (ix2 p c) = K p.val c.val

/-- A load of a block of a table. -/
theorem load_coe {M N m n : ℕ} {arg : Memref sig .tc .vmem ⟨2, ![M, N]⟩ .bf16} (h : arg.IsWhole)
    {X : FVec Ideal ⟨2, ![M, N]⟩ .bf16} {K : ℕ → ℕ → EReal} (hX : IsTable X K) {off : Fin 2 → ℕ} {o0 o1 : ℕ} (he : off = ![o0, o1])
    (inb : ∀ a, off a + (![m, n] : Fin 2 → ℕ) a ≤ (![M, N] : Fin 2 → ℕ) a) (r : Fin m) (c : Fin n) :
    View.readAt (Elt Ideal) arg.view (Rect.unit (s := ⟨2, ![M, N]⟩) off ![m, n] inb).toLoadRect (h.unread X) (ix2 r c)
      = K (o0 + r.val) (o1 + c.val) := by
  subst he
  have h0 : o0 + m ≤ M := inb 0
  have h1 : o1 + n ≤ N := inb 1
  rw [h.readAt_unread]
  refine Eq.trans (congrArg X (funext fun a => Fin.ext ?_)) (hX ⟨o0 + r.val, by omega⟩ ⟨o1 + c.val, by omega⟩)
  match a with
  | ⟨0, _⟩ => show o0 + 1 * r.val = o0 + r.val; omega
  | ⟨1, _⟩ => show o1 + 1 * c.val = o1 + c.val; omega

/-- The score of query row `r` with the key at position `p`, of head `hh` of the two. -/
def score (Q K : ℕ → ℕ → EReal) (hh r p : ℕ) : EReal := ∑ d : Fin 128, Q r (128 * hh + d.val) * K p (128 * hh + d.val)

/-- The constant that the kernel multiplies natural logarithms by. -/
abbrev log2e : Ideal .f32 := Named.named κ "log2e" 0x3FB8AA3B#32

theorem log2e_eq : log2e = invLn2 := rfl

end Cert.KernelIdeal.Gen
-- ==== Proof.Rows.lean ====
module

public import proofs.«01_k».proof.Proof.Loads

@[expose] public section

set_option maxRecDepth 16384

noncomputable section

open Idealize.ShloMosaic Idealize.ShloMosaic.TcCoe Idealize.SL.Sem
open Stick Sweep

/-! # Blocks of weights side by side, and the chain of four whole blocks -/

namespace Cert.KernelIdeal.Gen

/-- A weight named by its position in its block is the weight at its place in the row. -/
theorem place {x : EReal} {f : ℕ → EReal} {T p q : ℕ} (h : x = (if p < T then f p else 0)) (e : p = q) :
    x = (if q < T then f q else 0) := e ▸ h

/-- 4 blocks of weights side by side, oldest first, are one row of weights. -/
theorem cat4_coe {zf : Fin 1024 → ℕ → EReal} {U : Fin 1024 → ℕ} {b : ℕ} {w0 w1 w2 w3 : FVec Ideal (Sq 1024) .bf16}
    (h0 : IsW w0 zf U b) (h1 : IsW w1 zf U (b + 256)) (h2 : IsW w2 zf U (b + 512)) (h3 : IsW w3 zf U (b + 768))
    (hc : Shape.Concatenates [Sq 1024, Sq 1024, Sq 1024, Sq 1024] ⟨2, ![1024, 1024]⟩ 1) (r : Fin 1024) (l : Fin 1024) :
    concatenate ⟨2, ![1024, 1024]⟩ 1 [⟨Sq 1024, w0⟩, ⟨Sq 1024, w1⟩, ⟨Sq 1024, w2⟩, ⟨Sq 1024, w3⟩] hc (ix2 r l)
      = (if b + l.val < U r then weight (zf r) (U r) (b + l.val) else 0) := by
  pointwise
  split
  · exact place (h0 r _) rfl
  split
  · exact place (h1 r _) (by simp only; omega)
  split
  · exact place (h2 r _) (by simp only; omega)
  · exact place (h3 r _) (by simp only; omega)

/-- 2 blocks of weights side by side, oldest first, are one row of weights. -/
theorem cat2_small {zf : Fin 256 → ℕ → EReal} {U : Fin 256 → ℕ} {b : ℕ} {w0 w1 : FVec Ideal (Sq 256) .bf16}
    (h0 : IsW w0 zf U b) (h1 : IsW w1 zf U (b + 256))
    (hc : Shape.Concatenates [Sq 256, Sq 256] ⟨2, ![256, 512]⟩ 1) (r : Fin 256) (l : Fin 512) :
    concatenate ⟨2, ![256, 512]⟩ 1 [⟨Sq 256, w0⟩, ⟨Sq 256, w1⟩] hc (ix2 r l)
      = (if b + l.val < U r then weight (zf r) (U r) (b + l.val) else 0) := by
  pointwise
  split
  · exact place (h0 r _) rfl
  · exact place (h1 r _) (by simp only; omega)

/-- 3 blocks of weights side by side, oldest first, are one row of weights. -/
theorem cat3_small {zf : Fin 256 → ℕ → EReal} {U : Fin 256 → ℕ} {b : ℕ} {w0 w1 w2 : FVec Ideal (Sq 256) .bf16}
    (h0 : IsW w0 zf U b) (h1 : IsW w1 zf U (b + 256)) (h2 : IsW w2 zf U (b + 512))
    (hc : Shape.Concatenates [Sq 256, Sq 256, Sq 256] ⟨2, ![256, 768]⟩ 1) (r : Fin 256) (l : Fin 768) :
    concatenate ⟨2, ![256, 768]⟩ 1 [⟨Sq 256, w0⟩, ⟨Sq 256, w1⟩, ⟨Sq 256, w2⟩] hc (ix2 r l)
      = (if b + l.val < U r then weight (zf r) (U r) (b + l.val) else 0) := by
  pointwise
  split
  · exact place (h0 r _) rfl
  split
  · exact place (h1 r _) (by simp only; omega)
  · exact place (h2 r _) (by simp only; omega)

/-- 4 blocks of weights side by side, oldest first, are one row of weights. -/
theorem cat4_small {zf : Fin 256 → ℕ → EReal} {U : Fin 256 → ℕ} {b : ℕ} {w0 w1 w2 w3 : FVec Ideal (Sq 256) .bf16}
    (h0 : IsW w0 zf U b) (h1 : IsW w1 zf U (b + 256)) (h2 : IsW w2 zf U (b + 512)) (h3 : IsW w3 zf U (b + 768))
    (hc : Shape.Concatenates [Sq 256, Sq 256, Sq 256, Sq 256] ⟨2, ![256, 1024]⟩ 1) (r : Fin 256) (l : Fin 1024) :
    concatenate ⟨2, ![256, 1024]⟩ 1 [⟨Sq 256, w0⟩, ⟨Sq 256, w1⟩, ⟨Sq 256, w2⟩, ⟨Sq 256, w3⟩] hc (ix2 r l)
      = (if b + l.val < U r then weight (zf r) (U r) (b + l.val) else 0) := by
  pointwise
  split
  · exact place (h0 r _) rfl
  split
  · exact place (h1 r _) (by simp only; omega)
  split
  · exact place (h2 r _) (by simp only; omega)
  · exact place (h3 r _) (by simp only; omega)

section chain

variable {R : ℕ} {N : FVec Ideal (Sq 256) .bf16} {zf : Fin R → ℕ → EReal} {b : ℕ} {U : Fin R → ℕ}
  (hb : FTy.bits .bf16 < FTy.bits .f32) (hs : (Sq R).Slices ![0, 0] (Col R)) (hc : (Col R).Broadcasts (Sq R))

/-- The exponents and the sum of four whole blocks from `b` on, newest first. -/
theorem four {z0 z1 z2 z3 : FVec Ideal (Sq R) .f32} (hN : IsTri N) (hU : ∀ r, U r = b + 1024)
    (h0 : IsZ z0 zf (b + 768)) (h1 : IsZ z1 zf (b + 512)) (h2 : IsZ z2 zf (b + 256)) (h3 : IsZ z3 zf b) :
    IsX (Sweep.x0 hb N (spV log2e z0) z0) zf U (b + 768)
    ∧ IsX (xS hb hc N (spV log2e z1) z1 (n0 hb hs N (spV log2e z0))) zf U (b + 512)
    ∧ IsX (xS hb hc N (spV log2e z2) z2 (nS hb hs N (spV log2e z1) (n0 hb hs N (spV log2e z0)))) zf U (b + 256)
    ∧ IsX (xS hb hc N (spV log2e z3) z3 (nS hb hs N (spV log2e z2) (nS hb hs N (spV log2e z1) (n0 hb hs N (spV log2e z0))))) zf U b
    ∧ IsN (nS hb hs N (spV log2e z3) (nS hb hs N (spV log2e z2) (nS hb hs N (spV log2e z1) (n0 hb hs N (spV log2e z0))))) zf U b := by
  have s0 : ∀ r l, spV log2e z0 (ix2 r l)
      = (if b + 768 + l.val < U r then soft (zf r (b + 768 + l.val)) else 0) := fun r l => by
    rw [if_pos (by rw [hU]; omega)]; exact spV_coe log2e_eq h0 r l
  have U0 : ∀ r, U r ≤ b + 768 + 256 := fun r => by rw [hU]
  have a0 := n0_coe (hb := hb) (hsl := hs) hN U0 s0
  have a1 := nS_coe (hb := hb) (hsl := hs) (b := b + 512) hN (fun r => by rw [hU]; omega) (spV_coe log2e_eq h1) a0
  have a2 := nS_coe (hb := hb) (hsl := hs) (b := b + 256) hN (fun r => by rw [hU]; omega) (spV_coe log2e_eq h2) a1
  have a3 := nS_coe (hb := hb) (hsl := hs) (b := b) hN (fun r => by rw [hU]; omega) (spV_coe log2e_eq h3) a2
  exact ⟨Sweep.x0_coe hN h0 U0 s0, xS_coe hN h1 (fun r => by rw [hU]; omega) (spV_coe log2e_eq h1) a0,
    xS_coe hN h2 (fun r => by rw [hU]; omega) (spV_coe log2e_eq h2) a1,
    xS_coe hN h3 (fun r => by rw [hU]; omega) (spV_coe log2e_eq h3) a2, a3⟩

end chain

end Cert.KernelIdeal.Gen
-- ==== Proof.Trip.lean ====
module

public import proofs.«01_k».proof.Proof.Rows

@[expose] public section

set_option maxRecDepth 16384

noncomputable section

open Idealize.ShloMosaic Idealize.ShloMosaic.TcCoe Idealize.SL.Sem
open Stick Sweep

/-! # One trip of the long sweep: four blocks of keys below a position, for both heads -/

namespace Cert.KernelIdeal.Gen

variable {i : grid0.Coords} {arg2 : Memref sig .tc .vmem S1024x256 .bf16} (harg2 : arg2.IsWhole)
  {arg3 : Memref sig .tc .vmem S8192x256 .bf16} (harg3 : arg3.IsWhole) {arg4 : Memref sig .tc .vmem S8192x256 .bf16} (harg4 : arg4.IsWhole)
  {v1 : FVec Ideal S256x256 .bf16} {X0 : FVec Ideal S1024x256 .bf16} {X1 X2 : FVec Ideal S8192x256 .bf16}
  {Q K V : ℕ → ℕ → EReal} (hN : IsTri v1) (hQ : IsTable X0 Q) (hK : IsTable X1 K) (hV : IsTable X2 V) (k : Fin (k0_t1_loop i).trips)

/-- The first key of the trip's four blocks. -/
abbrev base (i : grid0.Coords) (k : Fin (k0_t1_loop i).trips) : ℕ := 1024 * ((i 1).val - k.val - 1)

include hQ hK in
/-- The scores of head 0 with block `n`, newest first. -/
theorem z_head0 (n : Fin 4) (f0 : ∀ a, (k0_off9 i k (BitVec.ofNat 32 n.val)) a + S256x128.size a ≤ S8192x256.size a)
    (f1 : ∀ a, (![0, 0] : Fin 2 → ℕ) a + S1024x128.size a ≤ S1024x256.size a) :
    IsZ (R := 1024) (matmul (φ₁ := .bf16) (φ₂ := .bf16) (DotDims.transposedRhs 1024 128 256) none
        (View.readAt (Elt Ideal) arg2.view (Rect.unit (s := S1024x256) ![0, 0] S1024x128.size f1).toLoadRect (harg2.unread X0))
        (View.readAt (Elt Ideal) arg3.view (Rect.unit (s := S8192x256) (k0_off9 i k (BitVec.ofNat 32 n.val)) S256x128.size f0).toLoadRect (harg3.unread X1))
        (constant (Sq 1024) .f32 0x00000000#32))
      (fun r p => score Q K 0 r.val p) (base i k + 256 * (3 - n.val)) := by
  refine z_coe (qf := fun r d => Q r.val (128 * 0 + d.val)) (kf := fun p d => K p (128 * 0 + d.val)) (fun r d => ?_) (fun l d => ?_)
  · exact (load_coe harg2 hQ rfl f1 r d).trans (by simp)
  · exact (load_coe harg3 hK (off9 i k n) f0 l d).trans (by simp)

include hQ hK in
/-- The scores of head 1. -/
theorem z_head1 (n : Fin 4) (f0 : ∀ a, (k0_off10 i k (BitVec.ofNat 32 n.val)) a + S256x128.size a ≤ S8192x256.size a)
    (f1 : ∀ a, (![0, 128] : Fin 2 → ℕ) a + S1024x128.size a ≤ S1024x256.size a) :
    IsZ (R := 1024) (matmul (φ₁ := .bf16) (φ₂ := .bf16) (DotDims.transposedRhs 1024 128 256) none
        (View.readAt (Elt Ideal) arg2.view (Rect.unit (s := S1024x256) ![0, 128] S1024x128.size f1).toLoadRect (harg2.unread X0))
        (View.readAt (Elt Ideal) arg3.view (Rect.unit (s := S8192x256) (k0_off10 i k (BitVec.ofNat 32 n.val)) S256x128.size f0).toLoadRect (harg3.unread X1))
        (constant (Sq 1024) .f32 0x00000000#32))
      (fun r p => score Q K 1 r.val p) (base i k + 256 * (3 - n.val)) := by
  refine z_coe (qf := fun r d => Q r.val (128 * 1 + d.val)) (kf := fun p d => K p (128 * 1 + d.val)) (fun r d => ?_) (fun l d => ?_)
  · exact (load_coe harg2 hQ rfl f1 r d).trans (by simp)
  · exact (load_coe harg3 hK (off10 i k n) f0 l d).trans (by simp)

include hN hQ hK hV in
/-- The weighted values of head 0. -/
theorem pv_head0 (r : Fin 1024) (d : Fin 128) :
    trip_k0_t1.sl.v994 (F := Ideal) i arg2 arg3 arg4 v1 (harg2.unread X0) (harg3.unread X1) (harg4.unread X2) k (ix2 r d)
      = mix (score Q K 0 r.val) (fun p => V p (128 * 0 + d.val)) (base i k) (base i k + 1024) := by
  have z0 := z_head0 harg2 harg3 hQ hK k 0 (k0_off9_inb i k 0) (by decide)
  have z1 := z_head0 harg2 harg3 hQ hK k 1 (k0_off9_inb i k 1) (by decide)
  have z2 := z_head0 harg2 harg3 hQ hK k 2 (k0_off9_inb i k 2) (by decide)
  have z3 := z_head0 harg2 harg3 hQ hK k 3 (k0_off9_inb i k 3) (by decide)
  obtain ⟨e0, e1, e2, e3, e4⟩ := four bitsLt_bf16_f32 slices_S1024x256_o0_0_S1024x1 broadcasts_S1024x1_S1024x256
    (U := fun _ => base i k + 1024) hN (fun _ => rfl) z0 z1 z2 z3
  exact pv_coe (zf := fun r p => score Q K 0 r.val p) (vf := fun p d => V p (128 * 0 + d.val)) (U := fun _ => base i k + 1024) (b := base i k)
    (fun _ => le_rfl)
    (cat4_coe (exp2_coe e3 (fun _ => by omega)) (exp2_coe e2 (fun _ => by omega)) (exp2_coe e1 (fun _ => by omega)) (exp2_coe e0 (fun _ => by omega))
      concatenates_S1024x256_S1024x256_S1024x256_S1024x256_S1024x1024_d1)
    (fun l d => (load_coe harg4 hV (off11 i k) (k0_off11_inb i k) l d).trans (by simp)) r d

include hN hQ hK in
/-- The sum of head 0's four blocks. -/
theorem sum_head0 (r : Fin 1024) :
    trip_k0_t1.sl.r_12 (F := Ideal) i arg2 arg3 v1 (harg2.unread X0) (harg3.unread X1) k (ix2 r 0)
      = decay (score Q K 0 r.val) (base i k) (base i k + 1024) := by
  have z0 := z_head0 harg2 harg3 hQ hK k 0 (k0_off9_inb i k 0) (by decide)
  have z1 := z_head0 harg2 harg3 hQ hK k 1 (k0_off9_inb i k 1) (by decide)
  have z2 := z_head0 harg2 harg3 hQ hK k 2 (k0_off9_inb i k 2) (by decide)
  have z3 := z_head0 harg2 harg3 hQ hK k 3 (k0_off9_inb i k 3) (by decide)
  obtain ⟨e0, e1, e2, e3, e4⟩ := four bitsLt_bf16_f32 slices_S1024x256_o0_0_S1024x1 broadcasts_S1024x1_S1024x256
    (U := fun _ => base i k + 1024) hN (fun _ => rfl) z0 z1 z2 z3
  exact e4 r

include hN hQ hK hV in
/-- The weighted values of head 1. -/
theorem pv_head1 (r : Fin 1024) (d : Fin 128) :
    trip_k0_t1.sl.v1023 (F := Ideal) i arg2 arg3 arg4 v1 (harg2.unread X0) (harg3.unread X1) (harg4.unread X2) k (ix2 r d)
      = mix (score Q K 1 r.val) (fun p => V p (128 * 1 + d.val)) (base i k) (base i k + 1024) := by
  have z0 := z_head1 harg2 harg3 hQ hK k 0 (k0_off10_inb i k 0) (by decide)
  have z1 := z_head1 harg2 harg3 hQ hK k 1 (k0_off10_inb i k 1) (by decide)
  have z2 := z_head1 harg2 harg3 hQ hK k 2 (k0_off10_inb i k 2) (by decide)
  have z3 := z_head1 harg2 harg3 hQ hK k 3 (k0_off10_inb i k 3) (by decide)
  obtain ⟨e0, e1, e2, e3, e4⟩ := four bitsLt_bf16_f32 slices_S1024x256_o0_0_S1024x1 broadcasts_S1024x1_S1024x256
    (U := fun _ => base i k + 1024) hN (fun _ => rfl) z0 z1 z2 z3
  exact pv_coe (zf := fun r p => score Q K 1 r.val p) (vf := fun p d => V p (128 * 1 + d.val)) (U := fun _ => base i k + 1024) (b := base i k)
    (fun _ => le_rfl)
    (cat4_coe (exp2_coe e3 (fun _ => by omega)) (exp2_coe e2 (fun _ => by omega)) (exp2_coe e1 (fun _ => by omega)) (exp2_coe e0 (fun _ => by omega))
      concatenates_S1024x256_S1024x256_S1024x256_S1024x256_S1024x1024_d1)
    (fun l d => (load_coe harg4 hV (off12 i k) (k0_off12_inb i k) l d).trans (by simp)) r d

include hN hQ hK in
/-- The sum of head 1's four blocks. -/
theorem sum_head1 (r : Fin 1024) :
    trip_k0_t1.sl.r_18 (F := Ideal) i arg2 arg3 v1 (harg2.unread X0) (harg3.unread X1) k (ix2 r 0)
      = decay (score Q K 1 r.val) (base i k) (base i k + 1024) := by
  have z0 := z_head1 harg2 harg3 hQ hK k 0 (k0_off10_inb i k 0) (by decide)
  have z1 := z_head1 harg2 harg3 hQ hK k 1 (k0_off10_inb i k 1) (by decide)
  have z2 := z_head1 harg2 harg3 hQ hK k 2 (k0_off10_inb i k 2) (by decide)
  have z3 := z_head1 harg2 harg3 hQ hK k 3 (k0_off10_inb i k 3) (by decide)
  obtain ⟨e0, e1, e2, e3, e4⟩ := four bitsLt_bf16_f32 slices_S1024x256_o0_0_S1024x1 broadcasts_S1024x1_S1024x256
    (U := fun _ => base i k + 1024) hN (fun _ => rfl) z0 z1 z2 z3
  exact e4 r

end Cert.KernelIdeal.Gen
-- ==== Proof.State.lean ====
module

public import proofs.«01_k».proof.Proof.Trip
public import Idealize.ShloMosaic.Lib.WritesUnit

@[expose] public section

set_option maxRecDepth 16384

noncomputable section

open Idealize.ShloMosaic Idealize.ShloMosaic.TcCoe Idealize.SL.Sem
open Stick Sweep

/-! # What the two scratch arrays hold between the sweeps

Row `r` of head `h`, down to key `lo`: the weighted values so far, and the logarithm of what is left of
the stick. -/

namespace Sweep

/-- The weighted values after some blocks: the old ones, and the new ones under what was left. -/
theorem acc_coe {R : ℕ} {old : FVec Ideal ⟨3, ![1, R, 128]⟩ .f32} {car : FVec Ideal ⟨3, ![1, R, 1]⟩ .f32} {pv : FVec Ideal ⟨2, ![R, 128]⟩ .f32}
    {h1 : (⟨3, ![1, R, 128]⟩ : Shape).ShapeCasts ⟨2, ![R, 128]⟩} {h2 : (⟨3, ![1, R, 1]⟩ : Shape).ShapeCasts (Col R)}
    {h3 : (Col R).Broadcasts ⟨2, ![R, 128]⟩} {h4 : (⟨2, ![R, 128]⟩ : Shape).ShapeCasts ⟨3, ![1, R, 128]⟩}
    {z v : ℕ → EReal} {a b T : ℕ} (hab : a ≤ b) (hbT : b ≤ T) {r : Fin R} {d : Fin 128}
    (hold : old (ix3 0 r d) = mix z v b T) (hcar : car (ix3 0 r 0) = decay z b T)
    (hpv : pv (ix2 r d) = mix z v a b) :
    shapeCast ⟨3, ![1, R, 128]⟩ (addf (shapeCast ⟨2, ![R, 128]⟩ old h1)
      (mulf (broadcastTo ⟨2, ![R, 128]⟩ (exp2 (shapeCast (Col R) car h2)) h3) pv)) h4 (ix3 0 r d)
      = mix z v a T := by
  have e1 : shapeCast ⟨2, ![R, 128]⟩ old h1 (ix2 r d) = old (ix3 0 r d) :=
    (shapeCast_dropUnit_apply ![R, 128] old h1 (ix2 r d)).trans (congrArg old (funext fun a => by
      match a with | ⟨0, _⟩ => rfl | ⟨1, _⟩ => rfl | ⟨2, _⟩ => rfl))
  have e2 : shapeCast (Col R) car h2 (ix2 r 0) = car (ix3 0 r 0) :=
    (shapeCast_dropUnit_apply ![R, 1] car h2 (ix2 r 0)).trans (congrArg car (funext fun a => by
      match a with | ⟨0, _⟩ => rfl | ⟨1, _⟩ => rfl | ⟨2, _⟩ => rfl))
  refine (shapeCast_addUnit_apply ![R, 128] _ h4 (ix3 0 r d)).trans ?_
  rw [mix_split z v hab hbT, ← hold, ← hpv, ← e1]
  have e3 : Ideal.exp2 (shapeCast (Col R) car h2 (ix2 r 0)) = Ideal.exp2 (decay z b T) := by
    rw [e2, hcar]
  rw [← e3]
  have ei : (fun a => (ix3 (0 : Fin 1) r d : (⟨3, ![1, R, 128]⟩ : Shape).Idx) a.succ : (⟨2, ![R, 128]⟩ : Shape).Idx) = ix2 r d :=
    funext fun a => by match a with | ⟨0, _⟩ => rfl | ⟨1, _⟩ => rfl
  refine (congrArg _ ei).trans ?_
  exact congrArg (fun t => shapeCast ⟨2, ![R, 128]⟩ old h1 (ix2 r d) + t * pv (ix2 r d))
    (spread_apply h3 (exp2 (shapeCast (Col R) car h2)) r d)

/-- What is left of the stick after some blocks. -/
theorem car_coe {R : ℕ} {car : FVec Ideal ⟨3, ![1, R, 1]⟩ .f32} {s : FVec Ideal (Col R) .f32}
    {h2 : (⟨3, ![1, R, 1]⟩ : Shape).ShapeCasts (Col R)} {h4 : (Col R).ShapeCasts ⟨3, ![1, R, 1]⟩}
    {z : ℕ → EReal} {a b T : ℕ} (hab : a ≤ b) (hbT : b ≤ T) {r : Fin R}
    (hcar : car (ix3 0 r 0) = decay z b T) (hs : s (ix2 r 0) = decay z a b) :
    shapeCast ⟨3, ![1, R, 1]⟩ (addf (shapeCast (Col R) car h2) s) h4 (ix3 0 r 0) = decay z a T := by
  have e2 : shapeCast (Col R) car h2 (ix2 r 0) = car (ix3 0 r 0) :=
    (shapeCast_dropUnit_apply ![R, 1] car h2 (ix2 r 0)).trans (congrArg car (funext fun a => by
      match a with | ⟨0, _⟩ => rfl | ⟨1, _⟩ => rfl | ⟨2, _⟩ => rfl))
  refine (shapeCast_addUnit_apply ![R, 1] _ h4 (ix3 0 r 0)).trans ?_
  rw [decay_split z hab hbT, ← hcar, ← hs, ← e2]
  have ei : (fun a => (ix3 (0 : Fin 1) r (0 : Fin 1) : (⟨3, ![1, R, 1]⟩ : Shape).Idx) a.succ : (⟨2, ![R, 1]⟩ : Shape).Idx) = ix2 r 0 :=
    funext fun a => by match a with | ⟨0, _⟩ => rfl | ⟨1, _⟩ => rfl
  exact congrArg _ ei

end Sweep

namespace Cert.KernelIdeal.Gen

/-- Row `r` of head `h` holds its weighted values down to key `lo`, for the query at position `T`. -/
def HasAcc (x : Vec Ideal S2x1024x128 .f32) (Q K V : ℕ → ℕ → EReal) (h : Fin 2) (r : Fin 1024) (lo T : ℕ) : Prop :=
  ∀ d : Fin 128, x (ix3 h r d) = mix (score Q K h.val r.val) (fun p => V p (128 * h.val + d.val)) lo T
/-- Row `r` of head `h` holds the logarithm of what is left of its stick at key `lo`. -/
def HasCar (x : Vec Ideal S2x1024x1 .f32) (Q K : ℕ → ℕ → EReal) (h : Fin 2) (r : Fin 1024) (lo T : ℕ) : Prop :=
  x (ix3 h r 0) = decay (score Q K h.val r.val) lo T

/-- A load of `m` rows of one head. -/
theorem load3 {n m : ℕ} (arg : Memref sig .tc .vmem ⟨3, ![2, 1024, n]⟩ .f32) (f : BufTy.Contents (Elt Ideal) arg.view.ty) (h : Fin 2) {o : ℕ}
    (inb : ∀ a, (![h.val, o, 0] : Fin 3 → ℕ) a + (![1, m, n] : Fin 3 → ℕ) a ≤ (![2, 1024, n] : Fin 3 → ℕ) a) (r : Fin m) (q : Fin 1024)
    (hq : q.val = o + r.val) (d : Fin n) :
    View.readAt (Elt Ideal) arg.view (Rect.unit (s := ⟨3, ![2, 1024, n]⟩) ![h.val, o, 0] ![1, m, n] inb).toLoadRect f (ix3 0 r d)
      = arg.view.read (Elt Ideal) f (ix3 h q d) := by
  rw [View.readAt_apply]
  refine congrArg _ (funext fun a => Fin.ext ?_)
  match a with
  | ⟨0, _⟩ => show h.val + 1 * 0 = h.val; omega
  | ⟨1, _⟩ => show o + 1 * r.val = q.val; omega
  | ⟨2, _⟩ => show 0 + 1 * d.val = d.val; omega

/-- Two stores, one per head, of all rows: each is read back. -/
theorem both {n : ℕ} (arg : Memref sig .tc .vmem ⟨3, ![2, 1024, n]⟩ .f32) (f : BufTy.Contents (Elt Ideal) arg.view.ty)
    (i1 : ∀ a, (![1, 0, 0] : Fin 3 → ℕ) a + (![1, 1024, n] : Fin 3 → ℕ) a ≤ (![2, 1024, n] : Fin 3 → ℕ) a)
    (i0 : ∀ a, (![0, 0, 0] : Fin 3 → ℕ) a + (![1, 1024, n] : Fin 3 → ℕ) a ≤ (![2, 1024, n] : Fin 3 → ℕ) a)
    (w1 w0 : Vec Ideal ⟨3, ![1, 1024, n]⟩ .f32) (h : Fin 2) (r : Fin 1024) (d : Fin n) :
    arg.view.read (Elt Ideal) (arg.view.writes (Elt Ideal) f
      [⟨Rect.unit (s := ⟨3, ![2, 1024, n]⟩) ![1, 0, 0] ![1, 1024, n] i1, w1⟩, ⟨Rect.unit (s := ⟨3, ![2, 1024, n]⟩) ![0, 0, 0] ![1, 1024, n] i0, w0⟩]) (ix3 h r d)
      = (if h.val = 1 then w1 else w0) (ix3 0 r d) := by
  match h with
  | ⟨0, _⟩ =>
    refine (View.read_writes_cons_unit_of_not_mem _ _ _ _ _ _ rfl 0 (Or.inl Nat.zero_lt_one)).trans ?_
    refine View.read_writes_cons_unit_of_mem arg.view f i0 w0 [] _ (ix3 (0 : Fin 1) r d) rfl fun a => ?_
    match a with | ⟨0, _⟩ => rfl | ⟨1, _⟩ => exact (Nat.zero_add _).symm | ⟨2, _⟩ => exact (Nat.zero_add _).symm
  | ⟨1, _⟩ =>
    refine View.read_writes_cons_unit_of_mem arg.view f i1 w1 _ _ (ix3 (0 : Fin 1) r d) rfl fun a => ?_
    match a with | ⟨0, _⟩ => rfl | ⟨1, _⟩ => exact (Nat.zero_add _).symm | ⟨2, _⟩ => exact (Nat.zero_add _).symm

section trip

variable (𝒱 : Variants) (c : Dev nD) (bd : Option 𝒱.V) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x256 .bf16) (harg4 : arg4.IsWhole)
  (arg5 : Memref sig .tc .vmem S256x256 .bf16) (harg5 : arg5.IsWhole) (arg6 : Memref sig .tc .vmem S1024x256 .bf16) (harg6 : arg6.IsWhole)
  (arg7 : Memref sig .tc .vmem S2x1024x128 .f32) (harg7 : arg7.IsWhole) (arg8 : Memref sig .tc .vmem S2x1024x1 .f32) (harg8 : arg8.IsWhole)
  (arg1 : BitVec 32) (v1 : FVec Ideal S256x256 .bf16) (v700 : FVec Ideal S256x1 .f32) (v702 : BitVec 32) (v735 v737 v739 : FVec Ideal S256x256 .bf16)
  (v742 : FVec Ideal S256x256 .f32)
  {X0 : FVec Ideal S1024x256 .bf16} {X1 X2 : FVec Ideal S8192x256 .bf16} {Q K V : ℕ → ℕ → EReal}
  (hN : IsTri v1) (hQ : IsTable X0 Q) (hK : IsTable X1 K) (hV : IsTable X2 V)

/-- Every row holds what it should down to key `lo`. -/
def Held (f7 : BufTy.Contents (Elt Ideal) arg7.view.ty) (f8 : BufTy.Contents (Elt Ideal) arg8.view.ty) (Q K V : ℕ → ℕ → EReal) (q0 lo : ℕ) : Prop :=
  ∀ (h : Fin 2) (r : Fin 1024), HasAcc (arg7.view.read (Elt Ideal) f7) Q K V h r lo (q0 + r.val) ∧ HasCar (arg8.view.read (Elt Ideal) f8) Q K h r lo (q0 + r.val)

include hN hQ hK hV in
/-- One trip takes the rows from one multiple of 1024 to the one below. -/
theorem trip_held (k : Fin (k0_t1_loop i).trips) (acc : BitVec 32) (f7 : BufTy.Contents (Elt Ideal) arg7.view.ty) (f8 : BufTy.Contents (Elt Ideal) arg8.view.ty)
    {q0 : ℕ} (hq : base i k + 1024 ≤ q0) (H : Held arg7 arg8 f7 f8 Q K V q0 (base i k + 1024)) :
    Held arg7 arg8 (arg7.view.writes (Elt Ideal) f7 (tripL_k0_t1 𝒱 c bd i arg2 harg2 arg3 harg3 arg4 harg4 arg5 harg5 arg6 harg6 arg7 harg7 arg8 harg8 arg1 v1 v700 v702 v735 v737 v739 v742 (harg2.unread X0) (harg3.unread X1) (harg4.unread X2) k acc f7 f8).1)
      (arg8.view.writes (Elt Ideal) f8 (tripL_k0_t1 𝒱 c bd i arg2 harg2 arg3 harg3 arg4 harg4 arg5 harg5 arg6 harg6 arg7 harg7 arg8 harg8 arg1 v1 v700 v702 v735 v737 v739 v742 (harg2.unread X0) (harg3.unread X1) (harg4.unread X2) k acc f7 f8).2) Q K V q0 (base i k) := by
  intro h r
  have hr := H h r
  unfold tripL_k0_t1 trip_k0_t1
  dsimp only
  refine ⟨fun d => ?_, ?_⟩
  · refine (both arg7 f7 _ _ _ _ h r d).trans ?_
    match h with
    | ⟨0, _⟩ =>
      exact acc_coe (Nat.le_add_right _ _) (by omega)
        ((load3 arg7 f7 0 (by decide) r r (Nat.zero_add _).symm d).trans (hr.1 d))
        ((load3 arg8 f8 0 (by decide) r r (Nat.zero_add _).symm 0).trans hr.2)
        (pv_head0 harg2 harg3 harg4 hN hQ hK hV k r d)
    | ⟨1, _⟩ =>
      exact acc_coe (Nat.le_add_right _ _) (by omega)
        ((load3 arg7 f7 1 (by decide) r r (Nat.zero_add _).symm d).trans (hr.1 d))
        ((load3 arg8 f8 1 (by decide) r r (Nat.zero_add _).symm 0).trans hr.2)
        (pv_head1 harg2 harg3 harg4 hN hQ hK hV k r d)
  · refine (both arg8 f8 _ _ _ _ h r 0).trans ?_
    match h with
    | ⟨0, _⟩ =>
      exact car_coe (Nat.le_add_right _ _) (by omega)
        ((load3 arg8 f8 0 (by decide) r r (Nat.zero_add _).symm 0).trans hr.2)
        (sum_head0 harg2 harg3 hN hQ hK k r)
    | ⟨1, _⟩ =>
      exact car_coe (Nat.le_add_right _ _) (by omega)
        ((load3 arg8 f8 1 (by decide) r r (Nat.zero_add _).symm 0).trans hr.2)
        (sum_head1 harg2 harg3 hN hQ hK k r)

include hN hQ hK hV in
/-- The long sweep takes the rows from their own block of 1024 down to the start of the sequence. -/
theorem sweep_held (g7 : BufTy.Contents (Elt Ideal) arg7.view.ty) (g8 : BufTy.Contents (Elt Ideal) arg8.view.ty) (init : BitVec 32)
    (H : Held arg7 arg8 g7 g8 Q K V (1024 * (i 1).val) (1024 * (i 1).val)) (k : ℕ) (hk : k ≤ (k0_t1_loop i).trips) :
    Held arg7 arg8
      (arg7.view.writes (Elt Ideal) g7 (st_k0_t1 𝒱 c bd i arg2 harg2 arg3 harg3 arg4 harg4 arg5 harg5 arg6 harg6 arg7 harg7 arg8 harg8 arg1 v1 v700 v702 v735 v737 v739 v742 (harg2.unread X0) (harg3.unread X1) (harg4.unread X2) g7 g8 init k).2.1)
      (arg8.view.writes (Elt Ideal) g8 (st_k0_t1 𝒱 c bd i arg2 harg2 arg3 harg3 arg4 harg4 arg5 harg5 arg6 harg6 arg7 harg7 arg8 harg8 arg1 v1 v700 v702 v735 v737 v739 v742 (harg2.unread X0) (harg3.unread X1) (harg4.unread X2) g7 g8 init k).2.2)
      Q K V (1024 * (i 1).val) (1024 * ((i 1).val - k)) := by
  induction k with
  | zero => exact H
  | succ k ih =>
    have hk' : k < (k0_t1_loop i).trips := hk
    have ht := trips1 i
    have e : base i ⟨k, hk'⟩ + 1024 = 1024 * ((i 1).val - k) := by
      show 1024 * ((i 1).val - k - 1) + 1024 = _
      omega
    have hs := st_k0_t1_succ 𝒱 c bd i arg2 harg2 arg3 harg3 arg4 harg4 arg5 harg5 arg6 harg6 arg7 harg7 arg8 harg8 arg1 v1 v700 v702 v735 v737 v739 v742 (harg2.unread X0) (harg3.unread X1) (harg4.unread X2) g7 g8 init ⟨k, hk'⟩
    rw [show k + 1 = (⟨k, hk'⟩ : Fin _).val + 1 from rfl, hs]
    dsimp only
    rw [View.writes_append, View.writes_append]
    exact trip_held 𝒱 c bd i arg2 harg2 arg3 harg3 arg4 harg4 arg5 harg5 arg6 harg6 arg7 harg7 arg8 harg8 arg1 v1 v700 v702 v735 v737 v739 v742
      hN hQ hK hV ⟨k, hk'⟩ _ _ _ (by omega) (e.symm ▸ ih (Nat.le_of_lt hk'))

end trip

end Cert.KernelIdeal.Gen
-- ==== Proof.Diag.lean ====
module

public import proofs.«01_k».proof.Proof.State
public import Idealize.ShloMosaic.Lib.Pipeline.ReadBack
public import Idealize.ShloMosaic.Lib.WordCmp

@[expose] public section

set_option maxRecDepth 16384

noncomputable section

open Idealize.ShloMosaic Idealize.ShloMosaic.TcCoe Idealize.SL.Sem
open Stick Sweep

/-! # The sweep over a query's own block of 1024 keys

256 rows of queries at a time: the block of keys on the diagonal is masked, the older ones are whole. -/

namespace Cert.KernelIdeal.Gen

section chain

variable {R : ℕ} {N : FVec Ideal (Sq 256) .bf16} {zf : Fin R → ℕ → EReal} {b : ℕ} {U : Fin R → ℕ} {m : IVec (Sq R) 1}
  (hb : FTy.bits .bf16 < FTy.bits .f32) (hs : (Sq R).Slices ![0, 0] (Col R)) (hc : (Col R).Broadcasts (Sq R))

/-- The softplus of a block under the mask. -/
abbrev cut (m : IVec (Sq R) 1) (z : FVec Ideal (Sq R) .f32) : FVec Ideal (Sq R) .f32 :=
  select m (spV log2e z) (broadcast (Sq R) (Scalar.ofBits .f32 0x00000000#32))

/-- The newest block, under the mask. -/
theorem newest {z : FVec Ideal (Sq R) .f32} (hN : IsTri N) (hm : ∀ r l, m (ix2 r l) = if b + l.val < U r then 1#1 else 0#1)
    (hU : ∀ r, U r ≤ b + 256) (hz : IsZ z zf b) :
    IsX (Sweep.x0 hb N (cut m z) z) zf U b ∧ IsN (n0 hb hs N (cut m z)) zf U b :=
  ⟨x0_coe hN hz hU (masked_sp hm (spV_coe log2e_eq hz)), n0_coe hN hU (masked_sp hm (spV_coe log2e_eq hz))⟩

/-- An older block, below the sum of the newer ones. -/
theorem older {z : FVec Ideal (Sq R) .f32} {n : FVec Ideal (Col R) .f32} (hN : IsTri N) {b' : ℕ} (e : b' = b + 256) (hU : ∀ r, b + 256 ≤ U r)
    (hz : IsZ z zf b) (hn : IsN n zf U b') :
    IsX (xS hb hc N (spV log2e z) z n) zf U b ∧ IsN (nS hb hs N (spV log2e z) n) zf U b := by
  subst e
  exact ⟨xS_coe hN hz hU (spV_coe log2e_eq hz) hn, nS_coe hN hU (spV_coe log2e_eq hz) hn⟩

end chain

/-- The mask of the diagonal block: the keys strictly before the query. -/
theorem mask_eq {b : ℕ} (r l : Fin 256) : (k0_pay85 : IVec S256x256 1) (ix2 r l) = if b + l.val < b + r.val then 1#1 else 0#1 := by
  have e : (k0_pay85 : IVec S256x256 1) (ix2 r l) = IntOp.cmpi .slt (BitVec.ofNat 32 l.val) (BitVec.ofNat 32 r.val) := by
    pointwise [k0_pay85]
  have hl := l.isLt
  have hr := r.isLt
  rw [e, WordCmp.cmpi_slt_ofNat (by omega) (by omega)]
  by_cases h : l.val < r.val
  · rw [if_pos (by omega), decide_eq_true h]; rfl
  · rw [if_neg (by omega), decide_eq_false h]; rfl

theorem inb1 (i : grid0.Coords) (r m : Fin 4) (h : m ≤ r) (a : Fin 2) :
    k0_off1 i (BitVec.ofNat 32 r.val) (BitVec.ofNat 32 m.val) a + S256x128.size a ≤ S8192x256.size a := by
  have hi : (i 1).val < 8 := (i 1).isLt
  rw [off1 i r m h]
  match a with
  | ⟨0, _⟩ => show 1024 * (i 1).val + 256 * (r.val - m.val) + 256 ≤ 8192; omega
  | ⟨1, _⟩ => show 0 + 128 ≤ 256; omega

theorem inb2 (i : grid0.Coords) (r m : Fin 4) (h : m ≤ r) (a : Fin 2) :
    k0_off2 i (BitVec.ofNat 32 r.val) (BitVec.ofNat 32 m.val) a + S256x128.size a ≤ S8192x256.size a := by
  have hi : (i 1).val < 8 := (i 1).isLt
  rw [off2 i r m h]
  match a with
  | ⟨0, _⟩ => show 1024 * (i 1).val + 256 * (r.val - m.val) + 256 ≤ 8192; omega
  | ⟨1, _⟩ => show 128 + 128 ≤ 256; omega

section scores

variable {i : grid0.Coords} {arg2 : Memref sig .tc .vmem S1024x256 .bf16} (harg2 : arg2.IsWhole)
  {arg3 : Memref sig .tc .vmem S8192x256 .bf16} (harg3 : arg3.IsWhole)
  {X0 : FVec Ideal S1024x256 .bf16} {X1 : FVec Ideal S8192x256 .bf16}
  {Q K : ℕ → ℕ → EReal} (hQ : IsTable X0 Q) (hK : IsTable X1 K)

include hQ hK in
/-- The scores of head 0 with the block `m` below the diagonal one. -/
theorem zd0 (r m : Fin 4) (h : m ≤ r) (f1 : ∀ a, (![256 * r.val, 0] : Fin 2 → ℕ) a + S256x128.size a ≤ S1024x256.size a) :
    IsZ (R := 256) (matmul (φ₁ := .bf16) (φ₂ := .bf16) (DotDims.transposedRhs 256 128 256) none
        (View.readAt (Elt Ideal) arg2.view (Rect.unit (s := S1024x256) ![256 * r.val, 0] S256x128.size f1).toLoadRect (harg2.unread X0))
        (View.readAt (Elt Ideal) arg3.view (Rect.unit (s := S8192x256) (k0_off1 i (BitVec.ofNat 32 r.val) (BitVec.ofNat 32 m.val)) S256x128.size (inb1 i r m h)).toLoadRect (harg3.unread X1))
        (constant (Sq 256) .f32 0x00000000#32))
      (fun r' p => score Q K 0 (256 * r.val + r'.val) p) (1024 * (i 1).val + 256 * (r.val - m.val)) := by
  refine z_coe (qf := fun r' d => Q (256 * r.val + r'.val) (128 * 0 + d.val)) (kf := fun p d => K p (128 * 0 + d.val)) (fun r' d => ?_) (fun l d => ?_)
  · exact (load_coe harg2 hQ rfl f1 r' d).trans (by simp)
  · exact (load_coe harg3 hK (off1 i r m h) (inb1 i r m h) l d).trans (by simp)

include hQ hK in
/-- The scores of head 1 with the block `m` below the diagonal one. -/
theorem zd1 (r m : Fin 4) (h : m ≤ r) (f1 : ∀ a, (![256 * r.val, 128] : Fin 2 → ℕ) a + S256x128.size a ≤ S1024x256.size a) :
    IsZ (R := 256) (matmul (φ₁ := .bf16) (φ₂ := .bf16) (DotDims.transposedRhs 256 128 256) none
        (View.readAt (Elt Ideal) arg2.view (Rect.unit (s := S1024x256) ![256 * r.val, 128] S256x128.size f1).toLoadRect (harg2.unread X0))
        (View.readAt (Elt Ideal) arg3.view (Rect.unit (s := S8192x256) (k0_off2 i (BitVec.ofNat 32 r.val) (BitVec.ofNat 32 m.val)) S256x128.size (inb2 i r m h)).toLoadRect (harg3.unread X1))
        (constant (Sq 256) .f32 0x00000000#32))
      (fun r' p => score Q K 1 (256 * r.val + r'.val) p) (1024 * (i 1).val + 256 * (r.val - m.val)) := by
  refine z_coe (qf := fun r' d => Q (256 * r.val + r'.val) (128 * 1 + d.val)) (kf := fun p d => K p (128 * 1 + d.val)) (fun r' d => ?_) (fun l d => ?_)
  · exact (load_coe harg2 hQ rfl f1 r' d).trans (by simp)
  · exact (load_coe harg3 hK (off2 i r m h) (inb2 i r m h) l d).trans (by simp)

end scores

/-- The two stores of one head's 256 rows: what they hold when the rows held nothing before. -/
theorem fresh_acc {old : FVec Ideal ⟨3, ![1, 256, 128]⟩ .f32} {car : FVec Ideal ⟨3, ![1, 256, 1]⟩ .f32} {pv : FVec Ideal ⟨2, ![256, 128]⟩ .f32}
    {h1 : (⟨3, ![1, 256, 128]⟩ : Shape).ShapeCasts ⟨2, ![256, 128]⟩} {h2 : (⟨3, ![1, 256, 1]⟩ : Shape).ShapeCasts (Col 256)}
    {h3 : (Col 256).Broadcasts ⟨2, ![256, 128]⟩} {h4 : (⟨2, ![256, 128]⟩ : Shape).ShapeCasts ⟨3, ![1, 256, 128]⟩}
    {z v : ℕ → EReal} {a T : ℕ} (haT : a ≤ T) {r : Fin 256} {d : Fin 128}
    (hold : ∀ y, old y = 0) (hcar : ∀ y, car y = 0) (hpv : pv (ix2 r d) = mix z v a T) :
    shapeCast ⟨3, ![1, 256, 128]⟩ (addf (shapeCast ⟨2, ![256, 128]⟩ old h1)
      (mulf (broadcastTo ⟨2, ![256, 128]⟩ (exp2 (shapeCast (Col 256) car h2)) h3) pv)) h4 (ix3 0 r d)
      = mix z v a T :=
  acc_coe haT le_rfl ((hold _).trans (mix_self _ _ _).symm) ((hcar _).trans (decay_self _ _).symm) hpv

theorem fresh_car {car : FVec Ideal ⟨3, ![1, 256, 1]⟩ .f32} {s : FVec Ideal (Col 256) .f32}
    {h2 : (⟨3, ![1, 256, 1]⟩ : Shape).ShapeCasts (Col 256)} {h4 : (Col 256).ShapeCasts ⟨3, ![1, 256, 1]⟩}
    {z : ℕ → EReal} {a T : ℕ} (haT : a ≤ T) {r : Fin 256} (hcar : ∀ y, car y = 0) (hs : s (ix2 r 0) = decay z a T) :
    shapeCast ⟨3, ![1, 256, 1]⟩ (addf (shapeCast (Col 256) car h2) s) h4 (ix3 0 r 0) = decay z a T :=
  car_coe haT le_rfl ((hcar _).trans (decay_self _ _).symm) hs

/-- A block of the zeroed weighted values. -/
theorem zero7 (v : View sig .tc .vmem S2x1024x128 .f32) (B : Rect S2x1024x128) (y : B.shape.Idx) :
    v.readCov (Val := Elt Ideal) kernelRun0_A.sl.HS0_1 B.toLoadRect y = 0 := by
  refine (congrFun (View.readCov_fill v _ _ [] B (by decide)) y).trans ?_
  pointwise [k0_pay83]

theorem zero8 (v : View sig .tc .vmem S2x1024x1 .f32) (B : Rect S2x1024x1) (y : B.shape.Idx) :
    v.readCov (Val := Elt Ideal) kernelRun0_A.sl.HS1_1 B.toLoadRect y = 0 := by
  refine (congrFun (View.readCov_fill v _ _ [] B (by decide)) y).trans ?_
  pointwise [k0_pay84]

section rows

variable {N : FVec Ideal (Sq 256) .bf16} {z0 z1 z2 z3 : FVec Ideal (Sq 256) .f32} {zf : Fin 256 → ℕ → EReal} {vf : ℕ → Fin 128 → EReal} {lo : ℕ}
  (hb : FTy.bits .bf16 < FTy.bits .f32) (hs : (Sq 256).Slices ![0, 0] (Col 256)) (hc : (Col 256).Broadcasts (Sq 256))

/-- The weights of the newest block, under the mask. -/
abbrev wcut (hb : FTy.bits .bf16 < FTy.bits .f32) (x : FVec Ideal (Sq 256) .f32) : FVec Ideal (Sq 256) .bf16 :=
  truncf .bf16 (select k0_pay85 (exp2 x) (broadcast (Sq 256) (Scalar.ofBits .f32 0x00000000#32))) hb

/-- The weighted values of `n` lanes of weights. -/
abbrev pvOf (n : ℕ) (w : FVec Ideal ⟨2, ![256, n]⟩ .bf16) (v : FVec Ideal ⟨2, ![n, 128]⟩ .bf16) : FVec Ideal ⟨2, ![256, 128]⟩ .f32 :=
  matmul (DotDims.plain 256 n 128) none w v (constant ⟨2, ![256, 128]⟩ .f32 0x00000000#32)

/-- 256 rows of queries whose diagonal block is the oldest of the 1024 keys. -/
theorem rows1 {v : FVec Ideal ⟨2, ![256, 128]⟩ .bf16} (hN : IsTri N) (h0 : IsZ z0 zf lo)
    (hv : ∀ l d, v (ix2 l d) = vf (lo + l.val) d) :
    (∀ r d, pvOf 256 (wcut hb (Sweep.x0 hb N (cut k0_pay85 z0) z0)) v (ix2 r d) = mix (zf r) (fun p => vf p d) lo (lo + r.val))
    ∧ IsN (n0 hb hs N (cut k0_pay85 z0)) zf (fun r => lo + r.val) lo := by
  have hU : ∀ r : Fin 256, lo + r.val ≤ lo + 256 := fun r => by omega
  obtain ⟨x, n⟩ := newest hb hs (U := fun r => lo + r.val) hN mask_eq hU h0
  exact ⟨pv_coe hU (masked_exp2_coe mask_eq x) hv, n⟩

/-- 256 rows of queries with one whole block below the diagonal one. -/
theorem rows2 {v : FVec Ideal ⟨2, ![512, 128]⟩ .bf16} (hN : IsTri N) (h0 : IsZ z0 zf (lo + 256)) (h1 : IsZ z1 zf lo)
    (hv : ∀ l d, v (ix2 l d) = vf (lo + l.val) d) (hk : Shape.Concatenates [Sq 256, Sq 256] ⟨2, ![256, 512]⟩ 1) :
    (∀ r d, pvOf 512 (concatenate ⟨2, ![256, 512]⟩ 1
      [⟨Sq 256, truncf .bf16 (exp2 (xS hb hc N (spV log2e z1) z1 (n0 hb hs N (cut k0_pay85 z0)))) hb⟩,
       ⟨Sq 256, wcut hb (Sweep.x0 hb N (cut k0_pay85 z0) z0)⟩] hk) v (ix2 r d)
        = mix (zf r) (fun p => vf p d) lo (lo + 256 + r.val))
    ∧ IsN (nS hb hs N (spV log2e z1) (n0 hb hs N (cut k0_pay85 z0))) zf (fun r => lo + 256 + r.val) lo := by
  obtain ⟨x, n⟩ := newest hb hs (U := fun r => lo + 256 + r.val) hN mask_eq (fun r => by omega) h0
  obtain ⟨x', n'⟩ := older hb hs hc hN rfl (fun r => by omega) h1 n
  exact ⟨pv_coe (fun r => by omega) (cat2_small (exp2_coe x' fun r => by omega) (masked_exp2_coe mask_eq x) hk) hv, n'⟩

/-- 256 rows of queries with two whole blocks below the diagonal one. -/
theorem rows3 {v : FVec Ideal ⟨2, ![768, 128]⟩ .bf16} (hN : IsTri N) (h0 : IsZ z0 zf (lo + 512)) (h1 : IsZ z1 zf (lo + 256)) (h2 : IsZ z2 zf lo)
    (hv : ∀ l d, v (ix2 l d) = vf (lo + l.val) d) (hk : Shape.Concatenates [Sq 256, Sq 256, Sq 256] ⟨2, ![256, 768]⟩ 1) :
    (∀ r d, pvOf 768 (concatenate ⟨2, ![256, 768]⟩ 1
      [⟨Sq 256, truncf .bf16 (exp2 (xS hb hc N (spV log2e z2) z2 (nS hb hs N (spV log2e z1) (n0 hb hs N (cut k0_pay85 z0))))) hb⟩,
       ⟨Sq 256, truncf .bf16 (exp2 (xS hb hc N (spV log2e z1) z1 (n0 hb hs N (cut k0_pay85 z0)))) hb⟩,
       ⟨Sq 256, wcut hb (Sweep.x0 hb N (cut k0_pay85 z0) z0)⟩] hk) v (ix2 r d)
        = mix (zf r) (fun p => vf p d) lo (lo + 512 + r.val))
    ∧ IsN (nS hb hs N (spV log2e z2) (nS hb hs N (spV log2e z1) (n0 hb hs N (cut k0_pay85 z0)))) zf (fun r => lo + 512 + r.val) lo := by
  obtain ⟨x, n⟩ := newest hb hs (U := fun r => lo + 512 + r.val) hN mask_eq (fun r => by omega) h0
  obtain ⟨x', n'⟩ := older hb hs hc (b := lo + 256) hN rfl (fun r => by omega) h1 n
  obtain ⟨x'', n''⟩ := older hb hs hc (b := lo) hN rfl (fun r => by omega) h2 n'
  exact ⟨pv_coe (fun r => by omega) (cat3_small (exp2_coe x'' fun r => by omega) (exp2_coe x' fun r => by omega) (masked_exp2_coe mask_eq x) hk) hv, n''⟩

/-- 256 rows of queries with three whole blocks below the diagonal one. -/
theorem rows4 {v : FVec Ideal ⟨2, ![1024, 128]⟩ .bf16} (hN : IsTri N) (h0 : IsZ z0 zf (lo + 768)) (h1 : IsZ z1 zf (lo + 512)) (h2 : IsZ z2 zf (lo + 256))
    (h3 : IsZ z3 zf lo)
    (hv : ∀ l d, v (ix2 l d) = vf (lo + l.val) d) (hk : Shape.Concatenates [Sq 256, Sq 256, Sq 256, Sq 256] ⟨2, ![256, 1024]⟩ 1) :
    (∀ r d, pvOf 1024 (concatenate ⟨2, ![256, 1024]⟩ 1
      [⟨Sq 256, truncf .bf16 (exp2 (xS hb hc N (spV log2e z3) z3 (nS hb hs N (spV log2e z2) (nS hb hs N (spV log2e z1) (n0 hb hs N (cut k0_pay85 z0)))))) hb⟩,
       ⟨Sq 256, truncf .bf16 (exp2 (xS hb hc N (spV log2e z2) z2 (nS hb hs N (spV log2e z1) (n0 hb hs N (cut k0_pay85 z0))))) hb⟩,
       ⟨Sq 256, truncf .bf16 (exp2 (xS hb hc N (spV log2e z1) z1 (n0 hb hs N (cut k0_pay85 z0)))) hb⟩,
       ⟨Sq 256, wcut hb (Sweep.x0 hb N (cut k0_pay85 z0) z0)⟩] hk) v (ix2 r d)
        = mix (zf r) (fun p => vf p d) lo (lo + 768 + r.val))
    ∧ IsN (nS hb hs N (spV log2e z3) (nS hb hs N (spV log2e z2) (nS hb hs N (spV log2e z1) (n0 hb hs N (cut k0_pay85 z0))))) zf (fun r => lo + 768 + r.val) lo := by
  obtain ⟨x, n⟩ := newest hb hs (U := fun r => lo + 768 + r.val) hN mask_eq (fun r => by omega) h0
  obtain ⟨x', n'⟩ := older hb hs hc (b := lo + 512) hN rfl (fun r => by omega) h1 n
  obtain ⟨x'', n''⟩ := older hb hs hc (b := lo + 256) hN rfl (fun r => by omega) h2 n'
  obtain ⟨x3, n3⟩ := older hb hs hc (b := lo) hN rfl (fun r => by omega) h3 n''
  exact ⟨pv_coe (fun r => by omega) (cat4_small (exp2_coe x3 fun r => by omega) (exp2_coe x'' fun r => by omega) (exp2_coe x' fun r => by omega)
    (masked_exp2_coe mask_eq x) hk) hv, n3⟩

end rows

end Cert.KernelIdeal.Gen
-- ==== Proof.Own.lean ====
module

public import proofs.«01_k».proof.Proof.Diag

@[expose] public section

set_option maxRecDepth 16384

noncomputable section

open Idealize.ShloMosaic Idealize.ShloMosaic.TcCoe Idealize.SL.Sem
open Stick Sweep

/-! # What the two scratch arrays hold after the sweep over the own block -/

namespace Cert.KernelIdeal.Gen

section own

variable {c : Dev nD} {i : grid0.Coords} {arg2 : Memref sig .tc .vmem S1024x256 .bf16} (harg2 : arg2.IsWhole)
  {arg3 : Memref sig .tc .vmem S8192x256 .bf16} (harg3 : arg3.IsWhole) {arg4 : Memref sig .tc .vmem S8192x256 .bf16} (harg4 : arg4.IsWhole)
  {arg5 : Memref sig .tc .vmem S256x256 .bf16} (harg5 : arg5.IsWhole)
  {arg7 : Memref sig .tc .vmem S2x1024x128 .f32} {arg8 : Memref sig .tc .vmem S2x1024x1 .f32}
  {X0 : FVec Ideal S1024x256 .bf16} {X1 X2 : FVec Ideal S8192x256 .bf16} {X3 : FVec Ideal S256x256 .bf16}
  {Q K V : ℕ → ℕ → EReal} (hN : IsTri X3) (hQ : IsTable X0 Q) (hK : IsTable X1 K) (hV : IsTable X2 V)

include hN in
/-- The triangle as the kernel holds it. -/
theorem tri_held : IsTri (kernelRun0_A.sl.r (F := Ideal) c arg5 harg5 X3) := by
  have hX : IsTable X3 (fun j l => if l ≤ j then -1 else 0) := hN
  intro j l
  have e : kernelRun0_A.sl.r (F := Ideal) c arg5 harg5 X3 = View.readAt (Elt Ideal) arg5.view (Rect.unit (s := S256x256) ![0, 0] S256x256.size inb_S256x256_S256x256_0_0).toLoadRect (harg5.unread X3) :=
    shapeCast_self (s := S256x256) (View.readAt (Elt Ideal) arg5.view (Rect.unit (s := S256x256) ![0, 0] S256x256.size inb_S256x256_S256x256_0_0).toLoadRect (harg5.unread X3)) shapeCasts_S256x256_S256x256
  rw [e]
  exact (load_coe harg5 hX rfl inb_S256x256_S256x256_0_0 j l).trans (by simp only [Nat.zero_add])

/-- The first key of the own block. -/
abbrev own (i : grid0.Coords) : ℕ := 1024 * (i 1).val

/-- The first `j` of the eight pairs of a head and 256 rows hold what they should, the others nothing. -/
def Stage {n : ℕ} (v : View sig .tc .vmem ⟨3, ![2, 1024, n]⟩ .f32) (L : List (View.Piece (Elt Ideal) ⟨3, ![2, 1024, n]⟩ .f32))
    (G : Fin 2 → ℕ → Fin n → EReal) (j : ℕ) : Prop :=
  ∀ (h : Fin 2) (q : Fin 1024) (d : Fin n), v.read (Elt Ideal) (v.writes (Elt Ideal) v.junk L) (ix3 h q d)
    = if 2 * (q.val / 256) + h.val < j then G h q.val d else 0

/-- The next pair is stored. -/
theorem Stage.step {n : ℕ} {v : View sig .tc .vmem ⟨3, ![2, 1024, n]⟩ .f32} {L : List (View.Piece (Elt Ideal) ⟨3, ![2, 1024, n]⟩ .f32)}
    {G : Fin 2 → ℕ → Fin n → EReal} {j : ℕ} (H : Stage v L G j) (h : Fin 2) (r : Fin 4) (e : j = 2 * r.val + h.val)
    {inb : ∀ a, (![h.val, 256 * r.val, 0] : Fin 3 → ℕ) a + (![1, 256, n] : Fin 3 → ℕ) a ≤ (![2, 1024, n] : Fin 3 → ℕ) a}
    {w : Vec Ideal ⟨3, ![1, 256, n]⟩ .f32} (hw : ∀ (r' : Fin 256) (d : Fin n), w (ix3 0 r' d) = G h (256 * r.val + r'.val) d) :
    Stage v (⟨Rect.unit (s := ⟨3, ![2, 1024, n]⟩) ![h.val, 256 * r.val, 0] ![1, 256, n] inb, w⟩ :: L) G (j + 1) := by
  intro h' q d
  by_cases hh : h'.val = h.val
  · by_cases hq : q.val / 256 = r.val
    · rw [if_pos (by omega)]
      have eh : h' = h := Fin.ext hh
      subst eh
      have hr' : q.val - 256 * r.val < 256 := by omega
      refine (View.read_writes_cons_unit_of_mem v v.junk inb w L _ (ix3 (0 : Fin 1) ⟨q.val - 256 * r.val, hr'⟩ d) rfl fun a => ?_).trans
        ((hw _ _).trans (congrArg (fun t => G h' t d) (show 256 * r.val + (q.val - 256 * r.val) = q.val by omega)))
      match a with
      | ⟨0, _⟩ => rfl
      | ⟨1, _⟩ => show q.val = 256 * r.val + (q.val - 256 * r.val); omega
      | ⟨2, _⟩ => exact (Nat.zero_add _).symm
    · refine ((View.read_writes_cons_unit_of_not_mem v v.junk inb w L _ rfl 1 ?_).trans (H h' q d)).trans ?_
      · show q.val < 256 * r.val ∨ 256 * r.val + 256 ≤ q.val
        omega
      · have := h.isLt
        congr 1
        exact propext ⟨fun _ => by omega, fun _ => by omega⟩
  · refine ((View.read_writes_cons_unit_of_not_mem v v.junk inb w L _ rfl 0 ?_).trans (H h' q d)).trans ?_
    · show h'.val < h.val ∨ h.val + 1 ≤ h'.val
      omega
    · have := h.isLt
      have := h'.isLt
      congr 1
      exact propext ⟨fun _ => by omega, fun _ => by omega⟩

/-- A pair not yet stored is zero. -/
theorem Stage.zero {n : ℕ} {v : View sig .tc .vmem ⟨3, ![2, 1024, n]⟩ .f32} {L : List (View.Piece (Elt Ideal) ⟨3, ![2, 1024, n]⟩ .f32)}
    {G : Fin 2 → ℕ → Fin n → EReal} {j : ℕ} (H : Stage v L G j) (h : Fin 2) (r : Fin 4) (e : j ≤ 2 * r.val + h.val)
    (inb : ∀ a, (![h.val, 256 * r.val, 0] : Fin 3 → ℕ) a + (![1, 256, n] : Fin 3 → ℕ) a ≤ (![2, 1024, n] : Fin 3 → ℕ) a)
    (y : (⟨3, ![1, 256, n]⟩ : Shape).Idx) :
    v.readCov L (Rect.unit (s := ⟨3, ![2, 1024, n]⟩) ![h.val, 256 * r.val, 0] ![1, 256, n] inb).toLoadRect y = 0 := by
  have hy0 : (y 0).val < 1 := (y 0).isLt
  have hy1 : (y 1).val < 256 := (y 1).isLt
  have hr := r.isLt
  have hq : 256 * r.val + (y 1).val < 1024 := by omega
  refine Eq.trans (congrArg (v.read (Elt Ideal) (v.writes (Elt Ideal) v.junk L)) (funext fun a => Fin.ext ?_))
    ((H h ⟨256 * r.val + (y 1).val, hq⟩ ⟨(y 2).val, (y 2).isLt⟩).trans (if_neg ?_))
  · match a with
    | ⟨0, _⟩ => show h.val + 1 * (y 0).val = h.val; omega
    | ⟨1, _⟩ => show 256 * r.val + 1 * (y 1).val = 256 * r.val + (y 1).val; omega
    | ⟨2, _⟩ => show 0 + 1 * (y 2).val = (y 2).val; omega
  · show ¬ 2 * ((256 * r.val + (y 1).val) / 256) + h.val < j
    omega

/-- What row `q` of head `h` holds at the end. -/
def accAt (i : grid0.Coords) (Q K V : ℕ → ℕ → EReal) (h : Fin 2) (q : ℕ) (d : Fin 128) : EReal :=
  (mix (score Q K h.val q) (fun p => V p (128 * h.val + d.val)) (own i) (own i + q))
def carAt (i : grid0.Coords) (Q K : ℕ → ℕ → EReal) (h : Fin 2) (q : ℕ) (d : Fin 1) : EReal :=
  (decay (score Q K h.val q) (own i) (own i + q))

/-- Nothing is stored at first. -/
theorem acc_start : Stage arg7.view (kernelRun0_A.sl.HS0_1 (F := Ideal)) (accAt i Q K V) 0 := by
  intro h q d
  rw [if_neg (by omega)]
  refine (View.read_writes_cons_unit_of_mem (Val := Elt Ideal) arg7.view arg7.view.junk inb_S2x1024x128_S2x1024x128_0_0_0 (k0_pay83 (F := Ideal) : FVec Ideal S2x1024x128 .f32) [] _ (ix3 h q d) rfl fun a => ?_).trans ?_
  · match a with | ⟨0, _⟩ => exact (Nat.zero_add _).symm | ⟨1, _⟩ => exact (Nat.zero_add _).symm | ⟨2, _⟩ => exact (Nat.zero_add _).symm
  · pointwise [k0_pay83]

theorem car_start : Stage arg8.view (kernelRun0_A.sl.HS1_1 (F := Ideal)) (carAt i Q K) 0 := by
  intro h q d
  rw [if_neg (by omega)]
  refine (View.read_writes_cons_unit_of_mem (Val := Elt Ideal) arg8.view arg8.view.junk inb_S2x1024x1_S2x1024x1_0_0_0 (k0_pay84 (F := Ideal) : FVec Ideal S2x1024x1 .f32) [] _ (ix3 h q d) rfl fun a => ?_).trans ?_
  · match a with | ⟨0, _⟩ => exact (Nat.zero_add _).symm | ⟨1, _⟩ => exact (Nat.zero_add _).symm | ⟨2, _⟩ => exact (Nat.zero_add _).symm
  · pointwise [k0_pay84]

/-- The new weighted values of rows 256 to 511 of head 1, with their parts written out. -/
theorem pay11 (a : FVec Ideal S256x128 .f32) : k0_pay122 a (kernelRun0_A.sl.r_23 (F := Ideal) c i arg2 harg2 arg3 harg3 arg4 harg4 arg5 harg5 arg7 arg8 X0 X1 X2 X3) (kernelRun0_A.sl.r_24 (F := Ideal) c i arg2 harg2 arg3 harg3 arg5 harg5 arg8 X0 X1 X3)
    = shapeCast _ (addf (shapeCast _ (kernelRun0_A.sl.v257 (F := Ideal) c i arg2 harg2 arg3 harg3 arg4 harg4 arg5 harg5 arg7 arg8 X0 X1 X2 X3) shapeCasts_S1x256x128_S256x128)
      (mulf (broadcastTo _ (exp2 (shapeCast _ (kernelRun0_A.sl.v259 (F := Ideal) c i arg2 harg2 arg3 harg3 arg5 harg5 arg8 X0 X1 X3) shapeCasts_S1x256x1_S256x1)) broadcasts_S256x1_S256x128) a)) shapeCasts_S256x128_S1x256x128 := rfl

include hN hQ hK hV in
/-- Rows 0 to 255 of head 0 are stored. -/
theorem own00 (H7 : Stage arg7.view (kernelRun0_A.sl.HS0_1 (F := Ideal)) (accAt i Q K V) 0)
    (H8 : Stage arg8.view (kernelRun0_A.sl.HS1_1 (F := Ideal)) (carAt i Q K) 0) :
    Stage arg7.view (kernelRun0_A.sl.HS0_2 (F := Ideal) c i arg2 harg2 arg3 harg3 arg4 harg4 arg5 harg5 arg7 arg8 X0 X1 X2 X3) (accAt i Q K V) 1
    ∧ Stage arg8.view (kernelRun0_A.sl.HS1_2 (F := Ideal) c i arg2 harg2 arg3 harg3 arg5 harg5 arg8 X0 X1 X3) (carAt i Q K) 1 := by
  have z0 := zd0 harg2 harg3 hQ hK (i := i) 0 0 (by decide) (by decide)
  obtain ⟨hp, hs⟩ := rows1 bitsLt_bf16_f32 slices_S256x256_o0_0_S256x1 (vf := fun p d => V p (128 * 0 + d.val)) (tri_held (c := c) harg5 hN) z0
    (fun l d => (load_coe harg4 hV (off1 i 0 0 le_rfl) (inb1 i 0 0 le_rfl) l d).trans (by simp))
  exact ⟨H7.step 0 0 rfl fun r' d => (fresh_acc (Nat.le_add_right _ _) (H7.zero 0 0 le_rfl (by decide)) (H8.zero 0 0 le_rfl (by decide)) ((hp r' d).trans (congrArg (fun T : ℕ => (mix (score Q K 0 (256 * 0 + r'.val)) (fun p => V p (128 * 0 + d.val)) (own i) T)) (Nat.add_assoc (own i) (256 * 0) r'.val)))),
    H8.step 0 0 rfl fun r' d => by
      obtain rfl : d = 0 := Subsingleton.elim _ _
      exact fresh_car (Nat.le_add_right _ _) (H8.zero 0 0 le_rfl (by decide)) ((hs r').trans (congrArg (fun T : ℕ => (decay (score Q K 0 (256 * 0 + r'.val)) (own i) T)) (Nat.add_assoc (own i) (256 * 0) r'.val)))⟩

include hN hQ hK hV in
/-- Rows 0 to 255 of head 1 are stored. -/
theorem own01 (H7 : Stage arg7.view (kernelRun0_A.sl.HS0_2 (F := Ideal) c i arg2 harg2 arg3 harg3 arg4 harg4 arg5 harg5 arg7 arg8 X0 X1 X2 X3) (accAt i Q K V) 1)
    (H8 : Stage arg8.view (kernelRun0_A.sl.HS1_2 (F := Ideal) c i arg2 harg2 arg3 harg3 arg5 harg5 arg8 X0 X1 X3) (carAt i Q K) 1) :
    Stage arg7.view (kernelRun0_A.sl.HS0_3 (F := Ideal) c i arg2 harg2 arg3 harg3 arg4 harg4 arg5 harg5 arg7 arg8 X0 X1 X2 X3) (accAt i Q K V) 2
    ∧ Stage arg8.view (kernelRun0_A.sl.HS1_3 (F := Ideal) c i arg2 harg2 arg3 harg3 arg5 harg5 arg8 X0 X1 X3) (carAt i Q K) 2 := by
  have z0 := zd1 harg2 harg3 hQ hK (i := i) 0 0 (by decide) (by decide)
  obtain ⟨hp, hs⟩ := rows1 bitsLt_bf16_f32 slices_S256x256_o0_0_S256x1 (vf := fun p d => V p (128 * 1 + d.val)) (tri_held (c := c) harg5 hN) z0
    (fun l d => (load_coe harg4 hV (off2 i 0 0 le_rfl) (inb2 i 0 0 le_rfl) l d).trans (by simp))
  exact ⟨H7.step 1 0 rfl fun r' d => (fresh_acc (Nat.le_add_right _ _) (H7.zero 1 0 le_rfl (by decide)) (H8.zero 1 0 le_rfl (by decide)) ((hp r' d).trans (congrArg (fun T : ℕ => (mix (score Q K 1 (256 * 0 + r'.val)) (fun p => V p (128 * 1 + d.val)) (own i) T)) (Nat.add_assoc (own i) (256 * 0) r'.val)))),
    H8.step 1 0 rfl fun r' d => by
      obtain rfl : d = 0 := Subsingleton.elim _ _
      exact fresh_car (Nat.le_add_right _ _) (H8.zero 1 0 le_rfl (by decide)) ((hs r').trans (congrArg (fun T : ℕ => (decay (score Q K 1 (256 * 0 + r'.val)) (own i) T)) (Nat.add_assoc (own i) (256 * 0) r'.val)))⟩

include hN hQ hK hV in
/-- Rows 256 to 511 of head 0 are stored. -/
theorem own10 (H7 : Stage arg7.view (kernelRun0_A.sl.HS0_3 (F := Ideal) c i arg2 harg2 arg3 harg3 arg4 harg4 arg5 harg5 arg7 arg8 X0 X1 X2 X3) (accAt i Q K V) 2)
    (H8 : Stage arg8.view (kernelRun0_A.sl.HS1_3 (F := Ideal) c i arg2 harg2 arg3 harg3 arg5 harg5 arg8 X0 X1 X3) (carAt i Q K) 2) :
    Stage arg7.view (kernelRun0_A.sl.HS0_4 (F := Ideal) c i arg2 harg2 arg3 harg3 arg4 harg4 arg5 harg5 arg7 arg8 X0 X1 X2 X3) (accAt i Q K V) 3
    ∧ Stage arg8.view (kernelRun0_A.sl.HS1_4 (F := Ideal) c i arg2 harg2 arg3 harg3 arg5 harg5 arg8 X0 X1 X3) (carAt i Q K) 3 := by
  have z0 := zd0 harg2 harg3 hQ hK (i := i) 1 0 (by decide) (by decide)
  have z1 := zd0 harg2 harg3 hQ hK (i := i) 1 1 (by decide) (by decide)
  obtain ⟨hp, hs⟩ := rows2 bitsLt_bf16_f32 slices_S256x256_o0_0_S256x1 broadcasts_S256x1_S256x256 (vf := fun p d => V p (128 * 0 + d.val)) (tri_held (c := c) harg5 hN) z0 z1
    (fun l d => (load_coe harg4 hV (off3 i) (k0_off3_inb i) l d).trans (by simp))
    concatenates_S256x256_S256x256_S256x512_d1
  exact ⟨H7.step 0 1 rfl fun r' d => (fresh_acc (Nat.le_add_right _ _) (H7.zero 0 1 le_rfl (by decide)) (H8.zero 0 1 le_rfl (by decide)) ((hp r' d).trans (congrArg (fun T : ℕ => (mix (score Q K 0 (256 * 1 + r'.val)) (fun p => V p (128 * 0 + d.val)) (own i) T)) (Nat.add_assoc (own i) (256 * 1) r'.val)))),
    H8.step 0 1 rfl fun r' d => by
      obtain rfl : d = 0 := Subsingleton.elim _ _
      exact fresh_car (Nat.le_add_right _ _) (H8.zero 0 1 le_rfl (by decide)) ((hs r').trans (congrArg (fun T : ℕ => (decay (score Q K 0 (256 * 1 + r'.val)) (own i) T)) (Nat.add_assoc (own i) (256 * 1) r'.val)))⟩

include hN hQ hK hV in
/-- Rows 256 to 511 of head 1 are stored. -/
theorem own11 (H7 : Stage arg7.view (kernelRun0_A.sl.HS0_4 (F := Ideal) c i arg2 harg2 arg3 harg3 arg4 harg4 arg5 harg5 arg7 arg8 X0 X1 X2 X3) (accAt i Q K V) 3)
    (H8 : Stage arg8.view (kernelRun0_A.sl.HS1_4 (F := Ideal) c i arg2 harg2 arg3 harg3 arg5 harg5 arg8 X0 X1 X3) (carAt i Q K) 3) :
    Stage arg7.view (kernelRun0_A.sl.HS0_5 (F := Ideal) c i arg2 harg2 arg3 harg3 arg4 harg4 arg5 harg5 arg7 arg8 X0 X1 X2 X3) (accAt i Q K V) 4
    ∧ Stage arg8.view (kernelRun0_A.sl.HS1_5 (F := Ideal) c i arg2 harg2 arg3 harg3 arg5 harg5 arg8 X0 X1 X3) (carAt i Q K) 4 := by
  have z0 := zd1 harg2 harg3 hQ hK (i := i) 1 0 (by decide) (by decide)
  have z1 := zd1 harg2 harg3 hQ hK (i := i) 1 1 (by decide) (by decide)
  obtain ⟨hp, hs⟩ := rows2 bitsLt_bf16_f32 slices_S256x256_o0_0_S256x1 broadcasts_S256x1_S256x256 (vf := fun p d => V p (128 * 1 + d.val)) (tri_held (c := c) harg5 hN) z0 z1
    (fun l d => (load_coe harg4 hV (off4 i) (k0_off4_inb i) l d).trans (by simp))
    concatenates_S256x256_S256x256_S256x512_d1
  exact ⟨H7.step 1 1 rfl fun r' d => (congrFun (pay11 harg2 harg3 harg4 harg5 _) _).trans (fresh_acc (Nat.le_add_right _ _) (H7.zero 1 1 le_rfl (by decide)) (H8.zero 1 1 le_rfl (by decide)) ((hp r' d).trans (congrArg (fun T : ℕ => (mix (score Q K 1 (256 * 1 + r'.val)) (fun p => V p (128 * 1 + d.val)) (own i) T)) (Nat.add_assoc (own i) (256 * 1) r'.val)))),
    H8.step 1 1 rfl fun r' d => by
      obtain rfl : d = 0 := Subsingleton.elim _ _
      exact fresh_car (Nat.le_add_right _ _) (H8.zero 1 1 le_rfl (by decide)) ((hs r').trans (congrArg (fun T : ℕ => (decay (score Q K 1 (256 * 1 + r'.val)) (own i) T)) (Nat.add_assoc (own i) (256 * 1) r'.val)))⟩

include hN hQ hK hV in
/-- Rows 512 to 767 of head 0 are stored. -/
theorem own20 (H7 : Stage arg7.view (kernelRun0_A.sl.HS0_5 (F := Ideal) c i arg2 harg2 arg3 harg3 arg4 harg4 arg5 harg5 arg7 arg8 X0 X1 X2 X3) (accAt i Q K V) 4)
    (H8 : Stage arg8.view (kernelRun0_A.sl.HS1_5 (F := Ideal) c i arg2 harg2 arg3 harg3 arg5 harg5 arg8 X0 X1 X3) (carAt i Q K) 4) :
    Stage arg7.view (kernelRun0_A.sl.HS0_6 (F := Ideal) c i arg2 harg2 arg3 harg3 arg4 harg4 arg5 harg5 arg7 arg8 X0 X1 X2 X3) (accAt i Q K V) 5
    ∧ Stage arg8.view (kernelRun0_A.sl.HS1_6 (F := Ideal) c i arg2 harg2 arg3 harg3 arg5 harg5 arg8 X0 X1 X3) (carAt i Q K) 5 := by
  have z0 := zd0 harg2 harg3 hQ hK (i := i) 2 0 (by decide) (by decide)
  have z1 := zd0 harg2 harg3 hQ hK (i := i) 2 1 (by decide) (by decide)
  have z2 := zd0 harg2 harg3 hQ hK (i := i) 2 2 (by decide) (by decide)
  obtain ⟨hp, hs⟩ := rows3 bitsLt_bf16_f32 slices_S256x256_o0_0_S256x1 broadcasts_S256x1_S256x256 (vf := fun p d => V p (128 * 0 + d.val)) (tri_held (c := c) harg5 hN) z0 z1 z2
    (fun l d => (load_coe harg4 hV (off5 i) (k0_off5_inb i) l d).trans (by simp))
    concatenates_S256x256_S256x256_S256x256_S256x768_d1
  exact ⟨H7.step 0 2 rfl fun r' d => (fresh_acc (Nat.le_add_right _ _) (H7.zero 0 2 le_rfl (by decide)) (H8.zero 0 2 le_rfl (by decide)) ((hp r' d).trans (congrArg (fun T : ℕ => (mix (score Q K 0 (256 * 2 + r'.val)) (fun p => V p (128 * 0 + d.val)) (own i) T)) (Nat.add_assoc (own i) (256 * 2) r'.val)))),
    H8.step 0 2 rfl fun r' d => by
      obtain rfl : d = 0 := Subsingleton.elim _ _
      exact fresh_car (Nat.le_add_right _ _) (H8.zero 0 2 le_rfl (by decide)) ((hs r').trans (congrArg (fun T : ℕ => (decay (score Q K 0 (256 * 2 + r'.val)) (own i) T)) (Nat.add_assoc (own i) (256 * 2) r'.val)))⟩

include hN hQ hK hV in
/-- Rows 512 to 767 of head 1 are stored. -/
theorem own21 (H7 : Stage arg7.view (kernelRun0_A.sl.HS0_6 (F := Ideal) c i arg2 harg2 arg3 harg3 arg4 harg4 arg5 harg5 arg7 arg8 X0 X1 X2 X3) (accAt i Q K V) 5)
    (H8 : Stage arg8.view (kernelRun0_A.sl.HS1_6 (F := Ideal) c i arg2 harg2 arg3 harg3 arg5 harg5 arg8 X0 X1 X3) (carAt i Q K) 5) :
    Stage arg7.view (kernelRun0_A.sl.HS0_7 (F := Ideal) c i arg2 harg2 arg3 harg3 arg4 harg4 arg5 harg5 arg7 arg8 X0 X1 X2 X3) (accAt i Q K V) 6
    ∧ Stage arg8.view (kernelRun0_A.sl.HS1_7 (F := Ideal) c i arg2 harg2 arg3 harg3 arg5 harg5 arg8 X0 X1 X3) (carAt i Q K) 6 := by
  have z0 := zd1 harg2 harg3 hQ hK (i := i) 2 0 (by decide) (by decide)
  have z1 := zd1 harg2 harg3 hQ hK (i := i) 2 1 (by decide) (by decide)
  have z2 := zd1 harg2 harg3 hQ hK (i := i) 2 2 (by decide) (by decide)
  obtain ⟨hp, hs⟩ := rows3 bitsLt_bf16_f32 slices_S256x256_o0_0_S256x1 broadcasts_S256x1_S256x256 (vf := fun p d => V p (128 * 1 + d.val)) (tri_held (c := c) harg5 hN) z0 z1 z2
    (fun l d => (load_coe harg4 hV (off6 i) (k0_off6_inb i) l d).trans (by simp))
    concatenates_S256x256_S256x256_S256x256_S256x768_d1
  exact ⟨H7.step 1 2 rfl fun r' d => (fresh_acc (Nat.le_add_right _ _) (H7.zero 1 2 le_rfl (by decide)) (H8.zero 1 2 le_rfl (by decide)) ((hp r' d).trans (congrArg (fun T : ℕ => (mix (score Q K 1 (256 * 2 + r'.val)) (fun p => V p (128 * 1 + d.val)) (own i) T)) (Nat.add_assoc (own i) (256 * 2) r'.val)))),
    H8.step 1 2 rfl fun r' d => by
      obtain rfl : d = 0 := Subsingleton.elim _ _
      exact fresh_car (Nat.le_add_right _ _) (H8.zero 1 2 le_rfl (by decide)) ((hs r').trans (congrArg (fun T : ℕ => (decay (score Q K 1 (256 * 2 + r'.val)) (own i) T)) (Nat.add_assoc (own i) (256 * 2) r'.val)))⟩

include hN hQ hK hV in
/-- Rows 768 to 1023 of head 0 are stored. -/
theorem own30 (H7 : Stage arg7.view (kernelRun0_A.sl.HS0_7 (F := Ideal) c i arg2 harg2 arg3 harg3 arg4 harg4 arg5 harg5 arg7 arg8 X0 X1 X2 X3) (accAt i Q K V) 6)
    (H8 : Stage arg8.view (kernelRun0_A.sl.HS1_7 (F := Ideal) c i arg2 harg2 arg3 harg3 arg5 harg5 arg8 X0 X1 X3) (carAt i Q K) 6) :
    Stage arg7.view (kernelRun0_A.sl.HS0_8 (F := Ideal) c i arg2 harg2 arg3 harg3 arg4 harg4 arg5 harg5 arg7 arg8 X0 X1 X2 X3) (accAt i Q K V) 7
    ∧ Stage arg8.view (kernelRun0_A.sl.HS1_8 (F := Ideal) c i arg2 harg2 arg3 harg3 arg5 harg5 arg8 X0 X1 X3) (carAt i Q K) 7 := by
  have z0 := zd0 harg2 harg3 hQ hK (i := i) 3 0 (by decide) (by decide)
  have z1 := zd0 harg2 harg3 hQ hK (i := i) 3 1 (by decide) (by decide)
  have z2 := zd0 harg2 harg3 hQ hK (i := i) 3 2 (by decide) (by decide)
  have z3 := zd0 harg2 harg3 hQ hK (i := i) 3 3 (by decide) (by decide)
  obtain ⟨hp, hs⟩ := rows4 bitsLt_bf16_f32 slices_S256x256_o0_0_S256x1 broadcasts_S256x1_S256x256 (vf := fun p d => V p (128 * 0 + d.val)) (tri_held (c := c) harg5 hN) z0 z1 z2 z3
    (fun l d => (load_coe harg4 hV (off7 i) (k0_off7_inb i) l d).trans (by simp))
    concatenates_S256x256_S256x256_S256x256_S256x256_S256x1024_d1
  exact ⟨H7.step 0 3 rfl fun r' d => (fresh_acc (Nat.le_add_right _ _) (H7.zero 0 3 le_rfl (by decide)) (H8.zero 0 3 le_rfl (by decide)) ((hp r' d).trans (congrArg (fun T : ℕ => (mix (score Q K 0 (256 * 3 + r'.val)) (fun p => V p (128 * 0 + d.val)) (own i) T)) (Nat.add_assoc (own i) (256 * 3) r'.val)))),
    H8.step 0 3 rfl fun r' d => by
      obtain rfl : d = 0 := Subsingleton.elim _ _
      exact fresh_car (Nat.le_add_right _ _) (H8.zero 0 3 le_rfl (by decide)) ((hs r').trans (congrArg (fun T : ℕ => (decay (score Q K 0 (256 * 3 + r'.val)) (own i) T)) (Nat.add_assoc (own i) (256 * 3) r'.val)))⟩

include hN hQ hK hV in
/-- Rows 768 to 1023 of head 1 are stored. -/
theorem own31 (H7 : Stage arg7.view (kernelRun0_A.sl.HS0_8 (F := Ideal) c i arg2 harg2 arg3 harg3 arg4 harg4 arg5 harg5 arg7 arg8 X0 X1 X2 X3) (accAt i Q K V) 7)
    (H8 : Stage arg8.view (kernelRun0_A.sl.HS1_8 (F := Ideal) c i arg2 harg2 arg3 harg3 arg5 harg5 arg8 X0 X1 X3) (carAt i Q K) 7) :
    Stage arg7.view (kernelRun0_A.sl.HS0_9 (F := Ideal) c i arg2 harg2 arg3 harg3 arg4 harg4 arg5 harg5 arg7 arg8 X0 X1 X2 X3) (accAt i Q K V) 8
    ∧ Stage arg8.view (kernelRun0_A.sl.HS1_9 (F := Ideal) c i arg2 harg2 arg3 harg3 arg5 harg5 arg8 X0 X1 X3) (carAt i Q K) 8 := by
  have z0 := zd1 harg2 harg3 hQ hK (i := i) 3 0 (by decide) (by decide)
  have z1 := zd1 harg2 harg3 hQ hK (i := i) 3 1 (by decide) (by decide)
  have z2 := zd1 harg2 harg3 hQ hK (i := i) 3 2 (by decide) (by decide)
  have z3 := zd1 harg2 harg3 hQ hK (i := i) 3 3 (by decide) (by decide)
  obtain ⟨hp, hs⟩ := rows4 bitsLt_bf16_f32 slices_S256x256_o0_0_S256x1 broadcasts_S256x1_S256x256 (vf := fun p d => V p (128 * 1 + d.val)) (tri_held (c := c) harg5 hN) z0 z1 z2 z3
    (fun l d => (load_coe harg4 hV (off8 i) (k0_off8_inb i) l d).trans (by simp))
    concatenates_S256x256_S256x256_S256x256_S256x256_S256x1024_d1
  exact ⟨H7.step 1 3 rfl fun r' d => (fresh_acc (Nat.le_add_right _ _) (H7.zero 1 3 le_rfl (by decide)) (H8.zero 1 3 le_rfl (by decide)) ((hp r' d).trans (congrArg (fun T : ℕ => (mix (score Q K 1 (256 * 3 + r'.val)) (fun p => V p (128 * 1 + d.val)) (own i) T)) (Nat.add_assoc (own i) (256 * 3) r'.val)))),
    H8.step 1 3 rfl fun r' d => by
      obtain rfl : d = 0 := Subsingleton.elim _ _
      exact fresh_car (Nat.le_add_right _ _) (H8.zero 1 3 le_rfl (by decide)) ((hs r').trans (congrArg (fun T : ℕ => (decay (score Q K 1 (256 * 3 + r'.val)) (own i) T)) (Nat.add_assoc (own i) (256 * 3) r'.val)))⟩

end own

end Cert.KernelIdeal.Gen
-- ==== Proof.Point.lean ====
module

public import proofs.«01_k».proof.Proof.Own

@[expose] public section

set_option maxRecDepth 16384

noncomputable section

open Idealize.ShloMosaic Idealize.ShloMosaic.TcCoe Idealize.SL.Sem
open Stick Sweep

/-! # What one grid point stores -/

namespace Cert.KernelIdeal.Gen

/-- Stores that are none leave the earlier ones. -/
theorem last_writes {s : Shape} {e : EltTy} (v : View sig .tc .vmem s e) (f : BufTy.Contents (Elt Ideal) v.ty) (L2 L1 L0 : List (View.Piece (Elt Ideal) s e)) (h : L2 = []) :
    v.writes (Elt Ideal) f (L2 ++ (L1 ++ L0)) = v.writes (Elt Ideal) (v.writes (Elt Ideal) f L0) L1 := by
  subst h
  exact View.writes_append (Val := Elt Ideal) v f L1 L0

/-- One head, its axis dropped and in 16 bits. -/
theorem one_head (v : FVec Ideal S1x1024x128 .f32) (r : Fin 1024) (d : Fin 128) : k0_pay1 (F := Ideal) v (ix2 r d) = v (ix3 0 r d) :=
  (shapeCast_dropUnit_apply ![1024, 128] v shapeCasts_S1x1024x128_S1024x128 (ix2 r d)).trans (congrArg v (funext fun a => by
    match a with | ⟨0, _⟩ => rfl | ⟨1, _⟩ => rfl | ⟨2, _⟩ => rfl))

section point

variable {c : Dev nD} {i : grid0.Coords} {arg2 : Memref sig .tc .vmem S1024x256 .bf16} (harg2 : arg2.IsWhole)
  {arg3 : Memref sig .tc .vmem S8192x256 .bf16} (harg3 : arg3.IsWhole) {arg4 : Memref sig .tc .vmem S8192x256 .bf16} (harg4 : arg4.IsWhole)
  {arg5 : Memref sig .tc .vmem S256x256 .bf16} (harg5 : arg5.IsWhole) {arg6 : Memref sig .tc .vmem S1024x256 .bf16} (harg6 : arg6.IsWhole)
  {arg7 : Memref sig .tc .vmem S2x1024x128 .f32} (harg7 : arg7.IsWhole) {arg8 : Memref sig .tc .vmem S2x1024x1 .f32} (harg8 : arg8.IsWhole)
  {X0 : FVec Ideal S1024x256 .bf16} {X1 X2 : FVec Ideal S8192x256 .bf16} {X3 : FVec Ideal S256x256 .bf16}
  {Q K V : ℕ → ℕ → EReal} (hN : IsTri X3) (hQ : IsTable X0 Q) (hK : IsTable X1 K) (hV : IsTable X2 V)

include hN hQ hK hV in
/-- After the sweep over the own block every row holds what it should down to the block's first key. -/
theorem own_held : Held arg7 arg8 (arg7.view.writes (Elt Ideal) arg7.view.junk (kernelRun0_A.sl.HS0_9 (F := Ideal) c i arg2 harg2 arg3 harg3 arg4 harg4 arg5 harg5 arg7 arg8 X0 X1 X2 X3))
    (arg8.view.writes (Elt Ideal) arg8.view.junk (kernelRun0_A.sl.HS1_9 (F := Ideal) c i arg2 harg2 arg3 harg3 arg5 harg5 arg8 X0 X1 X3)) Q K V (own i) (own i) := by
  have h1 := own00 harg2 harg3 harg4 harg5 hN hQ hK hV (c := c) (i := i) (arg7 := arg7) (arg8 := arg8) acc_start car_start
  have h2 := own01 harg2 harg3 harg4 harg5 hN hQ hK hV h1.1 h1.2
  have h3 := own10 harg2 harg3 harg4 harg5 hN hQ hK hV h2.1 h2.2
  have h4 := own11 harg2 harg3 harg4 harg5 hN hQ hK hV h3.1 h3.2
  have h5 := own20 harg2 harg3 harg4 harg5 hN hQ hK hV h4.1 h4.2
  have h6 := own21 harg2 harg3 harg4 harg5 hN hQ hK hV h5.1 h5.2
  have h7 := own30 harg2 harg3 harg4 harg5 hN hQ hK hV h6.1 h6.2
  have h8 := own31 harg2 harg3 harg4 harg5 hN hQ hK hV h7.1 h7.2
  intro h r
  have hlt : 2 * (r.val / 256) + h.val < 8 := by omega
  exact ⟨fun d => (h8.1 h r d).trans (if_pos hlt), (h8.2 h r 0).trans (if_pos hlt)⟩

include hN hQ hK hV in
/-- What head 0 reads at the end. -/
theorem end0 (r : Fin 1024) (d : Fin 128) : kernelRun0_A.sl.v772 (F := Ideal) c i arg2 harg2 arg3 harg3 arg4 harg4 arg5 harg5 arg6 harg6 arg7 harg7 arg8 harg8 X0 X1 X2 X3 (ix3 0 r d)
    = mix (score Q K 0 r.val) (fun p => V p (128 * 0 + d.val)) 0 (own i + r.val) := by
  have e2 : Scf.trips (k0_t2_loop i).lb (k0_t2_loop i).ub (k0_t2_loop i).st = 0 := trips2 i
  have e1 : 1024 * ((i 1).val - (k0_t1_loop i).trips) = 0 := by rw [trips1]; omega
  unfold kernelRun0_A.sl.v772
  rw [e2, last_writes]
  swap
  · rfl
  refine (load3 arg7 _ 0 _ r r (Nat.zero_add _).symm d).trans ?_
  refine (((sweep_held Variants.none c none i arg2 harg2 arg3 harg3 arg4 harg4 arg5 harg5 arg6 harg6 arg7 harg7 arg8 harg8 _ _ _ _ _ _ _ _
    (tri_held (c := c) harg5 hN) hQ hK hV _ _ _ (own_held harg2 harg3 harg4 harg5 hN hQ hK hV) _ le_rfl) 0 r).1 d).trans ?_
  rw [e1]
  rfl

include hN hQ hK hV in
/-- What head 1 reads at the end. -/
theorem end1 (r : Fin 1024) (d : Fin 128) : kernelRun0_A.sl.v776 (F := Ideal) c i arg2 harg2 arg3 harg3 arg4 harg4 arg5 harg5 arg6 harg6 arg7 harg7 arg8 harg8 X0 X1 X2 X3 (ix3 0 r d)
    = mix (score Q K 1 r.val) (fun p => V p (128 * 1 + d.val)) 0 (own i + r.val) := by
  have e2 : Scf.trips (k0_t2_loop i).lb (k0_t2_loop i).ub (k0_t2_loop i).st = 0 := trips2 i
  have e1 : 1024 * ((i 1).val - (k0_t1_loop i).trips) = 0 := by rw [trips1]; omega
  unfold kernelRun0_A.sl.v776
  rw [e2, last_writes]
  swap
  · rfl
  refine (load3 arg7 _ 1 _ r r (Nat.zero_add _).symm d).trans ?_
  refine (((sweep_held Variants.none c none i arg2 harg2 arg3 harg3 arg4 harg4 arg5 harg5 arg6 harg6 arg7 harg7 arg8 harg8 _ _ _ _ _ _ _ _
    (tri_held (c := c) harg5 hN) hQ hK hV _ _ _ (own_held harg2 harg3 harg4 harg5 hN hQ hK hV) _ le_rfl) 1 r).1 d).trans ?_
  rw [e1]
  rfl

include hN hQ hK hV in
/-- The block of the result: head 0 in its first 128 columns, head 1 in the others. -/
theorem out_coe (h : Fin 2) (r : Fin 1024) (d : Fin 128) (col : Fin 256) (hc : col.val = 128 * h.val + d.val) :
    out0_A_4 (F := Ideal) c i arg2 harg2 arg3 harg3 arg4 harg4 arg5 harg5 arg6 harg6 arg7 harg7 arg8 harg8 X0 X1 X2 X3 (ix2 r col)
      = mix (score Q K h.val r.val) (fun p => V p (128 * h.val + d.val)) 0 (own i + r.val) := by
  unfold out0_A_4 kernelRun0_A
  dsimp only
  match h with
  | ⟨0, _⟩ =>
    have hc' : col.val = 128 * 0 + d.val := hc
    refine (View.read_writes_cons_unit_of_not_mem _ _ _ _ _ _ rfl 1 (Or.inl (by show col.val < 128; omega))).trans ?_
    refine (View.read_writes_cons_unit_of_mem _ _ _ _ _ _ (ix2 r d) rfl fun a => ?_).trans ?_
    · match a with
      | ⟨0, _⟩ => exact (Nat.zero_add _).symm
      | ⟨1, _⟩ => show col.val = 0 + d.val; omega
    · refine Eq.trans ?_ (end0 (c := c) harg2 harg3 harg4 harg5 harg6 harg7 harg8 hN hQ hK hV r d)
      exact one_head (kernelRun0_A.sl.v772 (F := Ideal) c i arg2 harg2 arg3 harg3 arg4 harg4 arg5 harg5 arg6 harg6 arg7 harg7 arg8 harg8 X0 X1 X2 X3) r d
  | ⟨1, _⟩ =>
    have hc' : col.val = 128 * 1 + d.val := hc
    refine (View.read_writes_cons_unit_of_mem _ _ _ _ _ _ (ix2 r d) rfl fun a => ?_).trans ?_
    · match a with
      | ⟨0, _⟩ => exact (Nat.zero_add _).symm
      | ⟨1, _⟩ => show col.val = 128 + d.val; omega
    · refine Eq.trans ?_ (end1 (c := c) harg2 harg3 harg4 harg5 harg6 harg7 harg8 hN hQ hK hV r d)
      exact one_head (kernelRun0_A.sl.v776 (F := Ideal) c i arg2 harg2 arg3 harg3 arg4 harg4 arg5 harg5 arg6 harg6 arg7 harg7 arg8 harg8 X0 X1 X2 X3) r d

end point

end Cert.KernelIdeal.Gen
-- ==== Proof.Array.lean ====
module

public import proofs.«01_k».proof.Proof.Point
public import proofs.«01_k».proof.Proof.Gen.KernelIdeal.Value

@[expose] public section

set_option maxRecDepth 16384

noncomputable section

open Idealize.ShloMosaic Idealize.ShloMosaic.TcCoe Idealize.SL.Sem
open Stick Sweep

/-! # The kernel's result array -/

/-- The attention of head `hh` at query `t` in output column `d`, of the table of queries, keys and values. -/
def attn (A : ℕ → ℕ → EReal) (hh t d : ℕ) : EReal :=
  mix (fun p => ∑ e : Fin 128, A t (128 * hh + e.val) * A p (2048 + 128 * hh + e.val)) (fun p => A p (4096 + 128 * hh + d)) 0 t

/-- It is what a grid point computes from its blocks of queries, keys and values. -/
theorem attn_block (A : ℕ → ℕ → EReal) (t0 g h r d : ℕ) :
    mix (Cert.KernelIdeal.Gen.score (fun r e => A (t0 + r) (256 * g + e)) (fun p e => A p (2048 + 256 * g + e)) h r)
      (fun p => (fun p e => A p (4096 + 256 * g + e)) p (128 * h + d)) 0 (t0 + r) = attn A (2 * g + h) (t0 + r) d := by
  have e1 : ∀ e, 256 * g + (128 * h + e) = 128 * (2 * g + h) + e := fun e => by omega
  have e2 : ∀ e, 2048 + 256 * g + (128 * h + e) = 2048 + 128 * (2 * g + h) + e := fun e => by omega
  have e3 : 4096 + 256 * g + (128 * h + d) = 4096 + 128 * (2 * g + h) + d := by omega
  unfold attn Cert.KernelIdeal.Gen.score
  simp only [e1, e2, e3]

namespace Cert.KernelIdeal.Gen

section array

variable (m : (ℓ : Loc nD τ sig) → Buf (Elt Ideal) ℓ) (c : Dev nD) {A : ℕ → ℕ → EReal}
  (hA : IsTable (M := 8192) (N := 6144) (φ := .bf16) (m ((c : Thread nD τ).loc main_arg0)) A)

/-- Which block each window holds at each grid point. -/
theorem idx : ∀ t : Fin cfg0.N, win0_0.index t = ![(grid0.coords t 1).val, (grid0.coords t 0).val]
    ∧ win0_1.index t = ![0, 8 + (grid0.coords t 0).val] ∧ win0_2.index t = ![0, 16 + (grid0.coords t 0).val]
    ∧ win0_3.index t = ![0, 0] ∧ win0_4.index t = ![(grid0.coords t 1).val, (grid0.coords t 0).val] :=
  (by decide +kernel : ∀ t : Fin grid0.N, _)

include hA in
/-- The queries of a grid point. -/
theorem q_block (t : Fin cfg0.N) : IsTable (M := 1024) (N := 256) (φ := .bf16) (iblk m c 0 t) (fun r e => A (1024 * (grid0.coords t 1).val + r) (256 * (grid0.coords t 0).val + e)) := by
  intro p e
  obtain ⟨e0, e1, e2, e3, e4⟩ := idx t
  have h0 : (grid0.coords t 0).val < 8 := (grid0.coords t 0).isLt
  have h1 : (grid0.coords t 1).val < 8 := (grid0.coords t 1).isLt
  refine Eq.trans ?_ (hA ⟨1024 * (grid0.coords t 1).val + p.val, by omega⟩ ⟨256 * (grid0.coords t 0).val + e.val, by omega⟩)
  blk_ext [iblk, V_main_arg0, e0]

include hA in
/-- The keys of a grid point. -/
theorem k_block (t : Fin cfg0.N) : IsTable (M := 8192) (N := 256) (φ := .bf16) (iblk m c 1 t) (fun r e => A r (2048 + 256 * (grid0.coords t 0).val + e)) := by
  intro p e
  obtain ⟨e0, e1, e2, e3, e4⟩ := idx t
  have h0 : (grid0.coords t 0).val < 8 := (grid0.coords t 0).isLt
  refine Eq.trans ?_ (hA p ⟨2048 + 256 * (grid0.coords t 0).val + e.val, by omega⟩)
  blk_ext [iblk, V_main_arg0, e1]

include hA in
/-- The values of a grid point. -/
theorem v_block (t : Fin cfg0.N) : IsTable (M := 8192) (N := 256) (φ := .bf16) (iblk m c 2 t) (fun r e => A r (4096 + 256 * (grid0.coords t 0).val + e)) := by
  intro p e
  obtain ⟨e0, e1, e2, e3, e4⟩ := idx t
  have h0 : (grid0.coords t 0).val < 8 := (grid0.coords t 0).isLt
  refine Eq.trans ?_ (hA p ⟨4096 + 256 * (grid0.coords t 0).val + e.val, by omega⟩)
  blk_ext [iblk, V_main_arg0, e2]

/-- The triangle that the host computes. -/
theorem tri_block (t : Fin cfg0.N) : IsTri (iblk m c 3 t) := by
  intro j l
  obtain ⟨e0, e1, e2, e3, e4⟩ := idx t
  blk_simp [iblk, e3]
  entry_read
  pointwise
  have h0 : ((((View.whole main_v8).slice (win0_3.rect t)).emb (ix2 j l)) 0).val = j.val := by blk_simp [e3]
  have h1 : ((((View.whole main_v8).slice (win0_3.rect t)).emb (ix2 j l)) 1).val = l.val := by blk_simp [e3]
  rw [h0, h1, WordCmp.cmpi_sge_ofNat (by omega) (by omega)]
  by_cases h : l.val ≤ j.val
  · rw [if_pos h, decide_eq_true h]
    show -(((BitVec.ofBool true).toNat : ℝ) : EReal) = _
    simp
  · rw [if_neg h, decide_eq_false h]
    show -(((BitVec.ofBool false).toNat : ℝ) : EReal) = _
    simp

/-- The result at row `t` and column `col`. -/
def result (A : ℕ → ℕ → EReal) : FVec Ideal S8192x2048 .bf16 := fun y =>
  attn A ((y 1).val / 128) (y 0).val ((y 1).val % 128)

include hA in
/-- The kernel's result array. -/
theorem kernel_array : (dats m 0 c).arrAt 4 cfg0.N = result A := by
  refine (dats m 0 c).arrAt_eq_of_covers 4 _ (by decide +kernel) fun t _ y => ?_
  obtain ⟨e0, e1, e2, e3, e4⟩ := idx t
  have hy0 : (y 0).val < 1024 := (y 0).isLt
  have hy1 : (y 1).val < 256 := (y 1).isLt
  blk_simp
  rw [after0_4]
  unfold outsAt0
  have hy : y = ix2 (⟨(y 0).val, hy0⟩ : Fin 1024) (⟨(y 1).val, hy1⟩ : Fin 256) := funext fun a => by
    match a with | ⟨0, _⟩ => rfl | ⟨1, _⟩ => rfl
  have key := out_coe (c := c) (i := grid0.coords t) (hs0_0 t) (hs0_1 t) (hs0_2 t) (hs0_3 t) (hs0_4 t) (Memref.isWhole_whole cc0_scratch0) (Memref.isWhole_whole cc0_scratch1)
    (tri_block m c t) (q_block m c hA t) (k_block m c hA t) (v_block m c hA t)
    ⟨(y 1).val / 128, by omega⟩ ⟨(y 0).val, hy0⟩ ⟨(y 1).val % 128, by omega⟩ ⟨(y 1).val, hy1⟩ (Nat.div_add_mod _ _).symm
  rw [← hy] at key
  refine key.trans ?_
  have r0 : ((((View.whole main_v9).slice (win0_4.rect t)).emb y) 0).val = 1024 * (grid0.coords t 1).val + (y 0).val := by blk_simp [e4]; omega
  have r1 : ((((View.whole main_v9).slice (win0_4.rect t)).emb y) 1).val = 256 * (grid0.coords t 0).val + (y 1).val := by blk_simp [e4]; omega
  unfold result
  rw [r0, r1, show (256 * (grid0.coords t 0).val + (y 1).val) / 128 = 2 * (grid0.coords t 0).val + (y 1).val / 128 by omega,
    show (256 * (grid0.coords t 0).val + (y 1).val) % 128 = (y 1).val % 128 by omega]
  exact attn_block A _ _ _ _ _

end array

end Cert.KernelIdeal.Gen
-- ==== Proof.Ref.lean ====
module

public import proofs.«01_k».proof.Proof.Running
public import proofs.«01_k».proof.Proof.Array
public import proofs.«01_k».proof.Proof.Gen.ReferenceIdeal.Run

@[expose] public section

set_option maxRecDepth 16384

noncomputable section

open Idealize.ShloMosaic Idealize.ShloMosaic.TcCoe Idealize.SL.Sem
open Stick Sweep

/-! # The reference's value

The reference's term is named in layers, and each layer is read at an index. -/

/-- The word of zero. -/
theorem zero_bits : Ideal.ofBits .f32 0x00000000#32 = 0 := by
  simp [Ideal.ofBits, Ideal.ieee]

/-- The log of the word of two. -/
theorem log_two : Ideal.log (Ideal.ofBits .f32 0x40000000#32) = ln2 := by
  have h : Ideal.ofBits .f32 0x40000000#32 = ((2 : ℝ) : EReal) := by
    simp [Ideal.ofBits, Ideal.ieee, -EReal.coe_mul]
    norm_num
  rw [h, log_coe (by norm_num)]

/-- A choice by a decided proposition. -/
theorem pick (p : Prop) [Decidable p] (a b : EReal) : Scalar.select (BitVec.ofBool (decide p)) a b = if p then a else b := by
  by_cases h : p
  · rw [if_pos h, decide_eq_true h]; rfl
  · rw [if_neg h, decide_eq_false h]; rfl

namespace Cert.ReferenceIdeal.Gen

/-- The sixteen heads of one third of the table. -/
def heads {o : Fin 2 → ℕ} (hs : S8192x6144.Slices o S8192x2048) (x : FVec Ideal S8192x6144 .bf16) : FVec Ideal S16x8192x128 .f32 :=
  transpose S16x8192x128 [1, 0, 2] (shapeCast _ (extractStridedSlice S8192x2048 o (extf .f32 x bitsLt_bf16_f32) hs) shapeCasts_S8192x2048_S8192x16x128) transposes_S8192x16x128_S16x8192x128_1_0_2

/-- Zero everywhere. -/
def zeroB : FVec Ideal S16x8192x8192 .f32 := broadcastInDim S16x8192x8192 ![] bcast_S_S16x8192x8192 (constant S_ .f32 0x00000000#32)

/-- The scaled scores. -/
def zz (x : FVec Ideal S8192x6144 .bf16) : FVec Ideal S16x8192x8192 .f32 :=
  mulf (Host.dotGeneral dot_S16x8192x128_S16x8192x128_S16x8192x8192_2_2_1_1_0_0 none (heads slices_S8192x6144_S8192x2048_0_0 x) (heads slices_S8192x6144_S8192x2048_0_2048 x)) (broadcastInDim S16x8192x8192 ![] bcast_S_S16x8192x8192 (Host.log (constant S_ .f32 0x40000000#32)))

/-- Softplus, as the reference computes it. -/
def sp (X : FVec Ideal S16x8192x8192 .f32) : FVec Ideal S16x8192x8192 .f32 :=
  select (cmpf .une (subf X zeroB) (subf X zeroB)) (addf X zeroB) (addf (maximumf X zeroB) (Host.log1p (Host.exp (Host.negf (Host.absf (subf X zeroB))))))

/-- Whether a key is earlier than the query. -/
def msk : IVec S16x8192x8192 1 :=
  broadcastInDim S16x8192x8192 ![1, 2] bcast_S8192x8192_S16x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The log of what each earlier key leaves. -/
def lom (Z : FVec Ideal S16x8192x8192 .f32) : FVec Ideal S16x8192x8192 .f32 := select msk (Host.negf (sp Z)) zeroB

/-- Its running sum from the end. -/
def cum (Z : FVec Ideal S16x8192x8192 .f32) : FVec Ideal S16x8192x8192 .f32 :=
  Host.reduceWindowAdd ![1, 1, 8192] ![1, 1, 1] ![0, 0, 0] ![0, 0, 8191] (lom Z) (broadcastInDim S_ ![] bcast_S_S_ (constant S_ .f32 0x00000000#32)) reduceWindows_S16x8192x8192_S16x8192x8192_w1s1p0_0_w1s1p0_0_w8192s1p0_8191 h_S_

/-- The weights. -/
def wts (Z : FVec Ideal S16x8192x8192 .f32) : FVec Ideal S16x8192x8192 .f32 :=
  select msk (Host.exp (addf (Host.negf (sp (Host.negf Z))) (subf (cum Z) (lom Z)))) zeroB

/-- The whole. -/
def whole (x : FVec Ideal S8192x6144 .bf16) : FVec Ideal S8192x2048 .bf16 :=
  truncf .bf16 (shapeCast _ (transpose S8192x16x128 [1, 0, 2] (Host.dotGeneral dot_S16x8192x8192_S16x8192x128_S16x8192x128_2_1_1_2_0_0 none (wts (zz x)) (heads slices_S8192x6144_S8192x2048_0_4096 x)) transposes_S16x8192x128_S8192x16x128_1_0_2) shapeCasts_S8192x16x128_S8192x2048) bitsLt_bf16_f32

theorem whole_eq (m : (ℓ : Loc nD τ sig) → Buf (Elt Ideal) ℓ) (c : Dev nD) :
    Cert.ReferenceIdeal.Value.res_main_v32 m c = whole (m ((c.tc : Thread nD τ).loc main_arg0)) := rfl

section read

variable {A : ℕ → ℕ → EReal} {x : FVec Ideal S8192x6144 .bf16} (hx : ∀ (p : Fin 8192) (k : Fin 6144), x (ix2 p k) = A p.val k.val)

theorem zeroB_coe (i : S16x8192x8192.Idx) : zeroB i = 0 := by
  unfold zeroB
  pointwise

include hx in
theorem heads_coe {o : ℕ} (hs : S8192x6144.Slices ![0, o] S8192x2048) (ho : o + 2048 ≤ 6144) (h : Fin 16) (q : Fin 8192) (d : Fin 128) :
    heads hs x (ix3 h q d) = A q.val (o + 128 * h.val + d.val) := by
  refine Eq.trans ?_ (hx q ⟨o + 128 * h.val + d.val, by omega⟩)
  pointwise [heads]
  refine congrArg x (congrArg (ix2 q) (Fin.ext ?_))
  show o + (h.val * 128 + d.val) = o + 128 * h.val + d.val
  omega

theorem sp_coe (X : FVec Ideal S16x8192x8192 .f32) (i : S16x8192x8192.Idx) (y : EReal) (h : X i = (y : EReal)) : sp X i = splus y := by
  have h0 := zeroB_coe i
  unfold sp
  pointwise
  rw [if_neg (fun hn => hn rfl), h, h0, sub_zero]
  rfl

theorem msk_read (h : Fin 16) (q s : Fin 8192) : msk (ix3 h q s) = BitVec.ofBool (decide (s.val < q.val)) := by
  pointwise [msk]
  exact WordCmp.cmpi_slt_ofNat (by omega) (by omega)

include hx in
theorem zz_coe (h : Fin 16) (q s : Fin 8192) :
    zz x (ix3 h q s) = (∑ e : Fin 128, A q.val (128 * h.val + e.val) * A s.val (2048 + 128 * h.val + e.val)) * ln2 := by
  unfold zz
  pointwise
  have e : ∀ k : Fin 128, heads slices_S8192x6144_S8192x2048_0_0 x (ix3 h q k) * heads slices_S8192x6144_S8192x2048_0_2048 x (ix3 h s k)
      = A q.val (128 * h.val + k.val) * A s.val (2048 + 128 * h.val + k.val) := fun k => by
    rw [heads_coe hx _ (by omega), heads_coe hx _ (by omega), Nat.zero_add]
  rw [Finset.sum_congr rfl fun k _ => e k, log_two]

/-- The log of what each earlier key leaves, read. -/
theorem lom_coe (Z : FVec Ideal S16x8192x8192 .f32) (h : Fin 16) (q : Fin 8192) (z : ℕ → EReal)
    (hz : ∀ s : Fin 8192, Z (ix3 h q s) = z s.val * ln2) (s : Fin 8192) :
    lom Z (ix3 h q s) = (if s.val < q.val then -splus (z s.val * ln2) else 0) := by
  have e1 := sp_coe Z _ _ (hz s)
  have e2 := msk_read h q s
  have e3 := zeroB_coe (ix3 h q s)
  unfold lom
  pointwise
  rw [e1, e2, e3, pick]

/-- The weights, read. -/
theorem wts_coe (Z : FVec Ideal S16x8192x8192 .f32) (h : Fin 16) (q : Fin 8192) (z : ℕ → EReal)
    (hz : ∀ s : Fin 8192, Z (ix3 h q s) = z s.val * ln2) (s : Fin 8192) :
    wts Z (ix3 h q s) = (if s.val < q.val then weight z q.val s.val else 0) := by
  have hn : (Host.negf Z) (ix3 h q s) = -(z s.val * ln2) := by
    pointwise
    rw [hz s]
  have e1 := sp_coe (Host.negf Z) _ _ hn
  have e2 := msk_read h q s
  have e3 := zeroB_coe (ix3 h q s)
  have e4 := lom_coe Z h q z hz s
  have e5 : cum Z (ix3 h q s) = decay z s.val q.val * ln2 := by
    rw [← running z 8192 q.val q.isLt.le s.val]
    exact cum_coe _ _ _ _ zero_bits h q (fun j => if j < q.val then -splus (z j * ln2) else 0) (lom_coe Z h q z hz) s
  unfold wts
  pointwise
  rw [e1, e2, e3, e4, e5, pick]
  by_cases hs : s.val < q.val
  · rw [if_pos hs, if_pos hs, if_pos hs, ← weight_ref z hs]
  · rw [if_neg hs, if_neg hs]

include hx in
/-- The reference's result is the attention. -/
theorem whole_coe (t : Fin 8192) (j : Fin 2048) : whole x (ix2 t j) = attn A (j.val / 128) t.val (j.val % 128) := by
  have hd : j.val % 128 < 128 := Nat.mod_lt _ (by omega)
  unfold whole
  pointwise
  unfold attn mix
  rw [Finset.sum_congr rfl fun s _ => (congrArg₂ (· * ·) (wts_coe (zz x) ⟨j.val / 128, by omega⟩ t (fun s => ∑ e : Fin 128, A t.val (128 * (j.val / 128) + e.val) * A s (2048 + 128 * (j.val / 128) + e.val)) (zz_coe hx ⟨j.val / 128, by omega⟩ t) s)
    (heads_coe hx slices_S8192x6144_S8192x2048_0_4096 (by omega) ⟨j.val / 128, by omega⟩ s ⟨j.val % 128, hd⟩))]
  rw [Fin.sum_univ_eq_sum_range (fun s => (if s < t.val then weight _ t.val s else 0) * A s (4096 + 128 * (j.val / 128) + j.val % 128)) 8192]
  simp only [ite_mul, zero_mul]
  rw [← Finset.sum_filter]
  refine Finset.sum_congr ?_ fun _ _ => rfl
  ext s
  simp only [Finset.mem_filter, Finset.mem_range, Finset.mem_Ico]
  omega

include hx in
/-- The reference's result array is the kernel's. -/
theorem whole_result : whole x = Cert.KernelIdeal.Gen.result A :=
  funext fun y => (congrArg (whole x) (funext fun a => by match a with | ⟨0, _⟩ => rfl | ⟨1, _⟩ => rfl)).trans (whole_coe hx ⟨(y 0).val, (y 0).isLt⟩ ⟨(y 1).val, (y 1).isLt⟩)

end read

end Cert.ReferenceIdeal.Gen
-- ==== Proof.Norm.lean ====
module

public import Idealize.ShloMosaic.Lib.MatmulPlain
public import Idealize.ShloMosaic.Lib.Pipeline.ReadBack
public import Idealize.ShloMosaic.Lib.Pipeline.ValueKit
public import Idealize.ShloMosaic.Lib.Pointwise
public import Idealize.ShloMosaic.Lib.WholeRead
public import Idealize.ShloMosaic.Lib.WritesUnit

@[expose] public section

set_option maxRecDepth 16384

noncomputable section

open Idealize.ShloMosaic Idealize.ShloMosaic.TcCoe Idealize.SL.Sem

/-! # The mathematics of the calls around the attention, over the extended reals -/

namespace Layer

/-- A row divided by its root mean square, weighted by `g`: what every call but one begins with. -/
def rms (x g : ℕ → EReal) (k : ℕ) : EReal :=
  x k * Ideal.rsqrt (Ideal.div (∑ j : Fin 2048, x j.val * x j.val) (Ideal.ofBits .f32 0x45000000#32) + Ideal.ofBits .f32 0x358637BD#32) * g k

/-- The product of a row with a column. -/
def dot (n : ℕ) (x w : ℕ → EReal) : EReal := ∑ k : Fin n, x k.val * w k.val

/-- The square of the positive part. -/
def sq (v : EReal) : EReal := max v 0 * max v 0

/-- The logistic function as the two programs compute it. -/
def sigm (v : EReal) : EReal := Ideal.div 1 (1 + Ideal.exp (-v))

/-- The array `x` holds the table `A`. -/
def Is {M N : ℕ} {φ : FTy} (x : FVec Ideal ⟨2, ![M, N]⟩ φ) (A : ℕ → ℕ → EReal) : Prop :=
  ∀ (r : Fin M) (k : Fin N), x (ix2 r k) = A r.val k.val

/-- The table that an array of two axes holds. -/
def tab {M N : ℕ} {φ : FTy} (x : FVec Ideal ⟨2, ![M, N]⟩ φ) (r k : ℕ) : EReal :=
  if h : r < M ∧ k < N then x (ix2 ⟨r, h.1⟩ ⟨k, h.2⟩) else 0

theorem is_tab {M N : ℕ} {φ : FTy} (x : FVec Ideal ⟨2, ![M, N]⟩ φ) : Is x (tab x) := fun r k => by
  rw [tab, dif_pos ⟨r.isLt, k.isLt⟩]

/-- The vector that an array of one axis holds. -/
def vec {N : ℕ} {φ : FTy} (x : FVec Ideal ⟨1, ![N]⟩ φ) (k : ℕ) : EReal := if h : k < N then x (ix1 ⟨k, h⟩) else 0

theorem is_vec {N : ℕ} {φ : FTy} (x : FVec Ideal ⟨1, ![N]⟩ φ) (k : Fin N) : x (ix1 k) = vec x k.val := by
  rw [vec, dif_pos k.isLt]

/-- Layer `l` of a stack of tables. -/
def lay {L M N : ℕ} {φ : FTy} (x : FVec Ideal ⟨3, ![L, M, N]⟩ φ) (l : Fin L) (r k : ℕ) : EReal :=
  if h : r < M ∧ k < N then x (ix3 l ⟨r, h.1⟩ ⟨k, h.2⟩) else 0

theorem is_lay {L M N : ℕ} {φ : FTy} (x : FVec Ideal ⟨3, ![L, M, N]⟩ φ) (l : Fin L) (r : Fin M) (k : Fin N) :
    x (ix3 l r k) = lay x l r.val k.val := by
  rw [lay, dif_pos ⟨r.isLt, k.isLt⟩]

/-- A sum over `b` blocks of `n`, block by block. -/
theorem sum_blocks (f : ℕ → EReal) (n : ℕ) : ∀ b : ℕ,
    ∑ k : Fin (n * b), f k.val = ∑ s ∈ Finset.range b, ∑ j : Fin n, f (n * s + j.val) := by
  intro b
  induction b with
  | zero => simp
  | succ b ih =>
    rw [Finset.sum_range_succ, ← ih, Finset.sum_range (fun k => f k) |>.symm, Finset.sum_range (fun k => f k) |>.symm,
      Nat.mul_succ, Finset.sum_range_add, Finset.sum_range (fun j => f (n * b + j))]

end Layer

end
-- ==== Proof.Attention.lean ====
module

public import proofs.«01_k».proof.Proof.Ref
public import proofs.«01_k».proof.Defs
public import proofs.«01_k».proof.Proof.Gen.Kernel.Frame
public import proofs.«01_k».proof.Proof.Norm
public import Idealize.ShloMosaic.Adequacy
public import Idealize.ShloMosaic.Init

@[expose] public section

set_option maxRecDepth 16384

noncomputable section

open Idealize.ShloMosaic Idealize.ShloMosaic.TcCoe Idealize.SL.Sem

/-! # The claims about the attention -/

namespace Claims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "log2e" .f32 0x3FB8AA3B#32 (((Real.log 2)⁻¹ : ℝ) : EReal) rfl

/-- Kernel and reference end at the same array. -/
theorem algebraic : Cert.algebraic_KernelIdeal_ReferenceIdeal := by
  intro m ρ m' ρ' _ hagree
  refine ⟨fun c => Cert.KernelIdeal.Gen.result (Layer.tab (M := 8192) (N := 6144) (φ := .bf16) (m ((c.tc : Thread Cert.KernelIdeal.nD Cert.KernelIdeal.τ).loc Cert.KernelIdeal.main_arg0))),
    (θ_run Cert.KernelIdeal.defs _ _).mono (fun _ h c => ⟨(h c).1.trans (Cert.KernelIdeal.Gen.kernel_array m c (Layer.is_tab _)), (h c).2⟩) (Cert.KernelIdeal.Value.run_blocks (F := Ideal) m ρ), ?_⟩
  refine (θ_run Cert.ReferenceIdeal.defs _ _).mono (fun _ h c => ⟨(h c).1.trans ?_, (h c).2⟩) (Cert.ReferenceIdeal.Value.run (F := Ideal) m' ρ')
  refine (Cert.ReferenceIdeal.Gen.whole_eq m' c).trans ?_
  refine (congrArg Cert.ReferenceIdeal.Gen.whole (hagree c)).trans ?_
  exact Cert.ReferenceIdeal.Gen.whole_result (Layer.is_tab _)

end Claims
-- ==== Proof.Mlp.lean ====
module

public import proofs.«01_k».proof.Proof.Norm
public import proofs.«01_k».proof.Defs
public import proofs.«01_k».proof.Proof.Gen.KernelMlp.Frame
public import proofs.«01_k».proof.Proof.Gen.KernelMlpIdeal.Value
public import proofs.«01_k».proof.Proof.Gen.ReferenceMlpIdeal.Run

@[expose] public section

set_option maxRecDepth 16384

noncomputable section

open Idealize.ShloMosaic Idealize.ShloMosaic.TcCoe Idealize.SL.Sem
open Layer

/-! # The feed-forward call -/

namespace Layer

/-- Hidden unit `f` of row `x`, times its weight in one output column. -/
def unit (x g : ℕ → EReal) (U : ℕ → ℕ → EReal) (D : ℕ → EReal) (f : ℕ) : EReal :=
  sq (dot 2048 (rms x g) (fun k => U k f)) * D f

end Layer

namespace Cert.KernelMlpIdeal.Gen

/-- The rows of a block, normed. -/
theorem pay1_eq {h : FVec Ideal S1024x2048 .f32} {g : FVec Ideal S1x2048 .f32} {A B : ℕ → ℕ → EReal} (hA : Is h A) (hB : Is g B) :
    Is (M := 1024) (N := 2048) (φ := .bf16) (k0_pay1 (F := Ideal) h g) (fun r => rms (A r) (B 0)) := by
  intro r k
  pointwise [k0_pay1]
  simp only [hA _ _, hB _ _]
  rfl

/-- What one block of hidden units adds to a block of rows. -/
theorem pay2_eq {x : FVec Ideal S1024x2048 .bf16} {u : FVec Ideal S1x2048x512 .f32} {o : FVec Ideal S1024x2048 .f32} {d : FVec Ideal S1x512x2048 .f32}
    {A g O U D : ℕ → ℕ → EReal} {f0 : ℕ} (hx : Is x (fun r => rms (A r) (g 0))) (hu : ∀ (k : Fin 2048) (f : Fin 512), u (ix3 0 k f) = U k.val (f0 + f.val)) (ho : Is o O)
    (hd : ∀ (f : Fin 512) (n : Fin 2048), d (ix3 0 f n) = D (f0 + f.val) n.val) :
    Is (M := 1024) (N := 2048) (φ := .f32) (k0_pay2 (F := Ideal) x u o d)
      (fun r n => O r n + ∑ f : Fin 512, unit (A r) (g 0) U (fun f => D f n) (f0 + f.val)) := by
  intro r n
  pointwise [k0_pay2]
  simp only [hx _ _, hu _ _, ho _ _, hd _ _]
  rfl

section cases

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x512 .f32) (harg4 : arg4.IsWhole) (arg5 : Memref sig .tc .vmem S1x512x2048 .f32) (harg5 : arg5.IsWhole)
  (arg6 : Memref sig .tc .vmem S1024x2048 .f32) (harg6 : arg6.IsWhole) (arg7 : Memref sig .tc .vmem S1024x2048 .bf16) (harg7 : arg7.IsWhole)
  (x0 : Vec Ideal S1024x2048 .f32) (x1 : Vec Ideal S1x2048 .f32) (x2 : Vec Ideal S1x2048x512 .f32) (x3 : Vec Ideal S1x512x2048 .f32)

theorem hz2 : (![0, 0] : Fin 2 → Nat) = fun _ => 0 := by decide
theorem hz3 : (![0, 0, 0] : Fin 3 → Nat) = fun _ => 0 := by decide

/-- A later block of hidden units is added to what the output block held. -/
theorem out_later (hc0 : ¬cond0_0 i) (xo : Vec Ideal S1024x2048 .f32) (xs : Vec Ideal S1024x2048 .bf16) :
    out0_B_4 c i arg2 harg2 arg3 harg3 arg4 harg4 arg5 harg5 arg6 harg6 arg7 harg7 hc0 x0 x1 x2 x3 xo xs = k0_pay2 xs x2 xo x3 := by
  unfold out0_B_4
  rw [View.read_writes_eq_canon _ _ _ (cover0_B_4 c i arg2 harg2 arg3 harg3 arg4 harg4 arg5 harg5 arg6 harg6 arg7 harg7 hc0 x0 x1 x2 x3 xo xs)]
  unfold kernelRun0_B
  dsimp only
  rw [View.canon_unit_zero hz2]
  simp only [View.readAt_eq_ld, harg2.read_unread, harg3.read_unread, harg4.read_unread, harg5.read_unread, harg6.read_unread, harg7.read_unread,
    View.ld_unit_zero (S := S1024x2048) hz2, View.ld_unit_zero (S := S1x2048x512) hz3, View.ld_unit_zero (S := S1x512x2048) hz3]

/-- A later block leaves the normed rows as they are. -/
theorem rows_later (hc0 : ¬cond0_0 i) (xo : Vec Ideal S1024x2048 .f32) (xs : Vec Ideal S1024x2048 .bf16) :
    sout0_B_0 c i arg2 harg2 arg3 harg3 arg4 harg4 arg5 harg5 arg6 harg6 arg7 harg7 hc0 x0 x1 x2 x3 xo xs = xs := by
  unfold sout0_B_0
  rfl

/-- The first block of hidden units is added to the rows. -/
theorem out_first (hc0 : cond0_0 i) :
    out0_A_4 c i arg2 harg2 arg3 harg3 arg4 harg4 arg5 harg5 arg6 harg6 arg7 harg7 hc0 x0 x1 x2 x3 = k0_pay2 (k0_pay1 x0 x1) x2 x0 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  sl_unfold_words
  rw [View.canon_cons_unit_zero (S := S1024x2048) hz2]
  rw [View.readCov_unit_zero (S := S1024x2048) _ hz2, View.readCov_unit_zero (S := S1024x2048) _ hz2]
  simp only [View.readAt_eq_ld, harg2.read_unread, harg3.read_unread, harg4.read_unread, harg5.read_unread,
    View.ld_unit_zero (S := S1024x2048) hz2, View.ld_unit_zero (S := S1x2048) hz2, View.ld_unit_zero (S := S1x2048x512) hz3, View.ld_unit_zero (S := S1x512x2048) hz3]

/-- The first block leaves the normed rows. -/
theorem rows_first (hc0 : cond0_0 i) :
    sout0_A_0 c i arg2 harg2 arg3 harg3 arg4 harg4 arg5 harg5 arg6 harg6 arg7 harg7 hc0 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  sl_unfold_words
  rw [View.canon_unit_zero hz2]
  simp only [View.readAt_eq_ld, harg2.read_unread, harg3.read_unread, harg4.read_unread, harg5.read_unread,
    View.ld_unit_zero (S := S1024x2048) hz2, View.ld_unit_zero (S := S1x2048) hz2, View.ld_unit_zero (S := S1x2048x512) hz3, View.ld_unit_zero (S := S1x512x2048) hz3]

end cases

section array

variable (m : (ℓ : Loc nD τ sig) → Buf (Elt Ideal) ℓ) (c : Dev nD)

/-- The rows, the weights of the norm, and the two weight matrices. -/
abbrev xT : ℕ → ℕ → EReal := tab (M := 8192) (N := 2048) (φ := .f32) (m ((c : Thread nD τ).loc main_arg0))
abbrev gT : ℕ → EReal := vec (N := 2048) (φ := .f32) (m ((c : Thread nD τ).loc main_arg1))
abbrev uT : ℕ → ℕ → EReal := lay (L := 4) (M := 2048) (N := 8192) (φ := .f32) (m ((c : Thread nD τ).loc main_arg2)) 0
abbrev dT : ℕ → ℕ → EReal := lay (L := 4) (M := 8192) (N := 2048) (φ := .f32) (m ((c : Thread nD τ).loc main_arg3)) 0

/-- Which block each window holds at each grid point. -/
theorem idx : ∀ t : Fin cfg0.N, win0_0.index t = ![t.val / 16, 0] ∧ win0_1.index t = ![0, 0]
    ∧ win0_2.index t = ![0, 0, t.val % 16] ∧ win0_3.index t = ![0, t.val % 16, 0] :=
  (by decide +kernel : ∀ t : Fin grid0.N, _)

theorem lt_N (t : Fin cfg0.N) : t.val < 128 := lt_of_lt_of_eq t.isLt N_0

theorem x_block (t : Fin cfg0.N) : Is (M := 1024) (N := 2048) (φ := .f32) (iblk m c 0 t) (fun r => xT m c (1024 * (t.val / 16) + r)) := by
  intro p k
  obtain ⟨e0, e1, e2, e3⟩ := idx t
  have h := lt_N t
  refine Eq.trans ?_ (is_tab (M := 8192) (N := 2048) (φ := .f32) (m ((c : Thread nD τ).loc main_arg0)) ⟨1024 * (t.val / 16) + p.val, by omega⟩ k)
  blk_ext [iblk, V_main_arg0, e0]

theorem g_block (t : Fin cfg0.N) : Is (M := 1) (N := 2048) (φ := .f32) (iblk m c 1 t) (fun _ => gT m c) := by
  intro p k
  obtain ⟨e0, e1, e2, e3⟩ := idx t
  refine Eq.trans ?_ (is_vec (N := 2048) (φ := .f32) (m ((c : Thread nD τ).loc main_arg1)) k)
  blk_simp [iblk, e1]
  entry_read
  pointwise
  refine congrArg (m ((c : Thread nD τ).loc main_arg1)) (funext fun a => ?_)
  match a with
  | ⟨0, _⟩ => exact Fin.ext (by blk_simp [e1])

theorem u_block (t : Fin cfg0.N) (k : Fin 2048) (f : Fin 512) :
    (iblk m c 2 t : FVec Ideal S1x2048x512 .f32) (ix3 0 k f) = uT m c k.val (512 * (t.val % 16) + f.val) := by
  obtain ⟨e0, e1, e2, e3⟩ := idx t
  refine Eq.trans ?_ (is_lay (L := 4) (M := 2048) (N := 8192) (φ := .f32) (m ((c : Thread nD τ).loc main_arg2)) 0 k ⟨512 * (t.val % 16) + f.val, by omega⟩)
  blk_ext [iblk, V_main_arg2, e2]

theorem d_block (t : Fin cfg0.N) (f : Fin 512) (n : Fin 2048) :
    (iblk m c 3 t : FVec Ideal S1x512x2048 .f32) (ix3 0 f n) = dT m c (512 * (t.val % 16) + f.val) n.val := by
  obtain ⟨e0, e1, e2, e3⟩ := idx t
  refine Eq.trans ?_ (is_lay (L := 4) (M := 8192) (N := 2048) (φ := .f32) (m ((c : Thread nD τ).loc main_arg3)) 0 ⟨512 * (t.val % 16) + f.val, by omega⟩ n)
  blk_ext [iblk, V_main_arg3, e3]

/-- What the output block holds once `b` blocks of hidden units are added. -/
def part (r n b : ℕ) : EReal :=
  xT m c r n + ∑ s ∈ Finset.range b, ∑ f : Fin 512, unit (xT m c r) (gT m c) (uT m c) (fun f => dT m c f n) (512 * s + f.val)

/-- What a grid point leaves: the normed rows, and the sum over the blocks of hidden units so far. -/
def Held (t : Fin cfg0.N) : Prop :=
  Is (M := 1024) (N := 2048) (φ := .f32) (outsAt0 m c t.val t.isLt).1 (fun r k => part m c (1024 * (t.val / 16) + r) k (t.val % 16 + 1))
  ∧ Is (M := 1024) (N := 2048) (φ := .bf16) (outsAt0 m c t.val t.isLt).2 (fun r => rms (xT m c (1024 * (t.val / 16) + r)) (gT m c))

theorem held_first (t : Fin cfg0.N) (h0 : t.val % 16 = 0) : Held m c t := by
  unfold Held
  rw [outsAt0_A m c t h0]
  dsimp only
  rw [out_first, rows_first]
  refine ⟨fun r k => ?_, pay1_eq (x_block m c t) (g_block m c t)⟩
  refine (pay2_eq (g := fun _ => gT m c) (pay1_eq (x_block m c t) (g_block m c t)) (u_block m c t) (x_block m c t) (d_block m c t) r k).trans ?_
  unfold part
  dsimp only
  rw [h0, Finset.sum_range_succ, Finset.sum_range_zero, zero_add]

theorem held_later (t : Fin cfg0.N) (h0 : ¬t.val % 16 = 0) (h : Held m c ⟨t.val - 1, Nat.lt_of_le_of_lt (Nat.sub_le _ _) t.isLt⟩) : Held m c t := by
  obtain ⟨ho, hs⟩ := h
  have e1 : (t.val - 1) / 16 = t.val / 16 := by omega
  have e2 : (t.val - 1) % 16 + 1 = t.val % 16 := by omega
  simp only [e1, e2] at ho hs
  unfold Held
  rw [outsAt0_B m c t h0]
  dsimp only
  rw [out_later, rows_later]
  refine ⟨fun r k => ?_, hs⟩
  refine (pay2_eq (g := fun _ => gT m c) hs (u_block m c t) ho (d_block m c t) r k).trans ?_
  unfold part
  dsimp only
  rw [Finset.sum_range_succ, add_assoc]

theorem held : ∀ (n : ℕ) (hn : n < cfg0.N), Held m c ⟨n, hn⟩ := by
  intro n
  induction n with
  | zero => exact fun hn => held_first m c ⟨0, hn⟩ rfl
  | succ n ih =>
    intro hn
    by_cases h0 : (n + 1) % 16 = 0
    · exact held_first m c ⟨n + 1, hn⟩ h0
    · exact held_later m c ⟨n + 1, hn⟩ h0 (ih (Nat.lt_of_succ_lt hn))

/-- The result: each row, plus its hidden units' squares weighted. -/
def result (X : ℕ → ℕ → EReal) (g : ℕ → EReal) (U D : ℕ → ℕ → EReal) : FVec Ideal S8192x2048 .f32 := fun y =>
  X (y 0).val (y 1).val + ∑ f : Fin 8192, unit (X (y 0).val) g U (fun f => D f (y 1).val) f.val

/-- The kernel's result array. -/
theorem kernel_array : Cert.KernelMlpIdeal.Value.G4 m c = result (xT m c) (gT m c) (uT m c) (dT m c) := by
  funext y
  have h0 : (y 0).val < 8192 := (y 0).isLt
  have h1 : (y 1).val < 2048 := (y 1).isLt
  have hp : Cert.KernelMlpIdeal.Value.pt4Of y = 16 * ((y 0).val / 1024) + 15 := by
    unfold Cert.KernelMlpIdeal.Value.pt4Of Cert.KernelMlpIdeal.Value.run4Of; omega
  have hlt : Cert.KernelMlpIdeal.Value.pt4Of y < cfg0.N := by
    rw [hp]; exact lt_of_lt_of_eq (by omega) N_0.symm
  unfold Cert.KernelMlpIdeal.Value.G4
  rw [dif_pos hlt, ← Cert.KernelMlpIdeal.Value.outsAt0_sweep m c _ hlt]
  have key := (held m c _ hlt).1 ⟨(y 0).val % 1024, by omega⟩ ⟨(y 1).val % 2048, by omega⟩
  have hl : Cert.KernelMlpIdeal.Value.loc4Of y = ix2 (⟨(y 0).val % 1024, by omega⟩ : Fin 1024) (⟨(y 1).val % 2048, by omega⟩ : Fin 2048) := funext fun a => by
    match a with | ⟨0, _⟩ => rfl | ⟨1, _⟩ => rfl
  rw [hl]
  refine key.trans ?_
  simp only [hp]
  rw [show 1024 * ((16 * ((y 0).val / 1024) + 15) / 16) + (y 0).val % 1024 = (y 0).val by omega,
    show (16 * ((y 0).val / 1024) + 15) % 16 + 1 = 16 by omega, show (y 1).val % 2048 = (y 1).val by omega]
  unfold part result
  rw [sum_blocks (fun f => unit (xT m c (y 0).val) (gT m c) (uT m c) (fun f => dT m c f (y 1).val) f) 512 16]

end array

end Cert.KernelMlpIdeal.Gen

namespace Cert.ReferenceMlpIdeal.Gen

/-- The reference's result array, of its arguments. -/
theorem reference_array (X : FVec Ideal S8192x2048 .f32) (G : FVec Ideal S2048 .f32) (U : FVec Ideal S4x2048x8192 .f32) (D : FVec Ideal S4x8192x2048 .f32) :
    addf X (Host.dotGeneral dot_S8192x8192_S8192x2048_S8192x2048_1_0_0_1_n_n none (mulf (maximumf (Host.dotGeneral dot_S8192x2048_S2048x8192_S8192x8192_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x8192 ![0, 0, 0] U slices_S4x2048x8192_S1x2048x8192_0_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x8192 ![0, 0, 0] U slices_S4x2048x8192_S1x2048x8192_0_0_0) shapeCasts_S1x2048x8192_S2048x8192)) (broadcastInDim S8192x8192 ![] bcast_S_S8192x8192 (constant S_ .f32 0x00000000#32)))) (shapeCast _ (extractStridedSlice S1x8192x2048 ![0, 0, 0] D slices_S4x8192x2048_S1x8192x2048_0_0_0) shapeCasts_S1x8192x2048_S8192x2048)) = Cert.KernelMlpIdeal.Gen.result (tab X) (vec G) (lay U 0) (lay D 0) := by
  funext y
  obtain ⟨r, n, rfl⟩ : ∃ (r : Fin 8192) (n : Fin 2048), y = ix2 r n := ⟨y 0, y 1, funext fun a => by
    match a with | ⟨0, _⟩ => rfl | ⟨1, _⟩ => rfl⟩
  pointwise
  simp only [is_tab X _ _, is_vec G, is_lay U, is_lay D]
  rfl

end Cert.ReferenceMlpIdeal.Gen

namespace Claims

theorem frame_mlp : Cert.quiescent_KernelMlp := fun m ρ _ => Cert.KernelMlp.Gen.frame m ρ
theorem frame_mlpi : Cert.quiescent_KernelMlpIdeal := fun m ρ _ => Cert.KernelMlpIdeal.Gen.frame m ρ
theorem frame_mlpr : Cert.quiescent_ReferenceMlpIdeal := fun m ρ _ =>
  (θ_run Cert.ReferenceMlpIdeal.defs _ _).mono (fun r h => ⟨fun c => (h c).2, Idealize.ShloMosaic.sem_eq_zero_of_no_sems (by decide) r.2⟩)
    (Cert.ReferenceMlpIdeal.Value.run (F := Ideal) m ρ)

/-- Kernel and reference end at the same array. -/
theorem algebraic_mlp : Cert.algebraic_KernelMlpIdeal_ReferenceMlpIdeal := by
  intro m ρ m' ρ' _ hagree
  refine ⟨fun c => Cert.KernelMlpIdeal.Gen.result (Cert.KernelMlpIdeal.Gen.xT m c) (Cert.KernelMlpIdeal.Gen.gT m c) (Cert.KernelMlpIdeal.Gen.uT m c) (Cert.KernelMlpIdeal.Gen.dT m c),
    (θ_run Cert.KernelMlpIdeal.defs _ _).mono (fun _ h c => ⟨(h c).1.trans (Cert.KernelMlpIdeal.Gen.kernel_array m c), (h c).2⟩) (Cert.KernelMlpIdeal.Value.run (F := Ideal) m ρ), ?_⟩
  refine (θ_run Cert.ReferenceMlpIdeal.defs _ _).mono (fun _ h c => ⟨(h c).1.trans ?_, (h c).2⟩) (Cert.ReferenceMlpIdeal.Value.run (F := Ideal) m' ρ')
  obtain ⟨h0, h1, h2, h3⟩ := hagree c
  refine (Cert.ReferenceMlpIdeal.Gen.reference_array _ _ _ _).trans ?_
  rw [h0, h1, h2, h3]

end Claims

end
-- ==== Proof.Out.lean ====
module

public import proofs.«01_k».proof.Proof.Norm
public import proofs.«01_k».proof.Defs
public import proofs.«01_k».proof.Proof.Gen.KernelOut.Frame
public import proofs.«01_k».proof.Proof.Gen.KernelOutIdeal.Value
public import proofs.«01_k».proof.Proof.Gen.ReferenceOutIdeal.Run

@[expose] public section

set_option maxRecDepth 16384

noncomputable section

open Idealize.ShloMosaic Idealize.ShloMosaic.TcCoe Idealize.SL.Sem
open Layer

/-! # The projection with a residual -/

namespace Cert.KernelOutIdeal.Gen

theorem pay_eq {h : FVec Ideal S512x2048 .f32} {y : FVec Ideal S512x2048 .bf16} {w : FVec Ideal S1x2048x2048 .bf16} {H Y W : ℕ → ℕ → EReal}
    (hh : Is h H) (hy : Is y Y) (hw : ∀ k n : Fin 2048, w (ix3 0 k n) = W k.val n.val) :
    Is (M := 512) (N := 2048) (φ := .f32) (k0_pay1 (F := Ideal) h y w) (fun r n => H r n + dot 2048 (Y r) (fun k => W k n)) := by
  intro r n
  pointwise [k0_pay1]
  simp only [hh _ _, hy _ _, hw _ _]
  rfl

theorem hz2 : (![0, 0] : Fin 2 → Nat) = fun _ => 0 := by decide
theorem hz3 : (![0, 0, 0] : Fin 3 → Nat) = fun _ => 0 := by decide

theorem out_eq (x0 : Vec Ideal S512x2048 .bf16) (x1 : Vec Ideal S1x2048x2048 .bf16) (x2 : Vec Ideal S512x2048 .f32) : out0_3 x0 x1 x2 = k0_pay1 x2 x0 x1 := by
  unfold out0_3 r0_0 r0_1
  rw [View.canon_unit_zero hz2]
  simp only [View.ld_unit_zero (S := S512x2048) hz2, View.ld_unit_zero (S := S1x2048x2048) hz3]

variable (m : (ℓ : Loc nD τ sig) → Buf (Elt Ideal) ℓ) (c : Dev nD)

/-- The rows that are projected, the weights, and the rows that are added to. -/
abbrev yT : ℕ → ℕ → EReal := tab (M := 8192) (N := 2048) (φ := .bf16) (m ((c : Thread nD τ).loc main_arg0))
abbrev wT : ℕ → ℕ → EReal := lay (L := 2) (M := 2048) (N := 2048) (φ := .f32) (m ((c : Thread nD τ).loc main_arg1)) 0
abbrev hT : ℕ → ℕ → EReal := tab (M := 8192) (N := 2048) (φ := .f32) (m ((c : Thread nD τ).loc main_arg2))

/-- Which block each window holds at each grid point. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

theorem lt_N (t : Fin cfg0.N) : t.val < 16 := lt_of_lt_of_eq t.isLt N_0

theorem y_block (t : Fin cfg0.N) : Is (M := 512) (N := 2048) (φ := .bf16) (iblk m c 0 t) (fun r => yT m c (512 * t.val + r)) := by
  intro p k
  obtain ⟨e0, e1, e2, e3⟩ := idx t
  have h := lt_N t
  refine Eq.trans ?_ (is_tab (M := 8192) (N := 2048) (φ := .bf16) (m ((c : Thread nD τ).loc main_arg0)) ⟨512 * t.val + p.val, by omega⟩ k)
  blk_ext [iblk, V_main_arg0, e0]

theorem h_block (t : Fin cfg0.N) : Is (M := 512) (N := 2048) (φ := .f32) (iblk m c 2 t) (fun r => hT m c (512 * t.val + r)) := by
  intro p k
  obtain ⟨e0, e1, e2, e3⟩ := idx t
  have h := lt_N t
  refine Eq.trans ?_ (is_tab (M := 8192) (N := 2048) (φ := .f32) (m ((c : Thread nD τ).loc main_arg2)) ⟨512 * t.val + p.val, by omega⟩ k)
  blk_ext [iblk, V_main_arg2, e2]

theorem w_block (t : Fin cfg0.N) (k n : Fin 2048) : (iblk m c 1 t : FVec Ideal S1x2048x2048 .bf16) (ix3 0 k n) = wT m c k.val n.val := by
  obtain ⟨e0, e1, e2, e3⟩ := idx t
  refine Eq.trans ?_ (is_lay (L := 2) (M := 2048) (N := 2048) (φ := .f32) (m ((c : Thread nD τ).loc main_arg1)) 0 k n)
  blk_simp [iblk, e1]
  entry_read
  pointwise
  refine congrArg (m ((c : Thread nD τ).loc main_arg1)) (funext fun a => ?_)
  match a with
  | ⟨0, _⟩ => exact Fin.ext (by blk_simp [e1]; rfl)
  | ⟨1, _⟩ => exact Fin.ext (by blk_simp [e1])
  | ⟨2, _⟩ => exact Fin.ext (by blk_simp [e1])

/-- The result: each row, plus the projection. -/
def result (Y W H : ℕ → ℕ → EReal) : FVec Ideal S8192x2048 .f32 := fun i => H (i 0).val (i 1).val + dot 2048 (Y (i 0).val) (fun k => W k (i 1).val)

/-- The kernel's result array. -/
theorem kernel_array : (dats m 0 c).arrAt 3 cfg0.N = result (yT m c) (wT m c) (hT m c) := by
  refine (dats m 0 c).arrAt_eq_of_covers 3 _ (by decide +kernel) fun t _ y => ?_
  obtain ⟨e0, e1, e2, e3⟩ := idx t
  have hy0 : (y 0).val < 512 := (y 0).isLt
  have hy1 : (y 1).val < 2048 := (y 1).isLt
  blk_simp
  rw [after0_3, out_eq]
  have hy : y = ix2 (⟨(y 0).val, hy0⟩ : Fin 512) (⟨(y 1).val, hy1⟩ : Fin 2048) := funext fun a => by
    match a with | ⟨0, _⟩ => rfl | ⟨1, _⟩ => rfl
  have key := pay_eq (h_block m c t) (y_block m c t) (w_block m c t) ⟨(y 0).val, hy0⟩ ⟨(y 1).val, hy1⟩
  rw [← hy] at key
  refine key.trans ?_
  have r0 : ((((View.whole main_v1).slice (win0_3.rect t)).emb y) 0).val = 512 * t.val + (y 0).val := by blk_simp [e3]; omega
  have r1 : ((((View.whole main_v1).slice (win0_3.rect t)).emb y) 1).val = (y 1).val := by blk_simp [e3]
  unfold result
  rw [r0, r1]

end Cert.KernelOutIdeal.Gen

namespace Cert.ReferenceOutIdeal.Gen

/-- The reference's result array, of its arguments. -/
theorem reference_array (Y : FVec Ideal S8192x2048 .bf16) (W : FVec Ideal S2x2048x2048 .f32) (H : FVec Ideal S8192x2048 .f32) :
    addf H (Host.dotGeneral dot_S8192x2048_S2048x2048_S8192x2048_1_0_0_1_n_n none (extf .f32 Y bitsLt_bf16_f32) (shapeCast _ (extractStridedSlice S1x2048x2048 ![0, 0, 0] W slices_S2x2048x2048_S1x2048x2048_0_0_0) shapeCasts_S1x2048x2048_S2048x2048)) = Cert.KernelOutIdeal.Gen.result (tab Y) (lay W 0) (tab H) := by
  funext y
  obtain ⟨r, n, rfl⟩ : ∃ (r : Fin 8192) (n : Fin 2048), y = ix2 r n := ⟨y 0, y 1, funext fun a => by
    match a with | ⟨0, _⟩ => rfl | ⟨1, _⟩ => rfl⟩
  pointwise
  simp only [is_tab Y _ _, is_tab H _ _, is_lay W]
  rfl

end Cert.ReferenceOutIdeal.Gen

namespace Claims

theorem frame_out : Cert.quiescent_KernelOut := fun m ρ _ => Cert.KernelOut.Gen.frame m ρ
theorem frame_outi : Cert.quiescent_KernelOutIdeal := fun m ρ _ => Cert.KernelOutIdeal.Gen.frame m ρ
theorem frame_outr : Cert.quiescent_ReferenceOutIdeal := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run (F := Ideal) m ρ)

/-- Kernel and reference end at the same array. -/
theorem algebraic_out : Cert.algebraic_KernelOutIdeal_ReferenceOutIdeal := by
  intro m ρ m' ρ' _ hagree
  refine ⟨fun c => Cert.KernelOutIdeal.Gen.result (Cert.KernelOutIdeal.Gen.yT m c) (Cert.KernelOutIdeal.Gen.wT m c) (Cert.KernelOutIdeal.Gen.hT m c),
    (θ_run Cert.KernelOutIdeal.defs _ _).mono (fun _ h c => ⟨(h c).1.trans (Cert.KernelOutIdeal.Gen.kernel_array m c), (h c).2⟩) (Cert.KernelOutIdeal.Value.run_blocks (F := Ideal) m ρ), ?_⟩
  refine (θ_run Cert.ReferenceOutIdeal.defs _ _).mono (fun _ h c => ⟨(h c).1.trans ?_, (h c).2⟩) (Cert.ReferenceOutIdeal.Value.run (F := Ideal) m' ρ')
  obtain ⟨h0, h1, h2⟩ := hagree c
  refine (Cert.ReferenceOutIdeal.Gen.reference_array _ _ _).trans ?_
  rw [h0, h1, h2]

end Claims

end
-- ==== Proof.Qkv.lean ====
module

public import proofs.«01_k».proof.Proof.Norm
public import proofs.«01_k».proof.Defs
public import proofs.«01_k».proof.Proof.Gen.KernelQkv.Frame
public import proofs.«01_k».proof.Proof.Gen.KernelQkvIdeal.Value
public import proofs.«01_k».proof.Proof.Gen.ReferenceQkvIdeal.Run

@[expose] public section

set_option maxRecDepth 16384

noncomputable section

open Idealize.ShloMosaic Idealize.ShloMosaic.TcCoe Idealize.SL.Sem
open Layer

/-! # The projection to queries, keys and values -/

namespace Cert.KernelQkvIdeal.Gen

/-- The rows of a block, normed. -/
theorem pay1_eq {h : FVec Ideal S1024x2048 .f32} {g : FVec Ideal S1x2048 .f32} {A B : ℕ → ℕ → EReal} (hA : Is h A) (hB : Is g B) :
    Is (M := 1024) (N := 2048) (φ := .bf16) (k0_pay1 (F := Ideal) h g) (fun r => rms (A r) (B 0)) := by
  intro r k
  pointwise [k0_pay1]
  simp only [hA _ _, hB _ _]
  rfl

/-- A block of the projection. -/
theorem pay2_eq {x : FVec Ideal S1024x2048 .bf16} {w : FVec Ideal S1x2048x1024 .bf16} {s : FVec Ideal S1x1024 .f32} {A W : ℕ → ℕ → EReal} {C : ℕ → EReal} {n0 : ℕ} (hx : Is x A)
    (hw : ∀ (k : Fin 2048) (n : Fin 1024), w (ix3 0 k n) = W k.val (n0 + n.val)) (hs : ∀ n : Fin 1024, s (ix2 0 n) = C (n0 + n.val)) :
    Is (M := 1024) (N := 1024) (φ := .bf16) (k0_pay2 (F := Ideal) x w s) (fun r n => dot 2048 (A r) (fun k => W k (n0 + n)) * C (n0 + n)) := by
  intro r n
  pointwise [k0_pay2]
  simp only [hx _ _, hw _ _, hs _]
  rfl

theorem hz2 : (![0, 0] : Fin 2 → Nat) = fun _ => 0 := by decide
theorem hz3 : (![0, 0, 0] : Fin 3 → Nat) = fun _ => 0 := by decide

section cases

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x2048 .bf16) (harg7 : arg7.IsWhole)
  (x0 : Vec Ideal S1024x2048 .f32) (x1 : Vec Ideal S1x2048 .f32) (x2 : Vec Ideal S1x2048x1024 .bf16) (x3 : Vec Ideal S1x1024 .f32)

/-- A later block of columns is of the rows normed before. -/
theorem out_later (hc0 : ¬cond0_0 i) (xs : Vec Ideal S1024x2048 .bf16) :
    out0_B_4 c i arg2 harg2 arg3 harg3 arg4 harg4 arg5 harg5 arg6 harg6 arg7 harg7 hc0 x0 x1 x2 x3 xs = k0_pay2 xs x2 x3 := by
  unfold out0_B_4
  rw [View.read_writes_eq_canon _ _ _ (cover0_B_4 c i arg2 harg2 arg3 harg3 arg4 harg4 arg5 harg5 arg6 harg6 arg7 harg7 hc0 x0 x1 x2 x3 xs)]
  unfold kernelRun0_B
  dsimp only
  rw [View.canon_unit_zero hz2]
  simp only [View.readAt_eq_ld, harg4.read_unread, harg5.read_unread, harg7.read_unread, View.ld_unit_zero (S := S1x1024) hz2, View.ld_unit_zero (S := S1024x2048) hz2, View.ld_unit_zero (S := S1x2048x1024) hz3]

theorem rows_later (hc0 : ¬cond0_0 i) (xs : Vec Ideal S1024x2048 .bf16) :
    sout0_B_0 c i arg2 harg2 arg3 harg3 arg4 harg4 arg5 harg5 arg6 harg6 arg7 harg7 hc0 x0 x1 x2 x3 xs = xs := by
  unfold sout0_B_0
  rfl

/-- The first block of columns is of the rows it norms. -/
theorem out_first (hc0 : cond0_0 i) :
    out0_A_4 c i arg2 harg2 arg3 harg3 arg4 harg4 arg5 harg5 arg6 harg6 arg7 harg7 hc0 x0 x1 x2 x3 = k0_pay2 (k0_pay1 x0 x1) x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  sl_unfold_words
  rw [View.canon_unit_zero (S := S1024x1024) hz2]
  rw [View.readCov_unit_zero (S := S1024x2048) _ hz2]
  simp only [View.readAt_eq_ld, harg2.read_unread, harg3.read_unread, harg4.read_unread, harg5.read_unread, View.ld_unit_zero (S := S1x1024) hz2,
    View.ld_unit_zero (S := S1024x2048) hz2, View.ld_unit_zero (S := S1x2048) hz2, View.ld_unit_zero (S := S1x2048x1024) hz3]

theorem rows_first (hc0 : cond0_0 i) :
    sout0_A_0 c i arg2 harg2 arg3 harg3 arg4 harg4 arg5 harg5 arg6 harg6 arg7 harg7 hc0 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  sl_unfold_words
  rw [View.canon_unit_zero hz2]
  simp only [View.readAt_eq_ld, harg2.read_unread, harg3.read_unread,
    View.ld_unit_zero (S := S1024x2048) hz2, View.ld_unit_zero (S := S1x2048) hz2]

end cases

section array

variable (m : (ℓ : Loc nD τ sig) → Buf (Elt Ideal) ℓ) (c : Dev nD)

/-- The rows, the weights of the norm, and the projection's weights. -/
abbrev xT : ℕ → ℕ → EReal := tab (M := 8192) (N := 2048) (φ := .f32) (m ((c : Thread nD τ).loc main_arg0))
abbrev gT : ℕ → EReal := vec (N := 2048) (φ := .f32) (m ((c : Thread nD τ).loc main_arg1))
abbrev wT : ℕ → ℕ → EReal := lay (L := 2) (M := 2048) (N := 6144) (φ := .f32) (m ((c : Thread nD τ).loc main_arg2)) 0

abbrev cT : ℕ → EReal := vec (N := 6144) (φ := .f32) (m ((c : Thread nD τ).loc main_arg3))

/-- Which block each window holds at each grid point. -/
theorem idx : ∀ t : Fin cfg0.N, win0_0.index t = ![t.val / 6, 0] ∧ win0_1.index t = ![0, 0]
    ∧ win0_2.index t = ![0, 0, t.val % 6] ∧ win0_3.index t = ![0, t.val % 6] ∧ win0_4.index t = ![t.val / 6, t.val % 6] :=
  (by decide +kernel : ∀ t : Fin grid0.N, _)

theorem lt_N (t : Fin cfg0.N) : t.val < 48 := lt_of_lt_of_eq t.isLt N_0

theorem x_block (t : Fin cfg0.N) : Is (M := 1024) (N := 2048) (φ := .f32) (iblk m c 0 t) (fun r => xT m c (1024 * (t.val / 6) + r)) := by
  intro p k
  obtain ⟨e0, e1, e2, e3, e4⟩ := idx t
  have h := lt_N t
  refine Eq.trans ?_ (is_tab (M := 8192) (N := 2048) (φ := .f32) (m ((c : Thread nD τ).loc main_arg0)) ⟨1024 * (t.val / 6) + p.val, by omega⟩ k)
  blk_ext [iblk, V_main_arg0, e0]

theorem g_block (t : Fin cfg0.N) : Is (M := 1) (N := 2048) (φ := .f32) (iblk m c 1 t) (fun _ => gT m c) := by
  intro p k
  obtain ⟨e0, e1, e2, e3, e4⟩ := idx t
  refine Eq.trans ?_ (is_vec (N := 2048) (φ := .f32) (m ((c : Thread nD τ).loc main_arg1)) k)
  blk_simp [iblk, e1]
  entry_read
  pointwise
  refine congrArg (m ((c : Thread nD τ).loc main_arg1)) (funext fun a => ?_)
  match a with
  | ⟨0, _⟩ => exact Fin.ext (by blk_simp [e1])

theorem w_block (t : Fin cfg0.N) (k : Fin 2048) (n : Fin 1024) :
    (iblk m c 2 t : FVec Ideal S1x2048x1024 .bf16) (ix3 0 k n) = wT m c k.val (1024 * (t.val % 6) + n.val) := by
  obtain ⟨e0, e1, e2, e3, e4⟩ := idx t
  refine Eq.trans ?_ (is_lay (L := 2) (M := 2048) (N := 6144) (φ := .f32) (m ((c : Thread nD τ).loc main_arg2)) 0 k ⟨1024 * (t.val % 6) + n.val, by omega⟩)
  blk_simp [iblk, e2]
  entry_read
  pointwise
  refine congrArg (m ((c : Thread nD τ).loc main_arg2)) (funext fun a => ?_)
  match a with
  | ⟨0, _⟩ => exact Fin.ext (by blk_simp [e2]; rfl)
  | ⟨1, _⟩ => exact Fin.ext (by blk_simp [e2])
  | ⟨2, _⟩ => exact Fin.ext (by blk_simp [e2]; dsimp only; omega)

theorem s_block (t : Fin cfg0.N) (n : Fin 1024) : (iblk m c 3 t : FVec Ideal S1x1024 .f32) (ix2 0 n) = cT m c (1024 * (t.val % 6) + n.val) := by
  obtain ⟨e0, e1, e2, e3, e4⟩ := idx t
  refine Eq.trans ?_ (is_vec (N := 6144) (φ := .f32) (m ((c : Thread nD τ).loc main_arg3)) ⟨1024 * (t.val % 6) + n.val, by omega⟩)
  blk_simp [iblk, e3]
  entry_read
  pointwise
  refine congrArg (m ((c : Thread nD τ).loc main_arg3)) (funext fun a => ?_)
  match a with
  | ⟨0, _⟩ => exact Fin.ext (by blk_simp [e3]; dsimp only; omega)

/-- What a grid point leaves: a block of the projection, and the normed rows. -/
def Held (t : Fin cfg0.N) : Prop :=
  Is (M := 1024) (N := 1024) (φ := .bf16) (outsAt0 m c t.val t.isLt).1
    (fun r n => dot 2048 (rms (xT m c (1024 * (t.val / 6) + r)) (gT m c)) (fun k => wT m c k (1024 * (t.val % 6) + n)) * cT m c (1024 * (t.val % 6) + n))
  ∧ Is (M := 1024) (N := 2048) (φ := .bf16) (outsAt0 m c t.val t.isLt).2 (fun r => rms (xT m c (1024 * (t.val / 6) + r)) (gT m c))

theorem held_first (t : Fin cfg0.N) (h0 : t.val % 6 = 0) : Held m c t := by
  unfold Held
  rw [outsAt0_A m c t h0]
  dsimp only
  rw [out_first, rows_first]
  have hs := pay1_eq (x_block m c t) (g_block m c t)
  exact ⟨pay2_eq hs (w_block m c t) (s_block m c t), hs⟩

theorem held_later (t : Fin cfg0.N) (h0 : ¬t.val % 6 = 0) (h : Held m c ⟨t.val - 1, Nat.lt_of_le_of_lt (Nat.sub_le _ _) t.isLt⟩) : Held m c t := by
  obtain ⟨-, hs⟩ := h
  have e1 : (t.val - 1) / 6 = t.val / 6 := by omega
  simp only [e1] at hs
  unfold Held
  rw [outsAt0_B m c t h0]
  dsimp only
  rw [out_later, rows_later]
  exact ⟨pay2_eq hs (w_block m c t) (s_block m c t), hs⟩

theorem held : ∀ (n : ℕ) (hn : n < cfg0.N), Held m c ⟨n, hn⟩ := by
  intro n
  induction n with
  | zero => exact fun hn => held_first m c ⟨0, hn⟩ rfl
  | succ n ih =>
    intro hn
    by_cases h0 : (n + 1) % 6 = 0
    · exact held_first m c ⟨n + 1, hn⟩ h0
    · exact held_later m c ⟨n + 1, hn⟩ h0 (ih (Nat.lt_of_succ_lt hn))

/-- The result: the projection of the normed rows, each column scaled. -/
def result (X : ℕ → ℕ → EReal) (g : ℕ → EReal) (W : ℕ → ℕ → EReal) (C : ℕ → EReal) : FVec Ideal S8192x6144 .bf16 := fun i =>
  dot 2048 (rms (X (i 0).val) g) (fun k => W k (i 1).val) * C (i 1).val

/-- The kernel's result array. -/
theorem kernel_array : (dats m 0 c).arrAt 4 cfg0.N = result (xT m c) (gT m c) (wT m c) (cT m c) := by
  refine (dats m 0 c).arrAt_eq_of_covers 4 _ (by decide +kernel) fun t _ y => ?_
  obtain ⟨e0, e1, e2, e3, e4⟩ := idx t
  have hy0 : (y 0).val < 1024 := (y 0).isLt
  have hy1 : (y 1).val < 1024 := (y 1).isLt
  blk_simp
  rw [after0_4]
  have hy : y = ix2 (⟨(y 0).val, hy0⟩ : Fin 1024) (⟨(y 1).val, hy1⟩ : Fin 1024) := funext fun a => by
    match a with | ⟨0, _⟩ => rfl | ⟨1, _⟩ => rfl
  have key := (held m c t.val t.isLt).1 ⟨(y 0).val, hy0⟩ ⟨(y 1).val, hy1⟩
  rw [← hy] at key
  refine key.trans ?_
  have r0 : ((((View.whole main_v3).slice (win0_4.rect t)).emb y) 0).val = 1024 * (t.val / 6) + (y 0).val := by blk_simp [e4]; omega
  have r1 : ((((View.whole main_v3).slice (win0_4.rect t)).emb y) 1).val = 1024 * (t.val % 6) + (y 1).val := by blk_simp [e4]; omega
  unfold result
  rw [r0, r1]

end array

end Cert.KernelQkvIdeal.Gen

namespace Cert.ReferenceQkvIdeal.Gen

/-- The reference's result array, of its arguments. -/
theorem reference_array (X : FVec Ideal S8192x2048 .f32) (G : FVec Ideal S2048 .f32) (W : FVec Ideal S2x2048x6144 .f32) (C : FVec Ideal S6144 .f32) :
    truncf .bf16 (mulf (Host.dotGeneral dot_S8192x2048_S2048x6144_S8192x6144_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x6144 ![0, 0, 0] W slices_S2x2048x6144_S1x2048x6144_0_0_0) shapeCasts_S1x2048x6144_S2048x6144)) (broadcastInDim S8192x6144 ![0, 1] bcast_S1x6144_S8192x6144_0_1 (broadcastInDim S1x6144 ![1] bcast_S6144_S1x6144_1 C))) bitsLt_bf16_f32 = Cert.KernelQkvIdeal.Gen.result (tab X) (vec G) (lay W 0) (vec C) := by
  funext y
  obtain ⟨r, n, rfl⟩ : ∃ (r : Fin 8192) (n : Fin 6144), y = ix2 r n := ⟨y 0, y 1, funext fun a => by
    match a with | ⟨0, _⟩ => rfl | ⟨1, _⟩ => rfl⟩
  pointwise
  simp only [is_tab X _ _, is_vec G, is_vec C, is_lay W]
  rfl

end Cert.ReferenceQkvIdeal.Gen

namespace Claims

theorem frame_qkv : Cert.quiescent_KernelQkv := fun m ρ _ => Cert.KernelQkv.Gen.frame m ρ
theorem frame_qkvi : Cert.quiescent_KernelQkvIdeal := fun m ρ _ => Cert.KernelQkvIdeal.Gen.frame m ρ
theorem frame_qkvr : Cert.quiescent_ReferenceQkvIdeal := fun m ρ _ =>
  (θ_run Cert.ReferenceQkvIdeal.defs _ _).mono (fun r h => ⟨fun c => (h c).2, Idealize.ShloMosaic.sem_eq_zero_of_no_sems (by decide) r.2⟩)
    (Cert.ReferenceQkvIdeal.Value.run (F := Ideal) m ρ)

/-- Kernel and reference end at the same array. -/
theorem algebraic_qkv : Cert.algebraic_KernelQkvIdeal_ReferenceQkvIdeal := by
  intro m ρ m' ρ' _ hagree
  refine ⟨fun c => Cert.KernelQkvIdeal.Gen.result (Cert.KernelQkvIdeal.Gen.xT m c) (Cert.KernelQkvIdeal.Gen.gT m c) (Cert.KernelQkvIdeal.Gen.wT m c) (Cert.KernelQkvIdeal.Gen.cT m c),
    (θ_run Cert.KernelQkvIdeal.defs _ _).mono (fun _ h c => ⟨(h c).1.trans (Cert.KernelQkvIdeal.Gen.kernel_array m c), (h c).2⟩) (Cert.KernelQkvIdeal.Value.run_blocks (F := Ideal) m ρ), ?_⟩
  refine (θ_run Cert.ReferenceQkvIdeal.defs _ _).mono (fun _ h c => ⟨(h c).1.trans ?_, (h c).2⟩) (Cert.ReferenceQkvIdeal.Value.run (F := Ideal) m' ρ')
  obtain ⟨h0, h1, h2, h3⟩ := hagree c
  refine (Cert.ReferenceQkvIdeal.Gen.reference_array _ _ _ _).trans ?_
  rw [h0, h1, h2, h3]

end Claims

end
-- ==== Proof.In.lean ====
module

public import proofs.«01_k».proof.Proof.Norm
public import proofs.«01_k».proof.Defs
public import proofs.«01_k».proof.Proof.Gen.KernelIn.Frame
public import proofs.«01_k».proof.Proof.Gen.KernelInIdeal.Value
public import proofs.«01_k».proof.Proof.Gen.ReferenceInIdeal.Run

@[expose] public section

set_option maxRecDepth 16384

noncomputable section

open Idealize.ShloMosaic Idealize.ShloMosaic.TcCoe Idealize.SL.Sem
open Layer

/-! # The projection of the normed rows -/

namespace Cert.KernelInIdeal.Gen

/-- The rows of a block, normed. -/
theorem pay1_eq {h : FVec Ideal S1024x2048 .f32} {g : FVec Ideal S1x2048 .f32} {A B : ℕ → ℕ → EReal} (hA : Is h A) (hB : Is g B) :
    Is (M := 1024) (N := 2048) (φ := .bf16) (k0_pay1 (F := Ideal) h g) (fun r => rms (A r) (B 0)) := by
  intro r k
  pointwise [k0_pay1]
  simp only [hA _ _, hB _ _]
  rfl

/-- A block of the projection. -/
theorem pay2_eq {x : FVec Ideal S1024x2048 .bf16} {w : FVec Ideal S1x2048x1024 .bf16} {A W : ℕ → ℕ → EReal} {n0 : ℕ} (hx : Is x A)
    (hw : ∀ (k : Fin 2048) (n : Fin 1024), w (ix3 0 k n) = W k.val (n0 + n.val)) :
    Is (M := 1024) (N := 1024) (φ := .f32) (k0_pay2 (F := Ideal) x w) (fun r n => dot 2048 (A r) (fun k => W k (n0 + n))) := by
  intro r n
  pointwise [k0_pay2]
  simp only [hx _ _, hw _ _]
  rfl

theorem hz2 : (![0, 0] : Fin 2 → Nat) = fun _ => 0 := by decide
theorem hz3 : (![0, 0, 0] : Fin 3 → Nat) = fun _ => 0 := by decide

section cases

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1024x1024 .f32) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S1x2048x1024 .bf16)

/-- A later block of columns is of the rows normed before. -/
theorem out_later (hc0 : ¬cond0_0 i) (xs : Vec Ideal S1024x2048 .bf16) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  rw [View.canon_unit_zero hz2]
  simp only [View.readAt_eq_ld, harg4.read_unread, harg6.read_unread, View.ld_unit_zero (S := S1024x2048) hz2, View.ld_unit_zero (S := S1x2048x1024) hz3]

theorem rows_later (hc0 : ¬cond0_0 i) (xs : Vec Ideal S1024x2048 .bf16) :
    sout0_B_0 c i arg2 harg2 arg3 harg3 arg4 harg4 arg5 harg5 arg6 harg6 hc0 x0 x1 x2 xs = xs := by
  unfold sout0_B_0
  rfl

/-- The first block of columns is of the rows it norms. -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  sl_unfold_words
  rw [View.canon_unit_zero (S := S1024x1024) hz2]
  rw [View.readCov_unit_zero (S := S1024x2048) _ hz2]
  simp only [View.readAt_eq_ld, harg2.read_unread, harg3.read_unread, harg4.read_unread,
    View.ld_unit_zero (S := S1024x2048) hz2, View.ld_unit_zero (S := S1x2048) hz2, View.ld_unit_zero (S := S1x2048x1024) hz3]

theorem rows_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  sl_unfold_words
  rw [View.canon_unit_zero hz2]
  simp only [View.readAt_eq_ld, harg2.read_unread, harg3.read_unread,
    View.ld_unit_zero (S := S1024x2048) hz2, View.ld_unit_zero (S := S1x2048) hz2]

end cases

section array

variable (m : (ℓ : Loc nD τ sig) → Buf (Elt Ideal) ℓ) (c : Dev nD)

/-- The rows, the weights of the norm, and the projection's weights. -/
abbrev xT : ℕ → ℕ → EReal := tab (M := 8192) (N := 2048) (φ := .f32) (m ((c : Thread nD τ).loc main_arg0))
abbrev gT : ℕ → EReal := vec (N := 2048) (φ := .f32) (m ((c : Thread nD τ).loc main_arg1))
abbrev wT : ℕ → ℕ → EReal := lay (L := 2) (M := 2048) (N := 4096) (φ := .f32) (m ((c : Thread nD τ).loc main_arg2)) 0

/-- Which block each window holds at each grid point. -/
theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

theorem lt_N (t : Fin cfg0.N) : t.val < 32 := lt_of_lt_of_eq t.isLt N_0

theorem x_block (t : Fin cfg0.N) : Is (M := 1024) (N := 2048) (φ := .f32) (iblk m c 0 t) (fun r => xT m c (1024 * (t.val / 4) + r)) := by
  intro p k
  obtain ⟨e0, e1, e2, e3⟩ := idx t
  have h := lt_N t
  refine Eq.trans ?_ (is_tab (M := 8192) (N := 2048) (φ := .f32) (m ((c : Thread nD τ).loc main_arg0)) ⟨1024 * (t.val / 4) + p.val, by omega⟩ k)
  blk_ext [iblk, V_main_arg0, e0]

theorem g_block (t : Fin cfg0.N) : Is (M := 1) (N := 2048) (φ := .f32) (iblk m c 1 t) (fun _ => gT m c) := by
  intro p k
  obtain ⟨e0, e1, e2, e3⟩ := idx t
  refine Eq.trans ?_ (is_vec (N := 2048) (φ := .f32) (m ((c : Thread nD τ).loc main_arg1)) k)
  blk_simp [iblk, e1]
  entry_read
  pointwise
  refine congrArg (m ((c : Thread nD τ).loc main_arg1)) (funext fun a => ?_)
  match a with
  | ⟨0, _⟩ => exact Fin.ext (by blk_simp [e1])

theorem w_block (t : Fin cfg0.N) (k : Fin 2048) (n : Fin 1024) :
    (iblk m c 2 t : FVec Ideal S1x2048x1024 .bf16) (ix3 0 k n) = wT m c k.val (1024 * (t.val % 4) + n.val) := by
  obtain ⟨e0, e1, e2, e3⟩ := idx t
  refine Eq.trans ?_ (is_lay (L := 2) (M := 2048) (N := 4096) (φ := .f32) (m ((c : Thread nD τ).loc main_arg2)) 0 k ⟨1024 * (t.val % 4) + n.val, by omega⟩)
  blk_simp [iblk, e2]
  entry_read
  pointwise
  refine congrArg (m ((c : Thread nD τ).loc main_arg2)) (funext fun a => ?_)
  match a with
  | ⟨0, _⟩ => exact Fin.ext (by blk_simp [e2]; rfl)
  | ⟨1, _⟩ => exact Fin.ext (by blk_simp [e2])
  | ⟨2, _⟩ => exact Fin.ext (by blk_simp [e2]; dsimp only; omega)

/-- What a grid point leaves: a block of the projection, and the normed rows. -/
def Held (t : Fin cfg0.N) : Prop :=
  Is (M := 1024) (N := 1024) (φ := .f32) (outsAt0 m c t.val t.isLt).1
    (fun r n => dot 2048 (rms (xT m c (1024 * (t.val / 4) + r)) (gT m c)) (fun k => wT m c k (1024 * (t.val % 4) + n)))
  ∧ Is (M := 1024) (N := 2048) (φ := .bf16) (outsAt0 m c t.val t.isLt).2 (fun r => rms (xT m c (1024 * (t.val / 4) + r)) (gT m c))

theorem held_first (t : Fin cfg0.N) (h0 : t.val % 4 = 0) : Held m c t := by
  unfold Held
  rw [outsAt0_A m c t h0]
  dsimp only
  rw [out_first, rows_first]
  have hs := pay1_eq (x_block m c t) (g_block m c t)
  exact ⟨pay2_eq hs (w_block m c t), hs⟩

theorem held_later (t : Fin cfg0.N) (h0 : ¬t.val % 4 = 0) (h : Held m c ⟨t.val - 1, Nat.lt_of_le_of_lt (Nat.sub_le _ _) t.isLt⟩) : Held m c t := by
  obtain ⟨-, hs⟩ := h
  have e1 : (t.val - 1) / 4 = t.val / 4 := by omega
  simp only [e1] at hs
  unfold Held
  rw [outsAt0_B m c t h0]
  dsimp only
  rw [out_later, rows_later]
  exact ⟨pay2_eq hs (w_block m c t), hs⟩

theorem held : ∀ (n : ℕ) (hn : n < cfg0.N), Held m c ⟨n, hn⟩ := by
  intro n
  induction n with
  | zero => exact fun hn => held_first m c ⟨0, hn⟩ rfl
  | succ n ih =>
    intro hn
    by_cases h0 : (n + 1) % 4 = 0
    · exact held_first m c ⟨n + 1, hn⟩ h0
    · exact held_later m c ⟨n + 1, hn⟩ h0 (ih (Nat.lt_of_succ_lt hn))

/-- The result: the projection of the normed rows. -/
def result (X : ℕ → ℕ → EReal) (g : ℕ → EReal) (W : ℕ → ℕ → EReal) : FVec Ideal S8192x4096 .f32 := fun i =>
  dot 2048 (rms (X (i 0).val) g) (fun k => W k (i 1).val)

/-- The kernel's result array. -/
theorem kernel_array : (dats m 0 c).arrAt 3 cfg0.N = result (xT m c) (gT m c) (wT m c) := by
  refine (dats m 0 c).arrAt_eq_of_covers 3 _ (by decide +kernel) fun t _ y => ?_
  obtain ⟨e0, e1, e2, e3⟩ := idx t
  have hy0 : (y 0).val < 1024 := (y 0).isLt
  have hy1 : (y 1).val < 1024 := (y 1).isLt
  blk_simp
  rw [after0_3]
  have hy : y = ix2 (⟨(y 0).val, hy0⟩ : Fin 1024) (⟨(y 1).val, hy1⟩ : Fin 1024) := funext fun a => by
    match a with | ⟨0, _⟩ => rfl | ⟨1, _⟩ => rfl
  have key := (held m c t.val t.isLt).1 ⟨(y 0).val, hy0⟩ ⟨(y 1).val, hy1⟩
  rw [← hy] at key
  refine key.trans ?_
  have r0 : ((((View.whole main_v2).slice (win0_3.rect t)).emb y) 0).val = 1024 * (t.val / 4) + (y 0).val := by blk_simp [e3]; omega
  have r1 : ((((View.whole main_v2).slice (win0_3.rect t)).emb y) 1).val = 1024 * (t.val % 4) + (y 1).val := by blk_simp [e3]; omega
  unfold result
  rw [r0, r1]

end array

end Cert.KernelInIdeal.Gen

namespace Cert.ReferenceInIdeal.Gen

/-- The reference's result array, of its arguments. -/
theorem reference_array (X : FVec Ideal S8192x2048 .f32) (G : FVec Ideal S2048 .f32) (W : FVec Ideal S2x2048x4096 .f32) :
    Host.dotGeneral dot_S8192x2048_S2048x4096_S8192x4096_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x4096 ![0, 0, 0] W slices_S2x2048x4096_S1x2048x4096_0_0_0) shapeCasts_S1x2048x4096_S2048x4096) = Cert.KernelInIdeal.Gen.result (tab X) (vec G) (lay W 0) := by
  funext y
  obtain ⟨r, n, rfl⟩ : ∃ (r : Fin 8192) (n : Fin 4096), y = ix2 r n := ⟨y 0, y 1, funext fun a => by
    match a with | ⟨0, _⟩ => rfl | ⟨1, _⟩ => rfl⟩
  pointwise
  simp only [is_tab X _ _, is_vec G, is_lay W]
  rfl

end Cert.ReferenceInIdeal.Gen

namespace Claims

theorem frame_in : Cert.quiescent_KernelIn := fun m ρ _ => Cert.KernelIn.Gen.frame m ρ
theorem frame_ini : Cert.quiescent_KernelInIdeal := fun m ρ _ => Cert.KernelInIdeal.Gen.frame m ρ
theorem frame_inr : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)

/-- Kernel and reference end at the same array. -/
theorem algebraic_in : Cert.algebraic_KernelInIdeal_ReferenceInIdeal := by
  intro m ρ m' ρ' _ hagree
  refine ⟨fun c => Cert.KernelInIdeal.Gen.result (Cert.KernelInIdeal.Gen.xT m c) (Cert.KernelInIdeal.Gen.gT m c) (Cert.KernelInIdeal.Gen.wT m c),
    (θ_run Cert.KernelInIdeal.defs _ _).mono (fun _ h c => ⟨(h c).1.trans (Cert.KernelInIdeal.Gen.kernel_array m c), (h c).2⟩) (Cert.KernelInIdeal.Value.run_blocks (F := Ideal) m ρ), ?_⟩
  refine (θ_run Cert.ReferenceInIdeal.defs _ _).mono (fun _ h c => ⟨(h c).1.trans ?_, (h c).2⟩) (Cert.ReferenceInIdeal.Value.run (F := Ideal) m' ρ')
  obtain ⟨h0, h1, h2⟩ := hagree c
  refine (Cert.ReferenceInIdeal.Gen.reference_array _ _ _).trans ?_
  rw [h0, h1, h2]

end Claims

end
-- ==== Proof.Ple.lean ====
module

public import proofs.«01_k».proof.Proof.Norm
public import proofs.«01_k».proof.Defs
public import proofs.«01_k».proof.Proof.Gen.KernelPle.Frame
public import proofs.«01_k».proof.Proof.Gen.KernelPleIdeal.Value
public import proofs.«01_k».proof.Proof.Gen.ReferencePleIdeal.Run

@[expose] public section

set_option maxRecDepth 16384

noncomputable section

open Idealize.ShloMosaic Idealize.ShloMosaic.TcCoe Idealize.SL.Sem
open Layer

/-! # The per-layer embedding -/

namespace Layer

/-- A row `H` with the embedding row `P` mixed in, in column `n`: projected by `V` and gated by the normed row through `W`. -/
def blend (H P g : ℕ → EReal) (W V : ℕ → ℕ → EReal) (n : ℕ) : EReal :=
  H n + dot 256 P (fun k => V k n) * sigm (dot 2048 (rms H g) (fun k => W k n))

/-- Layer `l` of a stack of tables, of a batch of one. -/
def lay2 {L M N : ℕ} {φ : FTy} (x : FVec Ideal ⟨4, ![L, 1, M, N]⟩ φ) (l : Fin L) (r k : ℕ) : EReal :=
  if h : r < M ∧ k < N then x (ix4 l 0 ⟨r, h.1⟩ ⟨k, h.2⟩) else 0

theorem is_lay2 {L M N : ℕ} {φ : FTy} (x : FVec Ideal ⟨4, ![L, 1, M, N]⟩ φ) (l : Fin L) (r : Fin M) (k : Fin N) :
    x (ix4 l 0 r k) = lay2 x l r.val k.val := by
  rw [lay2, dif_pos ⟨r.isLt, k.isLt⟩]

end Layer

namespace Cert.KernelPleIdeal.Gen

/-- The rows of a block, normed. -/
theorem pay2_eq {h : FVec Ideal S256x2048 .f32} {g : FVec Ideal S1x2048 .f32} {A B : ℕ → ℕ → EReal} (hA : Is h A) (hB : Is g B) :
    Is (M := 256) (N := 2048) (φ := .bf16) (k0_pay2 (F := Ideal) h g) (fun r => rms (A r) (B 0)) := by
  intro r k
  pointwise [k0_pay2]
  simp only [hA _ _, hB _ _]
  rfl

theorem pay3_eq {p : FVec Ideal S1x1x256x256 .f32} {P : ℕ → ℕ → EReal} (hp : ∀ r k : Fin 256, p (ix4 0 0 r k) = P r.val k.val) :
    Is (M := 256) (N := 256) (φ := .bf16) (k0_pay3 (F := Ideal) p) P := by
  intro r k
  pointwise [k0_pay3]
  exact hp _ _

/-- The left half of a block's mixed rows. -/
theorem pay4_eq {h : FVec Ideal S256x2048 .f32} {g : FVec Ideal S1x2048 .f32} {p : FVec Ideal S1x1x256x256 .f32} {w : FVec Ideal S1x2048x1024 .bf16} {v : FVec Ideal S1x256x1024 .bf16}
    {A B P W V : ℕ → ℕ → EReal} (hA : Is h A) (hB : Is g B) (hp : ∀ r k : Fin 256, p (ix4 0 0 r k) = P r.val k.val)
    (hw : ∀ (k : Fin 2048) (n : Fin 1024), w (ix3 0 k n) = W k.val n.val) (hv : ∀ (k : Fin 256) (n : Fin 1024), v (ix3 0 k n) = V k.val n.val) :
    Is (M := 256) (N := 1024) (φ := .f32) (k0_pay4 (F := Ideal) h g p w v) (fun r => blend (A r) (P r) (B 0) W V) := by
  intro r n
  unfold k0_pay4
  pointwise
  simp only [hA _ _, pay3_eq hp _ _, pay2_eq hA hB _ _, hw _ _, hv _ _, sub_eq_add_neg, zero_add]
  rfl

/-- The mixed rows of a block, normed again. -/
theorem pay1_eq {h : FVec Ideal S256x2048 .f32} {x : FVec Ideal S256x2048 .bf16} {p : FVec Ideal S256x256 .bf16} {l : FVec Ideal S256x1024 .f32} {w : FVec Ideal S1x2048x1024 .bf16} {v : FVec Ideal S1x256x1024 .bf16} {f : FVec Ideal S1x2048 .f32}
    {A P W V F : ℕ → ℕ → EReal} {g : ℕ → EReal} (hA : Is h A) (hx : Is x (fun r => rms (A r) g)) (hp : Is p P) (hl : Is l (fun r => blend (A r) (P r) g W V))
    (hw : ∀ (k : Fin 2048) (n : Fin 1024), w (ix3 0 k n) = W k.val (1024 + n.val)) (hv : ∀ (k : Fin 256) (n : Fin 1024), v (ix3 0 k n) = V k.val (1024 + n.val)) (hf : Is f F) :
    Is (M := 256) (N := 2048) (φ := .f32) (k0_pay1 (F := Ideal) h x p l w v f) (fun r => rms (blend (A r) (P r) g W V) (F 0)) := by
  intro r n
  have key : ∀ j : ℕ, A r.val (1024 + j) + (∑ k : Fin 256, P r.val k.val * V k.val (1024 + j)) * Ideal.div 1 (1 + Ideal.exp (-∑ k : Fin 2048, rms (A r.val) g k.val * W k.val (1024 + j)))
      = blend (A r.val) (P r.val) g W V (1024 + j) := fun _ => rfl
  pointwise [k0_pay1]
  simp only [hA _ _, hx _ _, hp _ _, hl _ _, hw _ _, hv _ _, hf _ _, sub_eq_add_neg, zero_add, key]
  have hs : (∑ j : Fin 2048, blend (A r.val) (P r.val) g W V j.val * blend (A r.val) (P r.val) g W V j.val)
      = (∑ j : Fin 1024, blend (A r.val) (P r.val) g W V j.val * blend (A r.val) (P r.val) g W V j.val)
        + ∑ j : Fin 1024, blend (A r.val) (P r.val) g W V (1024 + j.val) * blend (A r.val) (P r.val) g W V (1024 + j.val) :=
    Fin.sum_univ_add (a := 1024) (b := 1024) (fun j : Fin 2048 => blend (A r.val) (P r.val) g W V j.val * blend (A r.val) (P r.val) g W V j.val)
  unfold rms
  rw [hs]
  split
  · rfl
  · rw [show 1024 + (n.val - 1024) = n.val by omega]
    rfl

theorem hz2 : (![0, 0] : Fin 2 → Nat) = fun _ => 0 := by decide
theorem hz4 : (![0, 0, 0, 0] : Fin 4 → Nat) = fun _ => 0 := by decide

/-- A load of some columns of a matrix. -/
theorem ld_cols {K N n b : ℕ} {x : FVec Ideal ⟨3, ![1, K, N]⟩ .bf16} {W : ℕ → ℕ → EReal} (hx : ∀ (k : Fin K) (j : Fin N), x (ix3 0 k j) = W k.val j.val)
    (inb : ∀ a, (![0, 0, b] : Fin 3 → ℕ) a + (![1, K, n] : Fin 3 → ℕ) a ≤ (![1, K, N] : Fin 3 → ℕ) a) (k : Fin K) (j : Fin n) :
    View.ld (Val := Elt Ideal) (e' := .bf16) x (Rect.unit (s := ⟨3, ![1, K, N]⟩) ![0, 0, b] ![1, K, n] inb) (ix3 0 k j) = W k.val (b + j.val) := by
  have h2 : b + n ≤ N := inb 2
  refine Eq.trans (congrArg x (funext fun a => Fin.ext ?_)) (hx k ⟨b + j.val, by omega⟩)
  match a with
  | ⟨0, _⟩ => rfl
  | ⟨1, _⟩ => show 0 + 1 * k.val = k.val; omega
  | ⟨2, _⟩ => show b + 1 * j.val = b + j.val; omega

theorem out_eq {x0 : FVec Ideal S256x2048 .f32} {x1 : FVec Ideal S1x2048 .f32} {x2 : FVec Ideal S1x2048x2048 .bf16} {x3 : FVec Ideal S1x1x256x256 .f32} {x4 : FVec Ideal S1x256x2048 .bf16} {x5 : FVec Ideal S1x2048 .f32}
    {A B P W V F : ℕ → ℕ → EReal} (hA : Is x0 A) (hB : Is x1 B) (hp : ∀ r k : Fin 256, x3 (ix4 0 0 r k) = P r.val k.val)
    (hw : ∀ k n : Fin 2048, x2 (ix3 0 k n) = W k.val n.val) (hv : ∀ (k : Fin 256) (n : Fin 2048), x4 (ix3 0 k n) = V k.val n.val) (hf : Is x5 F) :
    Is (M := 256) (N := 2048) (φ := .f32) (out0_6 (F := Ideal) x0 x1 x2 x3 x4 x5) (fun r => rms (blend (A r) (P r) (B 0) W V) (F 0)) := by
  unfold out0_6 r0_0 r0_1 r0_2 r0_3 r0_4 r0_5 r0_6
  rw [View.canon_unit_zero hz2]
  simp only [View.ld_unit_zero (S := S256x2048) hz2, View.ld_unit_zero (S := S1x2048) hz2, View.ld_unit_zero (S := S1x1x256x256) hz4]
  refine pay1_eq hA (pay2_eq hA hB) (pay3_eq hp) (pay4_eq hA hB hp (fun k n => ?_) (fun k n => ?_)) (fun k n => ?_) (fun k n => ?_) hf
  · exact (ld_cols hw (b := 0) inb_S1x2048x2048_S1x2048x1024_0_0_0 k n).trans (by rw [zero_add])
  · exact (ld_cols hv (b := 0) inb_S1x256x2048_S1x256x1024_0_0_0 k n).trans (by rw [zero_add])
  · exact ld_cols hw (b := 1024) inb_S1x2048x2048_S1x2048x1024_0_0_1024 k n
  · exact ld_cols hv (b := 1024) inb_S1x256x2048_S1x256x1024_0_0_1024 k n

variable (m : (ℓ : Loc nD τ sig) → Buf (Elt Ideal) ℓ) (c : Dev nD)

/-- The rows, the gate's norm and weights, the embedding rows and their projection, and the last norm's weights. -/
abbrev xT : ℕ → ℕ → EReal := tab (M := 8192) (N := 2048) (φ := .f32) (m ((c : Thread nD τ).loc main_arg0))
abbrev gT : ℕ → EReal := vec (N := 2048) (φ := .f32) (m ((c : Thread nD τ).loc main_arg1))
abbrev wT : ℕ → ℕ → EReal := lay (L := 4) (M := 2048) (N := 2048) (φ := .f32) (m ((c : Thread nD τ).loc main_arg2)) 3
abbrev pT : ℕ → ℕ → EReal := lay2 (L := 4) (M := 8192) (N := 256) (φ := .f32) (m ((c : Thread nD τ).loc main_arg3)) 3
abbrev vT : ℕ → ℕ → EReal := lay (L := 4) (M := 256) (N := 2048) (φ := .f32) (m ((c : Thread nD τ).loc main_arg4)) 3
abbrev fT : ℕ → EReal := vec (N := 2048) (φ := .f32) (m ((c : Thread nD τ).loc main_arg5))

/-- Which block each window holds at each grid point. -/
theorem idx : ∀ t : Fin cfg0.N, win0_0.index t = ![t.val, 0] ∧ win0_1.index t = ![0, 0] ∧ win0_2.index t = ![3, 0, 0]
    ∧ win0_3.index t = ![3, 0, t.val, 0] ∧ win0_4.index t = ![3, 0, 0] ∧ win0_5.index t = ![0, 0] ∧ win0_6.index t = ![t.val, 0] :=
  (by decide +kernel : ∀ t : Fin grid0.N, _)

theorem lt_N (t : Fin cfg0.N) : t.val < 32 := lt_of_lt_of_eq t.isLt N_0

theorem x_block (t : Fin cfg0.N) : Is (M := 256) (N := 2048) (φ := .f32) (iblk m c 0 t) (fun r => xT m c (256 * t.val + r)) := by
  intro p k
  obtain ⟨e0, -⟩ := idx t
  have h := lt_N t
  refine Eq.trans ?_ (is_tab (M := 8192) (N := 2048) (φ := .f32) (m ((c : Thread nD τ).loc main_arg0)) ⟨256 * t.val + p.val, by omega⟩ k)
  blk_ext [iblk, V_main_arg0, e0]

theorem p_block (t : Fin cfg0.N) (r k : Fin 256) : (iblk m c 3 t : FVec Ideal S1x1x256x256 .f32) (ix4 0 0 r k) = pT m c (256 * t.val + r.val) k.val := by
  obtain ⟨-, -, -, e3, -⟩ := idx t
  have h := lt_N t
  refine Eq.trans ?_ (is_lay2 (L := 4) (M := 8192) (N := 256) (φ := .f32) (m ((c : Thread nD τ).loc main_arg3)) 3 ⟨256 * t.val + r.val, by omega⟩ k)
  blk_ext [iblk, V_main_arg3, e3]

theorem g_block (t : Fin cfg0.N) : Is (M := 1) (N := 2048) (φ := .f32) (iblk m c 1 t) (fun _ => gT m c) := by
  intro p k
  obtain ⟨-, e1, -⟩ := idx t
  refine Eq.trans ?_ (is_vec (N := 2048) (φ := .f32) (m ((c : Thread nD τ).loc main_arg1)) k)
  blk_simp [iblk, e1]
  entry_read
  pointwise
  refine congrArg (m ((c : Thread nD τ).loc main_arg1)) (funext fun a => ?_)
  match a with
  | ⟨0, _⟩ => exact Fin.ext (by blk_simp [e1])

theorem f_block (t : Fin cfg0.N) : Is (M := 1) (N := 2048) (φ := .f32) (iblk m c 5 t) (fun _ => fT m c) := by
  intro p k
  obtain ⟨-, -, -, -, -, e5, -⟩ := idx t
  refine Eq.trans ?_ (is_vec (N := 2048) (φ := .f32) (m ((c : Thread nD τ).loc main_arg5)) k)
  blk_simp [iblk, e5]
  entry_read
  pointwise
  refine congrArg (m ((c : Thread nD τ).loc main_arg5)) (funext fun a => ?_)
  match a with
  | ⟨0, _⟩ => exact Fin.ext (by blk_simp [e5])

theorem w_block (t : Fin cfg0.N) (k n : Fin 2048) : (iblk m c 2 t : FVec Ideal S1x2048x2048 .bf16) (ix3 0 k n) = wT m c k.val n.val := by
  obtain ⟨-, -, e2, -⟩ := idx t
  refine Eq.trans ?_ (is_lay (L := 4) (M := 2048) (N := 2048) (φ := .f32) (m ((c : Thread nD τ).loc main_arg2)) 3 k n)
  blk_simp [iblk, e2]
  entry_read
  pointwise
  refine congrArg (m ((c : Thread nD τ).loc main_arg2)) (funext fun a => ?_)
  match a with
  | ⟨0, _⟩ => exact Fin.ext (by blk_simp [e2]; rfl)
  | ⟨1, _⟩ => exact Fin.ext (by blk_simp [e2])
  | ⟨2, _⟩ => exact Fin.ext (by blk_simp [e2])

theorem v_block (t : Fin cfg0.N) (k : Fin 256) (n : Fin 2048) : (iblk m c 4 t : FVec Ideal S1x256x2048 .bf16) (ix3 0 k n) = vT m c k.val n.val := by
  obtain ⟨-, -, -, -, e4, -⟩ := idx t
  refine Eq.trans ?_ (is_lay (L := 4) (M := 256) (N := 2048) (φ := .f32) (m ((c : Thread nD τ).loc main_arg4)) 3 k n)
  blk_simp [iblk, e4]
  entry_read
  pointwise
  refine congrArg (m ((c : Thread nD τ).loc main_arg4)) (funext fun a => ?_)
  match a with
  | ⟨0, _⟩ => exact Fin.ext (by blk_simp [e4]; rfl)
  | ⟨1, _⟩ => exact Fin.ext (by blk_simp [e4])
  | ⟨2, _⟩ => exact Fin.ext (by blk_simp [e4])

/-- The result: each row with its embedding mixed in, normed. -/
def result (X P : ℕ → ℕ → EReal) (g : ℕ → EReal) (W V : ℕ → ℕ → EReal) (f : ℕ → EReal) : FVec Ideal S8192x2048 .f32 := fun i =>
  rms (blend (X (i 0).val) (P (i 0).val) g W V) f (i 1).val

/-- The kernel's result array. -/
theorem kernel_array : (dats m 0 c).arrAt 6 cfg0.N = result (xT m c) (pT m c) (gT m c) (wT m c) (vT m c) (fT m c) := by
  refine (dats m 0 c).arrAt_eq_of_covers 6 _ (by decide +kernel) fun t _ y => ?_
  obtain ⟨-, -, -, -, -, -, e6⟩ := idx t
  have hy0 : (y 0).val < 256 := (y 0).isLt
  have hy1 : (y 1).val < 2048 := (y 1).isLt
  blk_simp
  rw [after0_6]
  have hy : y = ix2 (⟨(y 0).val, hy0⟩ : Fin 256) (⟨(y 1).val, hy1⟩ : Fin 2048) := funext fun a => by
    match a with | ⟨0, _⟩ => rfl | ⟨1, _⟩ => rfl
  have key := out_eq (x_block m c t) (g_block m c t) (P := fun r => pT m c (256 * t.val + r)) (p_block m c t) (w_block m c t) (v_block m c t) (f_block m c t) ⟨(y 0).val, hy0⟩ ⟨(y 1).val, hy1⟩
  rw [← hy] at key
  refine key.trans ?_
  have r0 : ((((View.whole main_v4).slice (win0_6.rect t)).emb y) 0).val = 256 * t.val + (y 0).val := by blk_simp [e6]; omega
  have r1 : ((((View.whole main_v4).slice (win0_6.rect t)).emb y) 1).val = (y 1).val := by blk_simp [e6]
  unfold result
  rw [r0, r1]

end Cert.KernelPleIdeal.Gen

namespace Cert.ReferencePleIdeal.Gen

/-- The reference's result array, of its arguments. -/
theorem reference_array (m : (ℓ : Loc nD τ sig) → Buf (Elt Ideal) ℓ) (c : Dev nD) :
    Cert.ReferencePleIdeal.Value.res_main_v41 (F := Ideal) m c
      = Cert.KernelPleIdeal.Gen.result (tab (M := 8192) (N := 2048) (φ := .f32) (m ((c.tc : Thread nD τ).loc main_arg0)))
        (lay2 (L := 4) (M := 8192) (N := 256) (φ := .f32) (m ((c.tc : Thread nD τ).loc main_arg3)) 3) (vec (N := 2048) (φ := .f32) (m ((c.tc : Thread nD τ).loc main_arg1)))
        (lay (L := 4) (M := 2048) (N := 2048) (φ := .f32) (m ((c.tc : Thread nD τ).loc main_arg2)) 3)
        (lay (L := 4) (M := 256) (N := 2048) (φ := .f32) (m ((c.tc : Thread nD τ).loc main_arg4)) 3) (vec (N := 2048) (φ := .f32) (m ((c.tc : Thread nD τ).loc main_arg5))) := by
  unfold Cert.ReferencePleIdeal.Value.res_main_v41
  generalize m ((c.tc : Thread nD τ).loc main_arg0) = X
  generalize m ((c.tc : Thread nD τ).loc main_arg1) = G
  generalize m ((c.tc : Thread nD τ).loc main_arg2) = W
  generalize m ((c.tc : Thread nD τ).loc main_arg3) = P
  generalize m ((c.tc : Thread nD τ).loc main_arg4) = V
  generalize m ((c.tc : Thread nD τ).loc main_arg5) = H
  funext y
  obtain ⟨r, n, rfl⟩ : ∃ (r : Fin 8192) (n : Fin 2048), y = ix2 r n := ⟨y 0, y 1, funext fun a => by
    match a with | ⟨0, _⟩ => rfl | ⟨1, _⟩ => rfl⟩
  pointwise
  simp only [is_tab (M := 8192) (N := 2048) (φ := .f32) X _ _, is_vec (N := 2048) (φ := .f32) G, is_vec (N := 2048) (φ := .f32) H, is_lay (L := 4) (M := 2048) (N := 2048) (φ := .f32) W, is_lay (L := 4) (M := 256) (N := 2048) (φ := .f32) V, is_lay2 (L := 4) (M := 8192) (N := 256) (φ := .f32) P]
  rfl

end Cert.ReferencePleIdeal.Gen

namespace Claims

theorem frame_ple : Cert.quiescent_KernelPle := fun m ρ _ => Cert.KernelPle.Gen.frame m ρ
theorem frame_plei : Cert.quiescent_KernelPleIdeal := fun m ρ _ => Cert.KernelPleIdeal.Gen.frame m ρ
theorem frame_pler : Cert.quiescent_ReferencePleIdeal := fun m ρ _ =>
  (θ_run Cert.ReferencePleIdeal.defs _ _).mono (fun r h => ⟨fun c => (h c).2, Idealize.ShloMosaic.sem_eq_zero_of_no_sems (by decide) r.2⟩)
    (Cert.ReferencePleIdeal.Value.run (F := Ideal) m ρ)

/-- Kernel and reference end at the same array. -/
theorem algebraic_ple : Cert.algebraic_KernelPleIdeal_ReferencePleIdeal := by
  intro m ρ m' ρ' _ hagree
  refine ⟨fun c => Cert.KernelPleIdeal.Gen.result (Cert.KernelPleIdeal.Gen.xT m c) (Cert.KernelPleIdeal.Gen.pT m c) (Cert.KernelPleIdeal.Gen.gT m c) (Cert.KernelPleIdeal.Gen.wT m c) (Cert.KernelPleIdeal.Gen.vT m c) (Cert.KernelPleIdeal.Gen.fT m c),
    (θ_run Cert.KernelPleIdeal.defs _ _).mono (fun _ h c => ⟨(h c).1.trans (Cert.KernelPleIdeal.Gen.kernel_array m c), (h c).2⟩) (Cert.KernelPleIdeal.Value.run_blocks (F := Ideal) m ρ), ?_⟩
  refine (θ_run Cert.ReferencePleIdeal.defs _ _).mono (fun _ h c => ⟨(h c).1.trans ?_, (h c).2⟩) (Cert.ReferencePleIdeal.Value.run (F := Ideal) m' ρ')
  obtain ⟨h0, h1, h2, h3, h4, h5⟩ := hagree c
  refine (Cert.ReferencePleIdeal.Gen.reference_array _ _).trans ?_
  rw [h0, h1, h2, h3, h4, h5]

end Claims

end
-- ==== Proof.Mid.lean ====
module

public import proofs.«01_k».proof.Proof.Ple
public import proofs.«01_k».proof.Defs
public import proofs.«01_k».proof.Proof.Gen.KernelMid.Frame
public import proofs.«01_k».proof.Proof.Gen.KernelMidIdeal.Value
public import proofs.«01_k».proof.Proof.Gen.ReferenceMidIdeal.Run

@[expose] public section

set_option maxRecDepth 16384

noncomputable section

open Idealize.ShloMosaic Idealize.ShloMosaic.TcCoe Idealize.SL.Sem
open Layer

/-! # The per-layer embedding before the last layer: the rows are left as they are, not normed again -/

namespace Cert.KernelMidIdeal.Gen

/-- The right half of a block's mixed rows. -/
theorem pay1_eq {h : FVec Ideal S256x2048 .f32} {x : FVec Ideal S256x2048 .bf16} {p : FVec Ideal S256x256 .bf16} {w : FVec Ideal S1x2048x1024 .bf16} {v : FVec Ideal S1x256x1024 .bf16}
    {A P W V : ℕ → ℕ → EReal} {g : ℕ → EReal} (hA : Is h A) (hx : Is x (fun r => rms (A r) g)) (hp : Is p P)
    (hw : ∀ (k : Fin 2048) (n : Fin 1024), w (ix3 0 k n) = W k.val (1024 + n.val)) (hv : ∀ (k : Fin 256) (n : Fin 1024), v (ix3 0 k n) = V k.val (1024 + n.val))
    (r : Fin 256) (n : Fin 1024) : (k0_pay1 (F := Ideal) h x p w v) (ix2 r n) = blend (A r.val) (P r.val) g W V (1024 + n.val) := by
  pointwise [k0_pay1]
  simp only [hA _ _, hx _ _, hp _ _, hw _ _, hv _ _, sub_eq_add_neg, zero_add]
  rfl

/-- The two halves are the columns of one block. -/
theorem out_eq {x0 : FVec Ideal S256x2048 .f32} {x1 : FVec Ideal S1x2048 .f32} {x2 : FVec Ideal S1x2048x2048 .bf16} {x3 : FVec Ideal S1x1x256x256 .f32} {x4 : FVec Ideal S1x256x2048 .bf16} {x5 : FVec Ideal S1x2048 .f32}
    {A B P W V : ℕ → ℕ → EReal} (hA : Is x0 A) (hB : Is x1 B) (hp : ∀ r k : Fin 256, x3 (ix4 0 0 r k) = P r.val k.val)
    (hw : ∀ k n : Fin 2048, x2 (ix3 0 k n) = W k.val n.val) (hv : ∀ (k : Fin 256) (n : Fin 2048), x4 (ix3 0 k n) = V k.val n.val) (y : S256x2048.Idx) :
    out0_6 (F := Ideal) x0 x1 x2 x3 x4 x5 y = blend (A (y 0).val) (P (y 0).val) (B 0) W V (y 1).val := by
  refine View.canon_apply_of_pieces (Val := Elt Ideal) (fun y : S256x2048.Idx => blend (A (y 0).val) (P (y 0).val) (B 0) W V (y 1).val) _ (fun q hq => ?_) y (cover0_6 _ _ y)
  unfold r0_0 r0_1 r0_2 r0_3 r0_4 r0_5 r0_6 at hq
  simp only [View.ld_unit_zero (S := S256x2048) Cert.KernelPleIdeal.Gen.hz2, View.ld_unit_zero (S := S1x2048) Cert.KernelPleIdeal.Gen.hz2, View.ld_unit_zero (S := S1x1x256x256) Cert.KernelPleIdeal.Gen.hz4] at hq
  rcases List.mem_cons.mp hq with rfl | hq
  · intro x
    obtain ⟨r, n, rfl⟩ : ∃ (r : Fin 256) (n : Fin 1024), x = ix2 r n := ⟨x 0, x 1, funext fun a => by
      match a with | ⟨0, _⟩ => rfl | ⟨1, _⟩ => rfl⟩
    refine (pay1_eq hA (Cert.KernelPleIdeal.Gen.pay2_eq hA hB) (Cert.KernelPleIdeal.Gen.pay3_eq hp)
      (fun k n => Cert.KernelPleIdeal.Gen.ld_cols hw (b := 1024) inb_S1x2048x2048_S1x2048x1024_0_0_1024 k n)
      (fun k n => Cert.KernelPleIdeal.Gen.ld_cols hv (b := 1024) inb_S1x256x2048_S1x256x1024_0_0_1024 k n) r n).trans ?_
    have e0 : (r0_8.emb (ix2 r n) 0).val = r.val := show 0 + 1 * r.val = r.val by omega
    have e1 : (r0_8.emb (ix2 r n) 1).val = 1024 + n.val := show 1024 + 1 * n.val = 1024 + n.val by omega
    exact by rw [← e0, ← e1]
  · obtain rfl := List.mem_singleton.mp hq
    intro x
    obtain ⟨r, n, rfl⟩ : ∃ (r : Fin 256) (n : Fin 1024), x = ix2 r n := ⟨x 0, x 1, funext fun a => by
      match a with | ⟨0, _⟩ => rfl | ⟨1, _⟩ => rfl⟩
    refine (Cert.KernelPleIdeal.Gen.pay4_eq hA hB hp
      (fun k n => (Cert.KernelPleIdeal.Gen.ld_cols hw (b := 0) inb_S1x2048x2048_S1x2048x1024_0_0_0 k n).trans (by rw [zero_add]))
      (fun k n => (Cert.KernelPleIdeal.Gen.ld_cols hv (b := 0) inb_S1x256x2048_S1x256x1024_0_0_0 k n).trans (by rw [zero_add])) r n).trans ?_
    have e0 : (r0_7.emb (ix2 r n) 0).val = r.val := show 0 + 1 * r.val = r.val by omega
    have e1 : (r0_7.emb (ix2 r n) 1).val = n.val := show 0 + 1 * n.val = n.val by omega
    exact by rw [← e0, ← e1]

variable (m : (ℓ : Loc nD τ sig) → Buf (Elt Ideal) ℓ) (c : Dev nD)

/-- The rows, the gate's norm and weights, the embedding rows and their projection. -/
abbrev xT : ℕ → ℕ → EReal := tab (M := 8192) (N := 2048) (φ := .f32) (m ((c : Thread nD τ).loc main_arg0))
abbrev gT : ℕ → EReal := vec (N := 2048) (φ := .f32) (m ((c : Thread nD τ).loc main_arg1))
abbrev wT : ℕ → ℕ → EReal := lay (L := 4) (M := 2048) (N := 2048) (φ := .f32) (m ((c : Thread nD τ).loc main_arg2)) 0
abbrev pT : ℕ → ℕ → EReal := lay2 (L := 4) (M := 8192) (N := 256) (φ := .f32) (m ((c : Thread nD τ).loc main_arg3)) 0
abbrev vT : ℕ → ℕ → EReal := lay (L := 4) (M := 256) (N := 2048) (φ := .f32) (m ((c : Thread nD τ).loc main_arg4)) 0

/-- Which block each window holds at each grid point. -/
theorem idx : ∀ t : Fin cfg0.N, win0_0.index t = ![t.val, 0] ∧ win0_1.index t = ![0, 0] ∧ win0_2.index t = ![0, 0, 0]
    ∧ win0_3.index t = ![0, 0, t.val, 0] ∧ win0_4.index t = ![0, 0, 0] ∧ win0_5.index t = ![0, 0] ∧ win0_6.index t = ![t.val, 0] :=
  (by decide +kernel : ∀ t : Fin grid0.N, _)

theorem lt_N (t : Fin cfg0.N) : t.val < 32 := lt_of_lt_of_eq t.isLt N_0

theorem x_block (t : Fin cfg0.N) : Is (M := 256) (N := 2048) (φ := .f32) (iblk m c 0 t) (fun r => xT m c (256 * t.val + r)) := by
  intro p k
  obtain ⟨e0, -⟩ := idx t
  have h := lt_N t
  refine Eq.trans ?_ (is_tab (M := 8192) (N := 2048) (φ := .f32) (m ((c : Thread nD τ).loc main_arg0)) ⟨256 * t.val + p.val, by omega⟩ k)
  blk_ext [iblk, V_main_arg0, e0]

theorem p_block (t : Fin cfg0.N) (r k : Fin 256) : (iblk m c 3 t : FVec Ideal S1x1x256x256 .f32) (ix4 0 0 r k) = pT m c (256 * t.val + r.val) k.val := by
  obtain ⟨-, -, -, e3, -⟩ := idx t
  have h := lt_N t
  refine Eq.trans ?_ (is_lay2 (L := 4) (M := 8192) (N := 256) (φ := .f32) (m ((c : Thread nD τ).loc main_arg3)) 0 ⟨256 * t.val + r.val, by omega⟩ k)
  blk_ext [iblk, V_main_arg3, e3]

theorem g_block (t : Fin cfg0.N) : Is (M := 1) (N := 2048) (φ := .f32) (iblk m c 1 t) (fun _ => gT m c) := by
  intro p k
  obtain ⟨-, e1, -⟩ := idx t
  refine Eq.trans ?_ (is_vec (N := 2048) (φ := .f32) (m ((c : Thread nD τ).loc main_arg1)) k)
  blk_simp [iblk, e1]
  entry_read
  pointwise
  refine congrArg (m ((c : Thread nD τ).loc main_arg1)) (funext fun a => ?_)
  match a with
  | ⟨0, _⟩ => exact Fin.ext (by blk_simp [e1])

theorem w_block (t : Fin cfg0.N) (k n : Fin 2048) : (iblk m c 2 t : FVec Ideal S1x2048x2048 .bf16) (ix3 0 k n) = wT m c k.val n.val := by
  obtain ⟨-, -, e2, -⟩ := idx t
  refine Eq.trans ?_ (is_lay (L := 4) (M := 2048) (N := 2048) (φ := .f32) (m ((c : Thread nD τ).loc main_arg2)) 0 k n)
  blk_simp [iblk, e2]
  entry_read
  pointwise
  refine congrArg (m ((c : Thread nD τ).loc main_arg2)) (funext fun a => ?_)
  match a with
  | ⟨0, _⟩ => exact Fin.ext (by blk_simp [e2]; rfl)
  | ⟨1, _⟩ => exact Fin.ext (by blk_simp [e2])
  | ⟨2, _⟩ => exact Fin.ext (by blk_simp [e2])

theorem v_block (t : Fin cfg0.N) (k : Fin 256) (n : Fin 2048) : (iblk m c 4 t : FVec Ideal S1x256x2048 .bf16) (ix3 0 k n) = vT m c k.val n.val := by
  obtain ⟨-, -, -, -, e4, -⟩ := idx t
  refine Eq.trans ?_ (is_lay (L := 4) (M := 256) (N := 2048) (φ := .f32) (m ((c : Thread nD τ).loc main_arg4)) 0 k n)
  blk_simp [iblk, e4]
  entry_read
  pointwise
  refine congrArg (m ((c : Thread nD τ).loc main_arg4)) (funext fun a => ?_)
  match a with
  | ⟨0, _⟩ => exact Fin.ext (by blk_simp [e4]; rfl)
  | ⟨1, _⟩ => exact Fin.ext (by blk_simp [e4])
  | ⟨2, _⟩ => exact Fin.ext (by blk_simp [e4])

/-- The result: each row with its embedding mixed in. -/
def result (X P : ℕ → ℕ → EReal) (g : ℕ → EReal) (W V : ℕ → ℕ → EReal) : FVec Ideal S8192x2048 .f32 := fun i =>
  blend (X (i 0).val) (P (i 0).val) g W V (i 1).val

/-- The kernel's result array. -/
theorem kernel_array : (dats m 0 c).arrAt 6 cfg0.N = result (xT m c) (pT m c) (gT m c) (wT m c) (vT m c) := by
  refine (dats m 0 c).arrAt_eq_of_covers 6 _ (by decide +kernel) fun t _ y => ?_
  obtain ⟨-, -, -, -, -, -, e6⟩ := idx t
  blk_simp
  rw [after0_6]
  refine (out_eq (x_block m c t) (g_block m c t) (P := fun r => pT m c (256 * t.val + r)) (p_block m c t) (w_block m c t) (v_block m c t) y).trans ?_
  have r0 : ((((View.whole main_v4).slice (win0_6.rect t)).emb y) 0).val = 256 * t.val + (y 0).val := by blk_simp [e6]; omega
  have r1 : ((((View.whole main_v4).slice (win0_6.rect t)).emb y) 1).val = (y 1).val := by blk_simp [e6]
  unfold result
  rw [r0, r1]

end Cert.KernelMidIdeal.Gen

namespace Cert.ReferenceMidIdeal.Gen

/-- The reference's result array, of its arguments. -/
theorem reference_array (X : FVec Ideal S8192x2048 .f32) (G : FVec Ideal S2048 .f32) (W : FVec Ideal S4x2048x2048 .f32) (P : FVec Ideal S4x1x8192x256 .f32) (V : FVec Ideal S4x256x2048 .f32) :
    addf X (mulf (Host.dotGeneral dot_S8192x256_S256x2048_S8192x2048_1_0_0_1_n_n none (shapeCast _ (extractStridedSlice S1x1x8192x256 ![0, 0, 0, 0] P slices_S4x1x8192x256_S1x1x8192x256_0_0_0_0) shapeCasts_S1x1x8192x256_S8192x256) (shapeCast _ (extractStridedSlice S1x256x2048 ![0, 0, 0] V slices_S4x256x2048_S1x256x2048_0_0_0) shapeCasts_S1x256x2048_S256x2048)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (shapeCast _ (extractStridedSlice S1x2048x2048 ![0, 0, 0] W slices_S4x2048x2048_S1x2048x2048_0_0_0) shapeCasts_S1x2048x2048_S2048x2048)))))))
      = Cert.KernelMidIdeal.Gen.result (tab X) (lay2 P 0) (vec G) (lay W 0) (lay V 0) := by
  funext y
  obtain ⟨r, n, rfl⟩ : ∃ (r : Fin 8192) (n : Fin 2048), y = ix2 r n := ⟨y 0, y 1, funext fun a => by
    match a with | ⟨0, _⟩ => rfl | ⟨1, _⟩ => rfl⟩
  pointwise
  simp only [is_tab X _ _, is_vec G, is_lay W, is_lay V, is_lay2 P]
  rfl

end Cert.ReferenceMidIdeal.Gen

namespace Claims

theorem frame_mid : Cert.quiescent_KernelMid := fun m ρ _ => Cert.KernelMid.Gen.frame m ρ
theorem frame_midi : Cert.quiescent_KernelMidIdeal := fun m ρ _ => Cert.KernelMidIdeal.Gen.frame m ρ
theorem frame_midr : Cert.quiescent_ReferenceMidIdeal := fun m ρ _ =>
  (θ_run Cert.ReferenceMidIdeal.defs _ _).mono (fun r h => ⟨fun c => (h c).2, Idealize.ShloMosaic.sem_eq_zero_of_no_sems (by decide) r.2⟩)
    (Cert.ReferenceMidIdeal.Value.run (F := Ideal) m ρ)

/-- Kernel and reference end at the same array. -/
theorem algebraic_mid : Cert.algebraic_KernelMidIdeal_ReferenceMidIdeal := by
  intro m ρ m' ρ' _ hagree
  refine ⟨fun c => Cert.KernelMidIdeal.Gen.result (Cert.KernelMidIdeal.Gen.xT m c) (Cert.KernelMidIdeal.Gen.pT m c) (Cert.KernelMidIdeal.Gen.gT m c) (Cert.KernelMidIdeal.Gen.wT m c) (Cert.KernelMidIdeal.Gen.vT m c),
    (θ_run Cert.KernelMidIdeal.defs _ _).mono (fun _ h c => ⟨(h c).1.trans (Cert.KernelMidIdeal.Gen.kernel_array m c), (h c).2⟩) (Cert.KernelMidIdeal.Value.run_blocks (F := Ideal) m ρ), ?_⟩
  refine (θ_run Cert.ReferenceMidIdeal.defs _ _).mono (fun _ h c => ⟨(h c).1.trans ?_, (h c).2⟩) (Cert.ReferenceMidIdeal.Value.run (F := Ideal) m' ρ')
  obtain ⟨h0, h1, h2, h3, h4, -⟩ := hagree c
  refine (Cert.ReferenceMidIdeal.Gen.reference_array _ _ _ _ _).trans ?_
  rw [h0, h1, h2, h3, h4]

end Claims

end
-- ==== Proof.RecChunk.lean ====
module

public import proofs.«01_k».proof.Proof.Norm
public import proofs.«01_k».proof.Proof.Gen.KernelRecIdeal.Value

@[expose] public section

set_option maxRecDepth 16384

noncomputable section

open Idealize.ShloMosaic Idealize.ShloMosaic.TcCoe Idealize.SL.Sem
open Layer

/-! # What the recurrence's kernel does with one 128-column chunk -/

namespace Cert.KernelRecIdeal.Gen

/-- One tap of a convolution: a weight's row times a block of rows, added on. -/
def tap (acc : FVec Ideal S256x128 .f32) (w : FVec Ideal S1x128 .f32) (h : FVec Ideal S256x128 .f32) : FVec Ideal S256x128 .f32 :=
  addf acc (mulf (broadcastTo S256x128 (shapeCast S1x128 w shapeCasts_S1x128_S1x128) broadcasts_S1x128_S256x128) h)

/-- A bias in every row. -/
def base (b : FVec Ideal S1x128 .f32) : FVec Ideal S256x128 .f32 :=
  broadcastTo S256x128 (shapeCast S1x128 (shapeCast S1x128 b shapeCasts_S1x128_S1x128) shapeCasts_S1x128_S1x128) broadcasts_S1x128_S256x128

/-- The rows with their history, turned back by `r` rows. -/
def turn (h : FVec Ideal S288x128 .f32) : ℕ → FVec Ideal S288x128 .f32
  | 0 => h
  | r + 1 => dynamicRotate 0 (BitVec.ofNat 32 (287 - r)) none h rotates_S288x128_d0

theorem slices_tap : ∀ k : Fin 31, S288x128.Slices ![8 * ((2 + k.val) / 8), 0] S256x128 := by decide

/-- The rows that meet tap `k`. -/
def shifted (h : FVec Ideal S288x128 .f32) (k : Fin 31) : FVec Ideal S256x128 .f32 :=
  extractStridedSlice S256x128 ![8 * ((2 + k.val) / 8), 0] (turn h ((2 + k.val) % 8)) (slices_tap k)

/-- The order in which the taps are added. -/
def order : List (Fin 31) := [6, 14, 22, 30, 7, 15, 23, 0, 8, 16, 24, 1, 9, 17, 25, 2, 10, 18, 26, 3, 11, 19, 27, 4, 12, 20, 28, 5, 13, 21, 29]

/-- The long convolution of a chunk. -/
def convA (h : FVec Ideal S288x128 .f32) (b : FVec Ideal S1x128 .f32) (w : Fin 31 → FVec Ideal S1x128 .f32) : FVec Ideal S256x128 .f32 :=
  shapeCast S256x128 (order.foldl (fun acc k => tap acc (w k) (shifted h k)) (base b)) shapeCasts_S256x128_S256x128

/-- The short convolution of a chunk. -/
def convB (b : FVec Ideal S1x128 .f32) (w : Fin 4 → FVec Ideal S1x128 .f32) (x : Fin 4 → FVec Ideal S256x128 .f32) : FVec Ideal S256x128 .f32 :=
  tap (tap (tap (tap (base b) (w 0) (x 0)) (w 1) (x 1)) (w 2) (x 2)) (w 3) (x 3)

/-- A gate: the logistic function of a block of rows times a matrix, plus a bias. -/
def gate (x : FVec Ideal S256x128 .f32) (W : FVec Ideal S1x1x128x128 .bf16) (b : FVec Ideal S1x128 .f32) : FVec Ideal S256x128 .f32 :=
  divf (broadcast S256x128 (Scalar.ofBits .f32 0x3F800000#32)) (addf (broadcast S256x128 (Scalar.ofBits .f32 0x3F800000#32))
    (exp (subf (broadcast S256x128 (Scalar.ofBits .f32 0x00000000#32))
      (addf (matmul dot_S256x128_S128x128_S256x128_1_0_0_1_n_n none (truncf .bf16 x bitsLt_bf16_f32) (shapeCast S128x128 W shapeCasts_S1x1x128x128_S128x128) (constant S256x128 .f32 0x00000000#32))
        (broadcastTo S256x128 (shapeCast S1x128 b shapeCasts_S1x128_S1x128) broadcasts_S1x128_S256x128)))))

/-- The logarithm of the decay. -/
def logDecay (r : FVec Ideal S256x128 .f32) (l : FVec Ideal S1x128 .f32) : FVec Ideal S256x128 .f32 :=
  k0_pay120 r l

/-- What the recurrence is driven by. -/
def drive (la g x : FVec Ideal S256x128 .f32) : FVec Ideal S256x128 .f32 :=
  mulf (sqrt (subf (broadcast S256x128 (Scalar.ofBits .f32 0x3F800000#32)) (exp (mulf (broadcast S256x128 (Scalar.ofBits .f32 0x40000000#32)) la)))) (mulf g x)

/-- The rows moved down by `d`, with `z` above them. -/
def down (d : BitVec 32) (z : BitVec 32) (x : FVec Ideal S256x128 .f32) : FVec Ideal S256x128 .f32 :=
  select (cmpi .sge (iota .tc S256x128 32 [0] iota_S256x128_d0_w32) (broadcast S256x128 d)) (dynamicRotate 0 d none x rotates_S256x128_d0) (broadcast S256x128 (Scalar.ofBits .f32 z))

/-- A doubling of the products of decays. -/
def stepA (d : BitVec 32) (a : FVec Ideal S256x128 .f32) : FVec Ideal S256x128 .f32 := mulf a (down d 0x3F800000#32 a)

/-- A doubling of the partial sums. -/
def stepU (d : BitVec 32) (a u : FVec Ideal S256x128 .f32) : FVec Ideal S256x128 .f32 := addf (mulf a (down d 0x00000000#32 u)) u

/-- The widths that are doubled. -/
def widths : List (BitVec 32) := [1#32, 2#32, 4#32, 8#32, 16#32, 32#32, 64#32, 128#32]

/-- The products of decays, after the doublings. -/
def scanA (ds : List (BitVec 32)) (a : FVec Ideal S256x128 .f32) : FVec Ideal S256x128 .f32 := ds.foldl (fun a d => stepA d a) a

/-- The partial sums, after the doublings. -/
def scanU : List (BitVec 32) → FVec Ideal S256x128 .f32 → FVec Ideal S256x128 .f32 → FVec Ideal S256x128 .f32
  | [], _, u => u
  | d :: ds, a, u => scanU ds (stepA d a) (stepU d a u)

/-- The states of a chunk, given its decays, its drive and the state before. -/
def states (a u : FVec Ideal S256x128 .f32) (h : FVec Ideal S1x128 .f32) : FVec Ideal S256x128 .f32 :=
  addf (scanU widths a u) (mulf (scanA widths a) (broadcastTo S256x128 h broadcasts_S1x128_S256x128))

/-- The last state of a chunk. -/
def lastState (h : FVec Ideal S256x128 .f32) : FVec Ideal S1x128 .f32 :=
  shapeCast S1x128 (extractStridedSlice S1x128 ![255, 0] h slices_S256x128_o255_0_S1x128) shapeCasts_S1x128_S1x128

/-- The gated states. -/
def gated (h g : FVec Ideal S256x128 .f32) : FVec Ideal S256x128 .bf16 := k0_pay140 h (k0_pay138 g) (k0_pay139 g)

/-- The states of a chunk, of what it reads. -/
def hid (b : FVec Ideal S1x128 .f32) (w : Fin 4 → FVec Ideal S1x128 .f32) (x : Fin 4 → FVec Ideal S256x128 .f32) (Wa : FVec Ideal S1x1x128x128 .bf16) (ba : FVec Ideal S1x128 .f32)
    (Wx : FVec Ideal S1x1x128x128 .bf16) (bx l h : FVec Ideal S1x128 .f32) : FVec Ideal S256x128 .f32 :=
  states (exp (logDecay (gate (convB b w x) Wa ba) l)) (drive (logDecay (gate (convB b w x) Wa ba) l) (gate (convB b w x) Wx bx) (convB b w x)) h

theorem inb2 {M N m n o p : ℕ} (h : o + m ≤ M) (h' : p + n ≤ N) : ∀ a, (![o, p] : Fin 2 → ℕ) a + (![m, n] : Fin 2 → ℕ) a ≤ (![M, N] : Fin 2 → ℕ) a := fun a => by
  match a with | ⟨0, _⟩ => exact h | ⟨1, _⟩ => exact h'

theorem inb4 (c : Fin 8) : ∀ a, (![0, c.val, 0, 0] : Fin 4 → ℕ) a + S1x1x128x128.size a ≤ S1x8x128x128.size a := by
  revert c; decide

/-- Part of an array that a window holds. -/
def cell {M N : ℕ} (arg : Memref sig .tc .vmem ⟨2, ![M, N]⟩ .f32) (harg : arg.IsWhole) (X : Vec Ideal ⟨2, ![M, N]⟩ .f32) (o p m n : ℕ) (h : o + m ≤ M) (h' : p + n ≤ N) :
    FVec Ideal ⟨2, ![m, n]⟩ .f32 :=
  View.readAt (Elt Ideal) arg.view (Rect.unit (s := ⟨2, ![M, N]⟩) ![o, p] ![m, n] (inb2 h h')).toLoadRect (harg.unread X)

/-- The matrix of head `c`. -/
def mat (arg : Memref sig .tc .vmem S1x8x128x128 .bf16) (harg : arg.IsWhole) (X : Vec Ideal S1x8x128x128 .bf16) (c : Fin 8) : FVec Ideal S1x1x128x128 .bf16 :=
  View.readAt (Elt Ideal) arg.view (Rect.unit (s := S1x8x128x128) ![0, c.val, 0, 0] S1x1x128x128.size (inb4 c)).toLoadRect (harg.unread X)

/-- Columns `w · c` to `w · (c + 1)` after column `o`, as a piece of an array. -/
abbrev colPiece {M N : ℕ} {φ : EltTy} (o w m : ℕ) (hM : m ≤ M) (hN : o + w * 8 ≤ N) (c : Fin 8) (v : (⟨2, ![m, w]⟩ : Shape).Idx → Elt Ideal φ) : View.Piece (Elt Ideal) ⟨2, ![M, N]⟩ φ :=
  ⟨Rect.unit (s := ⟨2, ![M, N]⟩) ![0, o + w * c.val] ![m, w] (inb2 (by omega) (by have := c.isLt; have : w * c.val + w ≤ w * 8 := by { rw [← Nat.mul_succ]; exact Nat.mul_le_mul_left _ c.isLt }; omega)), v⟩

/-- A column piece for every chunk, the last chunk first. -/
def cols {M N : ℕ} {φ : EltTy} (o w m : ℕ) (hM : m ≤ M) (hN : o + w * 8 ≤ N) (v : Fin 8 → (⟨2, ![m, w]⟩ : Shape).Idx → Elt Ideal φ) : List (View.Piece (Elt Ideal) ⟨2, ![M, N]⟩ φ) :=
  List.map (fun k => colPiece o w m hM hN k (v k)) [7, 6, 5, 4, 3, 2, 1, 0]

section

variable (arg1 : Memref sig .tc .vmem S256x4096 .f32) (harg1 : arg1.IsWhole) (arg2 : Memref sig .tc .vmem S31x1024 .f32) (harg2 : arg2.IsWhole) (arg3 : Memref sig .tc .vmem S1x1024 .f32) (harg3 : arg3.IsWhole)
  (arg6 : Memref sig .tc .vmem S4x1024 .f32) (harg6 : arg6.IsWhole) (arg7 : Memref sig .tc .vmem S1x1024 .f32) (harg7 : arg7.IsWhole) (arg8 : Memref sig .tc .vmem S1x8x128x128 .bf16) (harg8 : arg8.IsWhole)
  (arg9 : Memref sig .tc .vmem S1x1024 .f32) (harg9 : arg9.IsWhole) (arg10 : Memref sig .tc .vmem S1x8x128x128 .bf16) (harg10 : arg10.IsWhole) (arg11 : Memref sig .tc .vmem S1x1024 .f32) (harg11 : arg11.IsWhole)
  (arg12 : Memref sig .tc .vmem S1x1024 .f32) (harg12 : arg12.IsWhole)
  (x0 : Vec Ideal S256x4096 .f32) (x1 : Vec Ideal S31x1024 .f32) (x2 : Vec Ideal S1x1024 .f32) (x5 : Vec Ideal S4x1024 .f32) (x6 : Vec Ideal S1x1024 .f32) (x7 : Vec Ideal S1x8x128x128 .bf16) (x8 : Vec Ideal S1x1024 .f32)
  (x9 : Vec Ideal S1x8x128x128 .bf16) (x10 : Vec Ideal S1x1024 .f32) (x11 : Vec Ideal S1x1024 .f32)

/-- The long convolution of chunk `c` of a block of rows. -/
def convC (hist : Fin 8 → FVec Ideal S288x128 .f32) (c : Fin 8) : FVec Ideal S256x128 .f32 :=
  convA (hist c) (cell arg3 harg3 x2 0 (128 * c.val) 1 128 (by omega) (by omega)) (fun k => cell arg2 harg2 x1 k.val (128 * c.val) 1 128 (by omega) (by omega))

/-- The states of chunk `c` of a block of rows. -/
def hidC (xr : Fin 8 → Fin 4 → FVec Ideal S256x128 .f32) (hp : Fin 8 → FVec Ideal S1x128 .f32) (c : Fin 8) : FVec Ideal S256x128 .f32 :=
  hid (cell arg7 harg7 x6 0 (128 * c.val) 1 128 (by omega) (by omega)) (fun k => cell arg6 harg6 x5 k.val (128 * c.val) 1 128 (by omega) (by omega)) (xr c)
    (mat arg8 harg8 x7 c) (cell arg9 harg9 x8 0 (128 * c.val) 1 128 (by omega) (by omega)) (mat arg10 harg10 x9 c) (cell arg11 harg11 x10 0 (128 * c.val) 1 128 (by omega) (by omega))
    (cell arg12 harg12 x11 0 (128 * c.val) 1 128 (by omega) (by omega)) (hp c)

/-- The gated states of chunk `c`. -/
def outC (hid : FVec Ideal S256x128 .f32) (c : Fin 8) : FVec Ideal S256x128 .bf16 :=
  gated hid (cell arg1 harg1 x0 0 (3072 + 128 * c.val) 256 128 (by omega) (by omega))

/-- The gated rows of a block, below the rows kept from the block before. -/
def gluPieces : List (View.Piece (Elt Ideal) S288x1024 .f32) :=
  [⟨Rect.unit ![32, 0] S256x1024.size inb_S288x1024_S256x1024_32_0, k0_pay5 (F := Ideal) (cell arg1 harg1 x0 0 0 256 1024 (by decide) (by decide)) (cell arg1 harg1 x0 0 1024 256 1024 (by decide) (by decide))⟩]

/-- The recurrent branch's rows of a block, below the rows kept. -/
def xrPieces : List (View.Piece (Elt Ideal) S264x1024 .f32) :=
  [⟨Rect.unit ![8, 0] S256x1024.size inb_S264x1024_S256x1024_8_0, k0_pay112 (F := Ideal) (cell arg1 harg1 x0 0 2048 256 1024 (by decide) (by decide))⟩]

end

end Cert.KernelRecIdeal.Gen

end
-- ==== Proof.Scan.lean ====
module

public import proofs.«01_k».proof.Proof.Norm

@[expose] public section

noncomputable section

open Idealize.ShloMosaic

/-! # A first-order recurrence, step by step and by doubling -/

namespace Layer

/-- The recurrence `h ← a · h + u` over `n` steps from step `lo` on, begun at 0. -/
def acc (a u : ℕ → EReal) (lo : ℕ) : ℕ → EReal
  | 0 => 0
  | n + 1 => a (lo + n) * acc a u lo n + u (lo + n)

/-- The product of the decays of `n` steps from step `lo` on. -/
def decay (a : ℕ → EReal) (lo : ℕ) : ℕ → EReal
  | 0 => 1
  | n + 1 => a (lo + n) * decay a lo n

/-- The state before step `n`. -/
def run (a u : ℕ → EReal) (n : ℕ) : EReal := acc a u 0 n

theorem run_succ (a u : ℕ → EReal) (n : ℕ) : run a u (n + 1) = a n * run a u n + u n := by
  rw [run, acc, zero_add]; rfl

theorem decay_split (a : ℕ → EReal) (lo n : ℕ) : ∀ k, decay a lo (n + k) = decay a (lo + n) k * decay a lo n
  | 0 => by rw [add_zero, decay, one_mul]
  | k + 1 => by rw [← add_assoc, decay, decay, decay_split a lo n k, mul_assoc, add_assoc]

theorem acc_split {a : ℕ → EReal} (u : ℕ → EReal) (ha : ∀ t, 0 ≤ a t ∧ a t ≠ ⊤) (lo n : ℕ) :
    ∀ k, acc a u lo (n + k) = decay a (lo + n) k * acc a u lo n + acc a u (lo + n) k
  | 0 => by rw [add_zero, decay, acc, one_mul, add_zero]
  | k + 1 => by
    rw [← add_assoc, acc, acc, decay, acc_split u ha lo n k, ← add_assoc lo n k,
      EReal.left_distrib_of_nonneg_of_ne_top (ha _).1 (ha _).2, mul_assoc, add_assoc]

/-- The product of the decays of the last `d` of the first `r + 1` steps after `B`. -/
def decayW (a : ℕ → EReal) (B d r : ℕ) : EReal := decay a (B + (r + 1 - d)) (r + 1 - (r + 1 - d))

/-- The recurrence over the last `d` of the first `r + 1` steps after `B`. -/
def accW (a u : ℕ → EReal) (B d r : ℕ) : EReal := acc a u (B + (r + 1 - d)) (r + 1 - (r + 1 - d))

theorem decayW_one (a : ℕ → EReal) (B r : ℕ) : decayW a B 1 r = a (B + r) := by
  have e : r + 1 - r = 1 := by omega
  rw [decayW, Nat.add_sub_cancel, e, decay, decay, add_zero, mul_one]

theorem accW_one (a u : ℕ → EReal) (B r : ℕ) : accW a u B 1 r = u (B + r) := by
  have e : r + 1 - r = 1 := by omega
  rw [accW, Nat.add_sub_cancel, e, acc, acc, add_zero, mul_zero, zero_add]

theorem decayW_low (a : ℕ → EReal) {B d r : ℕ} (h : r < d) : decayW a B (d + d) r = decayW a B d r := by
  rw [decayW, decayW, show r + 1 - (d + d) = r + 1 - d by omega]

theorem accW_low (a u : ℕ → EReal) {B d r : ℕ} (h : r < d) : accW a u B (d + d) r = accW a u B d r := by
  rw [accW, accW, show r + 1 - (d + d) = r + 1 - d by omega]

theorem decayW_high (a : ℕ → EReal) {B d r : ℕ} (h : d ≤ r) : decayW a B (d + d) r = decayW a B d r * decayW a B d (r - d) := by
  have e : r + 1 - (r + 1 - (d + d)) = (r - d + 1 - (r - d + 1 - d)) + (r + 1 - (r + 1 - d)) := by omega
  have e' : B + (r + 1 - (d + d)) + (r - d + 1 - (r - d + 1 - d)) = B + (r + 1 - d) := by omega
  have e'' : r + 1 - (d + d) = r - d + 1 - d := by omega
  rw [decayW, e, decay_split, e', decayW, decayW, e'']

theorem accW_high {a : ℕ → EReal} (u : ℕ → EReal) (ha : ∀ t, 0 ≤ a t ∧ a t ≠ ⊤) {B d r : ℕ} (h : d ≤ r) :
    accW a u B (d + d) r = decayW a B d r * accW a u B d (r - d) + accW a u B d r := by
  have e : r + 1 - (r + 1 - (d + d)) = (r - d + 1 - (r - d + 1 - d)) + (r + 1 - (r + 1 - d)) := by omega
  have e' : B + (r + 1 - (d + d)) + (r - d + 1 - (r - d + 1 - d)) = B + (r + 1 - d) := by omega
  have e'' : r + 1 - (d + d) = r - d + 1 - d := by omega
  rw [accW, e, acc_split u ha, e', decayW, accW, accW, e'']

/-- The state after `r + 1` steps, of the window that holds them all and the state before. -/
theorem run_window {a : ℕ → EReal} (u : ℕ → EReal) (ha : ∀ t, 0 ≤ a t ∧ a t ≠ ⊤) {B d r : ℕ} (h : r < d) :
    accW a u B d r + decayW a B d r * run a u B = run a u (B + (r + 1)) := by
  have e : r + 1 - d = 0 := by omega
  rw [run, run, acc_split u ha, accW, decayW, e, add_zero, Nat.sub_zero, zero_add, add_comm]

theorem sigm_bounds (v : EReal) : 0 ≤ sigm v ∧ sigm v ≠ ⊤ := by
  unfold sigm
  have key : ∀ e : EReal, 0 ≤ e → 0 ≤ Ideal.div 1 (1 + e) ∧ Ideal.div 1 (1 + e) ≠ ⊤ := fun e he => by
    have h1 : (0 : EReal) < 1 + e := lt_of_lt_of_le zero_lt_one (le_add_of_nonneg_right he)
    rw [Ideal.div, if_neg h1.ne', one_mul]
    induction e with
    | bot => exact absurd he (by decide)
    | top =>
      have ht : (1 : EReal) + ⊤ = ⊤ := EReal.add_top_of_ne_bot (by decide)
      rw [ht, EReal.inv_top]
      exact ⟨le_rfl, EReal.zero_ne_top⟩
    | coe x =>
      have e1 : (1 : EReal) + (x : EReal) = ((1 + x : ℝ) : EReal) := by push_cast; rfl
      rw [e1, ← EReal.coe_inv]
      rw [e1] at h1
      exact ⟨by exact_mod_cast inv_nonneg.mpr (EReal.coe_pos.mp h1).le, EReal.coe_ne_top _⟩
  refine key _ ?_
  induction -v with
  | bot => exact le_rfl
  | top => exact le_top
  | coe x => exact EReal.coe_nonneg.mpr (Real.exp_pos x).le

theorem exp_bounds {v : EReal} (h : v ≤ 0) : 0 ≤ Ideal.exp v ∧ Ideal.exp v ≠ ⊤ := by
  induction v with
  | bot => exact ⟨le_rfl, EReal.zero_ne_top⟩
  | top => exact absurd h (by decide)
  | coe x => exact ⟨EReal.coe_nonneg.mpr (Real.exp_pos x).le, EReal.coe_ne_top _⟩

/-- The softplus of `-l`. -/
def softplus (l : EReal) : EReal := max (-l) 0 + Ideal.log (1 + Ideal.exp (-(max (-l) (- -l))))

end Layer

end
-- ==== Proof.RecSpec.lean ====
module

public import proofs.«01_k».proof.Proof.Scan

@[expose] public section

noncomputable section

open Idealize.ShloMosaic Idealize.ShloMosaic.TcCoe Idealize.SL.Sem

/-! # The gated linear recurrence and its convolution branch, over the extended reals -/

namespace Layer

/-- The rows of `f` below `p` rows of zeros. -/
def pad (p : ℕ) (f : ℕ → ℕ → EReal) (t k : ℕ) : EReal := if t < p then 0 else f (t - p) k

/-- The mean of 1024 entries. -/
def mean (x : ℕ → EReal) : EReal := Ideal.div (∑ j : Fin 1024, x j.val) (Ideal.ofBits .f32 0x44800000#32)

/-- A row centred, divided by its deviation, weighted and moved. -/
def normed (x g b : ℕ → EReal) (k : ℕ) : EReal :=
  (x k - mean x) * Ideal.rsqrt (mean (fun j => (x j - mean x) * (x j - mean x)) + Ideal.ofBits .f32 0x358637BD#32) * g k + b k

/-- The gelu function, by its tanh approximation. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- What the call reads: the projected rows, the long convolution's weights and bias, the norm's weights, the short
    convolution's weights and bias, the two gates' matrices and biases, and the decay's parameter. -/
structure Mix where
  u : ℕ → ℕ → EReal
  caw : ℕ → ℕ → EReal
  cab : ℕ → EReal
  lng : ℕ → EReal
  lnb : ℕ → EReal
  cbw : ℕ → ℕ → EReal
  cbb : ℕ → EReal
  wa : ℕ → ℕ → ℕ → EReal
  ba : ℕ → EReal
  wx : ℕ → ℕ → ℕ → EReal
  bx : ℕ → EReal
  lam : ℕ → EReal

namespace Mix

variable (I : Mix)

/-- The gated rows. -/
def glu (t k : ℕ) : EReal := I.u t k * sigm (I.u t (1024 + k))

/-- The recurrent branch's rows. -/
def xr (t k : ℕ) : EReal := I.u t (2048 + k)

/-- The long convolution. -/
def convA (t k : ℕ) : EReal := (∑ j : Fin 31, I.caw j.val k * pad 30 I.glu (t + j.val) k) + I.cab k

/-- The short convolution. -/
def convB (t k : ℕ) : EReal := (∑ j : Fin 4, I.cbw j.val k * pad 3 I.xr (t + j.val) k) + I.cbb k

/-- The convolution branch's result. -/
def left (t k : ℕ) : EReal := normed (I.convA t) I.lng I.lnb k * sigm (normed (I.convA t) I.lng I.lnb k)

/-- A gate: column `k` of its head's rows times its head's matrix. -/
def gate (w : ℕ → ℕ → ℕ → EReal) (b : ℕ → EReal) (t k : ℕ) : EReal :=
  sigm ((∑ i : Fin 128, I.convB t (128 * (k / 128) + i.val) * w (k / 128) i.val (k % 128)) + b k)

/-- The logarithm of the decay. -/
def logA (t k : ℕ) : EReal := Ideal.ofBits .f32 0xC1000000#32 * I.gate I.wa I.ba t k * softplus (I.lam k)

/-- The decay. -/
def a (t k : ℕ) : EReal := Ideal.exp (I.logA t k)

/-- The drive. -/
def d (t k : ℕ) : EReal := Ideal.sqrt (1 - Ideal.exp (Ideal.ofBits .f32 0x40000000#32 * I.logA t k)) * (I.gate I.wx I.bx t k * I.convB t k)

/-- The state before row `t`. -/
def st (k t : ℕ) : EReal := run (fun t => I.a t k) (fun t => I.d t k) t

/-- The result: the convolution branch beside the gated states. -/
def out (t n : ℕ) : EReal := if n < 1024 then I.left t n else I.st (n - 1024) (t + 1) * gelu (I.u t (3072 + (n - 1024)))

end Mix

/-- Layer 0 of the heads' matrices. -/
def heads (x : FVec Ideal ⟨4, ![2, 8, 128, 128]⟩ .f32) (c i j : ℕ) : EReal :=
  if h : c < 8 ∧ i < 128 ∧ j < 128 then x (ix4 0 ⟨c, h.1⟩ ⟨i, h.2.1⟩ ⟨j, h.2.2⟩) else 0

theorem is_heads (x : FVec Ideal ⟨4, ![2, 8, 128, 128]⟩ .f32) (c : Fin 8) (i j : Fin 128) : x (ix4 0 c i j) = heads x c.val i.val j.val := by
  rw [heads, dif_pos ⟨c.isLt, i.isLt, j.isLt⟩]

/-- Layer 0 of vectors. -/
def row0 (x : FVec Ideal ⟨2, ![2, 1024]⟩ .f32) : ℕ → EReal := tab x 0

theorem is_row0 (x : FVec Ideal ⟨2, ![2, 1024]⟩ .f32) (k : Fin 1024) : x (ix2 0 k) = row0 x k.val := is_tab x 0 k

/-- What layer 0 of the arrays holds. -/
def mixOf (U : FVec Ideal ⟨2, ![8192, 4096]⟩ .f32) (A : FVec Ideal ⟨3, ![2, 31, 1024]⟩ .f32) (ab lg lb : FVec Ideal ⟨2, ![2, 1024]⟩ .f32) (B : FVec Ideal ⟨3, ![2, 4, 1024]⟩ .f32)
    (bb : FVec Ideal ⟨2, ![2, 1024]⟩ .f32) (Wa : FVec Ideal ⟨4, ![2, 8, 128, 128]⟩ .f32) (ba : FVec Ideal ⟨2, ![2, 1024]⟩ .f32) (Wx : FVec Ideal ⟨4, ![2, 8, 128, 128]⟩ .f32)
    (bx lm : FVec Ideal ⟨2, ![2, 1024]⟩ .f32) : Mix where
  u := tab U
  caw := lay A 0
  cab := row0 ab
  lng := row0 lg
  lnb := row0 lb
  cbw := lay B 0
  cbb := row0 bb
  wa := heads Wa
  ba := row0 ba
  wx := heads Wx
  bx := row0 bx
  lam := row0 lm

theorem log_nonneg {e : EReal} (h : 0 ≤ e) : 0 ≤ Ideal.log (1 + e) := by
  induction e with
  | bot => exact absurd h (by decide)
  | top =>
    have ht : (1 : EReal) + ⊤ = ⊤ := EReal.add_top_of_ne_bot (by decide)
    rw [ht]
    exact le_top
  | coe x =>
    have hx : 0 ≤ x := EReal.coe_nonneg.mp h
    have e1 : (1 : EReal) + (x : EReal) = ((1 + x : ℝ) : EReal) := by push_cast; rfl
    rw [e1]
    show 0 ≤ (if (1 + x) ≤ 0 then (⊥ : EReal) else (Real.log (1 + x) : EReal))
    rw [if_neg (by linarith)]
    exact EReal.coe_nonneg.mpr (Real.log_nonneg (by linarith))

theorem exp_nonneg (v : EReal) : 0 ≤ Ideal.exp v := by
  induction v with
  | bot => exact le_rfl
  | top => exact le_top
  | coe x => exact EReal.coe_nonneg.mpr (Real.exp_pos x).le

theorem softplus_nonneg (l : EReal) : 0 ≤ softplus l := by
  unfold softplus
  exact add_nonneg (le_max_right _ _) (log_nonneg (exp_nonneg _))

theorem eight_nonpos : Ideal.ofBits .f32 0xC1000000#32 ≤ 0 := by
  have e : Ideal.ofBits .f32 0xC1000000#32 = ((-(8 : ℝ) : ℝ) : EReal) := by
    simp [Ideal.ofBits, Ideal.ieee, -EReal.coe_mul, -EReal.coe_neg]; norm_num
  rw [e]
  exact EReal.coe_nonpos.mpr (by norm_num)

theorem pad_shift (p q : ℕ) (f : ℕ → ℕ → EReal) (t k : ℕ) : pad (p + q) f (t + q) k = pad p f t k := by
  unfold pad
  by_cases h : t < p
  · rw [if_pos h, if_pos (by omega)]
  · rw [if_neg h, if_neg (by omega), show t + q - (p + q) = t - p by omega]

theorem Mix.logA_nonpos (I : Mix) (t k : ℕ) : I.logA t k ≤ 0 := by
  unfold Mix.logA
  have h1 : Ideal.ofBits .f32 0xC1000000#32 * I.gate I.wa I.ba t k ≤ 0 := mul_nonpos_of_nonpos_of_nonneg eight_nonpos (sigm_bounds _).1
  exact mul_nonpos_of_nonpos_of_nonneg h1 (softplus_nonneg _)

theorem Mix.a_bounds (I : Mix) (k t : ℕ) : 0 ≤ I.a t k ∧ I.a t k ≠ ⊤ := exp_bounds (I.logA_nonpos t k)

end Layer

end
-- ==== Proof.RecPure.lean ====
module

public import proofs.«01_k».proof.Proof.RecChunk
public import proofs.«01_k».proof.Proof.RecSpec

@[expose] public section

set_option maxRecDepth 16384

noncomputable section

open Idealize.ShloMosaic Idealize.ShloMosaic.TcCoe Idealize.SL.Sem
open Layer

/-! # The values of a chunk -/

namespace Cert.KernelRecIdeal.Gen

theorem tap_at (a : FVec Ideal S256x128 .f32) (w : FVec Ideal S1x128 .f32) (h : FVec Ideal S256x128 .f32) (r : Fin 256) (l : Fin 128) :
    tap a w h (ix2 r l) = a (ix2 r l) + w (ix2 0 l) * h (ix2 r l) := by
  pointwise [tap]

theorem base_at (b : FVec Ideal S1x128 .f32) (r : Fin 256) (l : Fin 128) : base b (ix2 r l) = b (ix2 0 l) := by
  pointwise [base]

theorem turn_at (h : FVec Ideal S288x128 .f32) (s : Fin 8) (r : Fin 288) (l : Fin 128) (hr : r.val + s.val < 288) :
    turn h s.val (ix2 r l) = h (ix2 ⟨r.val + s.val, hr⟩ l) := by
  obtain ⟨s, hs⟩ := s
  cases s with
  | zero => rfl
  | succ s =>
    dsimp only [turn]
    pointwise
    refine congrArg h (congrArg (fun x => ix2 x l) (Fin.ext ?_))
    have e : 287 - s < 2 ^ 32 := by omega
    have e' : (287 - s) % 2 ^ 32 = 287 - s := Nat.mod_eq_of_lt e
    simp only [BitVec.toNat_ofNat, e']
    dsimp only at hr ⊢
    omega

theorem shifted_at (h : FVec Ideal S288x128 .f32) (k : Fin 31) (r : Fin 256) (l : Fin 128) :
    shifted h k (ix2 r l) = h (ix2 ⟨r.val + 2 + k.val, by omega⟩ l) := by
  unfold shifted
  pointwise
  refine Eq.trans (turn_at h ⟨(2 + k.val) % 8, Nat.mod_lt _ (by decide)⟩ ⟨8 * ((2 + k.val) / 8) + r.val, by omega⟩ l (by dsimp only; omega)) ?_
  refine congrArg h (congrArg (fun x => ix2 x l) (Fin.ext ?_))
  dsimp only
  omega

theorem taps_at (w : Fin 31 → FVec Ideal S1x128 .f32) (H : Fin 31 → FVec Ideal S256x128 .f32) (r : Fin 256) (l : Fin 128) :
    ∀ (L : List (Fin 31)) (b : FVec Ideal S256x128 .f32), (L.foldl (fun acc k => tap acc (w k) (H k)) b) (ix2 r l)
      = b (ix2 r l) + (L.map fun k => w k (ix2 0 l) * H k (ix2 r l)).sum
  | [], b => by simp
  | k :: L, b => by
    rw [List.foldl_cons, taps_at w H r l L, tap_at, List.map_cons, List.sum_cons, add_assoc]

theorem order_sum (f : Fin 31 → EReal) : (order.map f).sum = ∑ k, f k := by
  rw [Fin.sum_univ_def]
  exact ((by decide : order.Perm (List.finRange 31)).map f).sum_eq

theorem convA_at (h : FVec Ideal S288x128 .f32) (b : FVec Ideal S1x128 .f32) (w : Fin 31 → FVec Ideal S1x128 .f32) (r : Fin 256) (l : Fin 128) :
    convA h b w (ix2 r l) = (∑ k : Fin 31, w k (ix2 0 l) * h (ix2 ⟨r.val + 2 + k.val, by omega⟩ l)) + b (ix2 0 l) := by
  unfold convA
  pointwise
  rw [taps_at, order_sum, base_at, add_comm]
  simp only [shifted_at]

theorem convB_at (b : FVec Ideal S1x128 .f32) (w : Fin 4 → FVec Ideal S1x128 .f32) (x : Fin 4 → FVec Ideal S256x128 .f32) (r : Fin 256) (l : Fin 128) :
    convB b w x (ix2 r l) = (∑ k : Fin 4, w k (ix2 0 l) * x k (ix2 r l)) + b (ix2 0 l) := by
  unfold convB
  simp only [tap_at, base_at, Fin.sum_univ_four]
  rw [add_comm _ (b (ix2 0 l)), add_assoc, add_assoc, add_assoc, add_assoc, add_assoc]

theorem gate_at (x : FVec Ideal S256x128 .f32) (W : FVec Ideal S1x1x128x128 .bf16) (b : FVec Ideal S1x128 .f32) (r : Fin 256) (l : Fin 128) :
    gate x W b (ix2 r l) = sigm ((∑ i : Fin 128, x (ix2 r i) * W (ix4 0 0 i l)) + b (ix2 0 l)) := by
  pointwise [gate]
  simp only [sub_eq_add_neg, zero_add]
  rfl

theorem logDecay_at (g : FVec Ideal S256x128 .f32) (l : FVec Ideal S1x128 .f32) (r : Fin 256) (k : Fin 128) :
    logDecay g l (ix2 r k) = Ideal.ofBits .f32 0xC1000000#32 * g (ix2 r k) * softplus (l (ix2 0 k)) := by
  pointwise [logDecay, k0_pay120]
  simp only [sub_eq_add_neg, zero_add]
  rfl

theorem drive_at (la g x : FVec Ideal S256x128 .f32) (r : Fin 256) (k : Fin 128) :
    drive la g x (ix2 r k) = Ideal.sqrt (1 - Ideal.exp (Ideal.ofBits .f32 0x40000000#32 * la (ix2 r k))) * (g (ix2 r k) * x (ix2 r k)) := by
  pointwise [drive]

theorem down_at (d : ℕ) (hd : d ≤ 128) (z : BitVec 32) (x : FVec Ideal S256x128 .f32) (r : Fin 256) (k : Fin 128) :
    down (BitVec.ofNat 32 d) z x (ix2 r k) = if d ≤ r.val then x (ix2 ⟨r.val - d, by omega⟩ k) else Ideal.ofBits .f32 z := by
  pointwise [down]
  have e1 : (BitVec.ofNat 32 d).toNat = d := by rw [BitVec.toNat_ofNat]; omega
  have e2 : (BitVec.ofNat 32 d).toInt = d := by rw [BitVec.toInt_eq_toNat_of_lt (by omega), e1]
  have e3 : (BitVec.ofNat 32 r.val).toInt = r.val := by
    rw [BitVec.toInt_eq_toNat_of_lt (by rw [BitVec.toNat_ofNat]; omega), BitVec.toNat_ofNat]
    have := r.isLt
    omega
  by_cases h : d ≤ r.val
  · have c : IntOp.cmpi .sge (BitVec.ofNat 32 r.val) (BitVec.ofNat 32 d) = 1#1 := by
      simp [IntOp.cmpi, BitVec.sle, e2, e3, h]
    rw [if_pos h, c]
    refine Eq.trans (show Scalar.select 1#1 _ _ = _ from rfl) (congrArg x (congrArg (fun y => ix2 y k) (Fin.ext ?_)))
    dsimp only
    rw [e1]
    omega
  · have c : IntOp.cmpi .sge (BitVec.ofNat 32 r.val) (BitVec.ofNat 32 d) = 0#1 := by
      simp [IntOp.cmpi, BitVec.sle, e2, e3, h]
    rw [if_neg h, c]
    rfl

theorem gated_at (h g : FVec Ideal S256x128 .f32) (r : Fin 256) (k : Fin 128) : gated h g (ix2 r k) = h (ix2 r k) * gelu (g (ix2 r k)) := by
  pointwise [gated, k0_pay140, k0_pay138, k0_pay139]
  unfold gelu
  rw [mul_comm (Ideal.ofBits .f32 0x3F000000#32) (g (ix2 r k)), mul_assoc (g (ix2 r k))]

theorem lastState_at (h : FVec Ideal S256x128 .f32) (r : Fin 1) (k : Fin 128) : lastState h (ix2 r k) = h (ix2 255 k) := by
  pointwise [lastState]

theorem one_f32 : Ideal.ofBits .f32 0x3F800000#32 = 1 := by simp

theorem stepA_holds {A : ℕ → ℕ → EReal} {B d : ℕ} (hd : d ≤ 128) {a : FVec Ideal S256x128 .f32} (ha : ∀ (r : Fin 256) (l : Fin 128), a (ix2 r l) = decayW (A l.val) B d r.val)
    (r : Fin 256) (l : Fin 128) : stepA (BitVec.ofNat 32 d) a (ix2 r l) = decayW (A l.val) B (d + d) r.val := by
  refine Eq.trans (show _ = a (ix2 r l) * down (BitVec.ofNat 32 d) 0x3F800000#32 a (ix2 r l) from rfl) ?_
  rw [down_at d hd]
  by_cases h : d ≤ r.val
  · rw [if_pos h, ha, ha, decayW_high _ h]
  · rw [if_neg h, ha, one_f32, mul_one, decayW_low _ (by omega)]

theorem stepU_holds {A D : ℕ → ℕ → EReal} (hA : ∀ l t, 0 ≤ A l t ∧ A l t ≠ ⊤) {B d : ℕ} (hd : d ≤ 128) {a u : FVec Ideal S256x128 .f32}
    (ha : ∀ (r : Fin 256) (l : Fin 128), a (ix2 r l) = decayW (A l.val) B d r.val)
    (hu : ∀ (r : Fin 256) (l : Fin 128), u (ix2 r l) = accW (A l.val) (D l.val) B d r.val)
    (r : Fin 256) (l : Fin 128) : stepU (BitVec.ofNat 32 d) a u (ix2 r l) = accW (A l.val) (D l.val) B (d + d) r.val := by
  refine Eq.trans (show _ = a (ix2 r l) * down (BitVec.ofNat 32 d) 0x00000000#32 u (ix2 r l) + u (ix2 r l) from rfl) ?_
  rw [down_at d hd]
  by_cases h : d ≤ r.val
  · rw [if_pos h, ha, hu, hu, accW_high _ (hA _) h]
  · rw [if_neg h, ha, hu, Ideal.ofBits_zero_f32, mul_zero, zero_add, accW_low _ _ (by omega)]

theorem states_at {A D : ℕ → ℕ → EReal} (hA : ∀ l t, 0 ≤ A l t ∧ A l t ≠ ⊤) {B : ℕ} {a u : FVec Ideal S256x128 .f32} {h : FVec Ideal S1x128 .f32}
    (ha : ∀ (r : Fin 256) (l : Fin 128), a (ix2 r l) = A l.val (B + r.val))
    (hu : ∀ (r : Fin 256) (l : Fin 128), u (ix2 r l) = D l.val (B + r.val))
    (hh : ∀ l : Fin 128, h (ix2 0 l) = run (A l.val) (D l.val) B)
    (r : Fin 256) (l : Fin 128) : states a u h (ix2 r l) = run (A l.val) (D l.val) (B + (r.val + 1)) := by
  have a1 : ∀ (r : Fin 256) (l : Fin 128), a (ix2 r l) = decayW (A l.val) B 1 r.val := fun r l => by rw [ha, decayW_one]
  have u1 : ∀ (r : Fin 256) (l : Fin 128), u (ix2 r l) = accW (A l.val) (D l.val) B 1 r.val := fun r l => by rw [hu, accW_one]
  have a2 := stepA_holds (d := 1) (by decide) a1
  have u2 := stepU_holds hA (d := 1) (by decide) a1 u1
  have a3 := stepA_holds (d := 2) (by decide) a2
  have u3 := stepU_holds hA (d := 2) (by decide) a2 u2
  have a4 := stepA_holds (d := 4) (by decide) a3
  have u4 := stepU_holds hA (d := 4) (by decide) a3 u3
  have a5 := stepA_holds (d := 8) (by decide) a4
  have u5 := stepU_holds hA (d := 8) (by decide) a4 u4
  have a6 := stepA_holds (d := 16) (by decide) a5
  have u6 := stepU_holds hA (d := 16) (by decide) a5 u5
  have a7 := stepA_holds (d := 32) (by decide) a6
  have u7 := stepU_holds hA (d := 32) (by decide) a6 u6
  have a8 := stepA_holds (d := 64) (by decide) a7
  have u8 := stepU_holds hA (d := 64) (by decide) a7 u7
  have a9 := stepA_holds (d := 128) (by decide) a8
  have u9 := stepU_holds hA (d := 128) (by decide) a8 u8
  have e : states a u h (ix2 r l) = scanU widths a u (ix2 r l) + scanA widths a (ix2 r l) * h (ix2 0 l) := by
    pointwise [states]
  rw [e, hh]
  refine Eq.trans (congrArg₂ (fun p q => p + q * run (A l.val) (D l.val) B) (u9 r l) (a9 r l)) ?_
  exact run_window _ (hA _) (by have := r.isLt; omega)

theorem cell_at {M N : ℕ} (arg : Memref sig .tc .vmem ⟨2, ![M, N]⟩ .f32) (harg : arg.IsWhole) (X : Vec Ideal ⟨2, ![M, N]⟩ .f32) (o p m n : ℕ) (h : o + m ≤ M) (h' : p + n ≤ N)
    (i : Fin m) (j : Fin n) : cell arg harg X o p m n h h' (ix2 i j) = X (ix2 ⟨o + i.val, by omega⟩ ⟨p + j.val, by omega⟩) := by
  unfold cell
  rw [harg.readAt_unread]
  refine congrArg X (funext fun a => ?_)
  match a with
  | ⟨0, _⟩ => exact Fin.ext (show o + 1 * i.val = o + i.val by omega)
  | ⟨1, _⟩ => exact Fin.ext (show p + 1 * j.val = p + j.val by omega)

theorem cell_row {N : ℕ} (arg : Memref sig .tc .vmem ⟨2, ![1, N]⟩ .f32) (harg : arg.IsWhole) (X : Vec Ideal ⟨2, ![1, N]⟩ .f32) (p n : ℕ) (h : 0 + 1 ≤ 1) (h' : p + n ≤ N) (j : Fin n) :
    cell arg harg X 0 p 1 n h h' (ix2 0 j) = X (ix2 0 ⟨p + j.val, by omega⟩) :=
  cell_at arg harg X 0 p 1 n h h' 0 j

theorem mat_at (arg : Memref sig .tc .vmem S1x8x128x128 .bf16) (harg : arg.IsWhole) (X : Vec Ideal S1x8x128x128 .bf16) (c : Fin 8) (i j : Fin 128) :
    mat arg harg X c (ix4 0 0 i j) = X (ix4 0 c i j) := by
  unfold mat
  rw [harg.readAt_unread]
  refine congrArg X (funext fun a => ?_)
  match a with
  | ⟨0, _⟩ => rfl
  | ⟨1, _⟩ => exact Fin.ext (show c.val + 1 * 0 = c.val by omega)
  | ⟨2, _⟩ => exact Fin.ext (show 0 + 1 * i.val = i.val by omega)
  | ⟨3, _⟩ => exact Fin.ext (show 0 + 1 * j.val = j.val by omega)

theorem left_at {x g b : ℕ → EReal} (c : FVec Ideal S256x1024 .f32) (G B : FVec Ideal S1x1024 .f32) (r : Fin 256) (hc : ∀ k : Fin 1024, c (ix2 r k) = x k.val)
    (hG : ∀ k : Fin 1024, G (ix2 0 k) = g k.val) (hB : ∀ k : Fin 1024, B (ix2 0 k) = b k.val) (k : Fin 1024) :
    k0_pay111 (F := Ideal) (k0_pay110 c) G B (ix2 r k) = normed x g b k.val * sigm (normed x g b k.val) := by
  pointwise [k0_pay111, k0_pay110]
  simp only [sub_eq_add_neg, zero_add]
  simp only [hc, hG, hB]
  rfl

/-- The operands of a block of rows, after `t` blocks. -/
structure Fed (I : Mix) (t : ℕ) (x0 : Vec Ideal S256x4096 .f32) (x1 : Vec Ideal S31x1024 .f32) (x2 : Vec Ideal S1x1024 .f32) (x3 : Vec Ideal S1x1024 .f32) (x4 : Vec Ideal S1x1024 .f32)
    (x5 : Vec Ideal S4x1024 .f32) (x6 : Vec Ideal S1x1024 .f32) (x7 : Vec Ideal S1x8x128x128 .bf16) (x8 : Vec Ideal S1x1024 .f32)
    (x9 : Vec Ideal S1x8x128x128 .bf16) (x10 : Vec Ideal S1x1024 .f32) (x11 : Vec Ideal S1x1024 .f32) : Prop where
  u : ∀ (r : Fin 256) (k : Fin 4096), x0 (ix2 r k) = I.u (256 * t + r.val) k.val
  caw : ∀ (r : Fin 31) (k : Fin 1024), x1 (ix2 r k) = I.caw r.val k.val
  cab : ∀ k : Fin 1024, x2 (ix2 0 k) = I.cab k.val
  lng : ∀ k : Fin 1024, x3 (ix2 0 k) = I.lng k.val
  lnb : ∀ k : Fin 1024, x4 (ix2 0 k) = I.lnb k.val
  cbw : ∀ (r : Fin 4) (k : Fin 1024), x5 (ix2 r k) = I.cbw r.val k.val
  cbb : ∀ k : Fin 1024, x6 (ix2 0 k) = I.cbb k.val
  wa : ∀ (c : Fin 8) (i j : Fin 128), x7 (ix4 0 c i j) = I.wa c.val i.val j.val
  ba : ∀ k : Fin 1024, x8 (ix2 0 k) = I.ba k.val
  wx : ∀ (c : Fin 8) (i j : Fin 128), x9 (ix4 0 c i j) = I.wx c.val i.val j.val
  bx : ∀ k : Fin 1024, x10 (ix2 0 k) = I.bx k.val
  lam : ∀ k : Fin 1024, x11 (ix2 0 k) = I.lam k.val

section

variable (arg1 : Memref sig .tc .vmem S256x4096 .f32) (harg1 : arg1.IsWhole) (arg2 : Memref sig .tc .vmem S31x1024 .f32) (harg2 : arg2.IsWhole) (arg3 : Memref sig .tc .vmem S1x1024 .f32) (harg3 : arg3.IsWhole)
  (arg6 : Memref sig .tc .vmem S4x1024 .f32) (harg6 : arg6.IsWhole) (arg7 : Memref sig .tc .vmem S1x1024 .f32) (harg7 : arg7.IsWhole) (arg8 : Memref sig .tc .vmem S1x8x128x128 .bf16) (harg8 : arg8.IsWhole)
  (arg9 : Memref sig .tc .vmem S1x1024 .f32) (harg9 : arg9.IsWhole) (arg10 : Memref sig .tc .vmem S1x8x128x128 .bf16) (harg10 : arg10.IsWhole) (arg11 : Memref sig .tc .vmem S1x1024 .f32) (harg11 : arg11.IsWhole)
  (arg12 : Memref sig .tc .vmem S1x1024 .f32) (harg12 : arg12.IsWhole)
  {I : Mix} {t : ℕ} {x0 : Vec Ideal S256x4096 .f32} {x1 : Vec Ideal S31x1024 .f32} {x2 x3 x4 : Vec Ideal S1x1024 .f32} {x5 : Vec Ideal S4x1024 .f32} {x6 : Vec Ideal S1x1024 .f32} {x7 : Vec Ideal S1x8x128x128 .bf16} {x8 : Vec Ideal S1x1024 .f32}
  {x9 : Vec Ideal S1x8x128x128 .bf16} {x10 : Vec Ideal S1x1024 .f32} {x11 : Vec Ideal S1x1024 .f32} (F : Fed I t x0 x1 x2 x3 x4 x5 x6 x7 x8 x9 x10 x11)

include F

theorem convC_at (hist : Fin 8 → FVec Ideal S288x128 .f32) (c : Fin 8)
    (hh : ∀ (i : Fin 288) (l : Fin 128), hist c (ix2 i l) = pad 32 I.glu (256 * t + i.val) (128 * c.val + l.val)) (r : Fin 256) (l : Fin 128) :
    convC arg2 harg2 arg3 harg3 x1 x2 hist c (ix2 r l) = I.convA (256 * t + r.val) (128 * c.val + l.val) := by
  unfold convC Mix.convA
  rw [convA_at, cell_row, F.cab]
  refine congrArg₂ (· + ·) (Finset.sum_congr rfl fun k _ => ?_) ?_
  · rw [cell_at, F.caw, hh]
    have e : 256 * t + (r.val + 2 + k.val) = 256 * t + r.val + k.val + 2 := by omega
    dsimp only
    rw [e, pad_shift 30 2]
    rfl
  · rfl

theorem convPart_at (x : Fin 4 → FVec Ideal S256x128 .f32) (c : Fin 8)
    (hx : ∀ (j : Fin 4) (r : Fin 256) (l : Fin 128), x j (ix2 r l) = pad 3 I.xr (256 * t + r.val + j.val) (128 * c.val + l.val)) (r : Fin 256) (l : Fin 128) :
    convB (cell arg7 harg7 x6 0 (128 * c.val) 1 128 (by omega) (by omega)) (fun k => cell arg6 harg6 x5 k.val (128 * c.val) 1 128 (by omega) (by omega)) x (ix2 r l)
      = I.convB (256 * t + r.val) (128 * c.val + l.val) := by
  unfold Mix.convB
  rw [convB_at, cell_row, F.cbb]
  refine congrArg₂ (· + ·) (Finset.sum_congr rfl fun k _ => ?_) rfl
  rw [cell_at, F.cbw, hx]
  rfl

theorem gatePart_at {x : FVec Ideal S256x128 .f32} (c : Fin 8) {W : FVec Ideal S1x1x128x128 .bf16} {b : FVec Ideal S1x128 .f32} {w : ℕ → ℕ → ℕ → EReal} {b' : ℕ → EReal}
    (hx : ∀ (r : Fin 256) (l : Fin 128), x (ix2 r l) = I.convB (256 * t + r.val) (128 * c.val + l.val)) (hW : ∀ i j : Fin 128, W (ix4 0 0 i j) = w c.val i.val j.val)
    (hb : ∀ l : Fin 128, b (ix2 0 l) = b' (128 * c.val + l.val)) (r : Fin 256) (l : Fin 128) :
    gate x W b (ix2 r l) = I.gate w b' (256 * t + r.val) (128 * c.val + l.val) := by
  have e1 : (128 * c.val + l.val) / 128 = c.val := by omega
  have e2 : (128 * c.val + l.val) % 128 = l.val := by omega
  unfold Mix.gate
  rw [gate_at, e1, e2]
  simp only [hx, hW, hb]

theorem hidC_at (xr : Fin 8 → Fin 4 → FVec Ideal S256x128 .f32) (hp : Fin 8 → FVec Ideal S1x128 .f32) (c : Fin 8)
    (hx : ∀ (j : Fin 4) (r : Fin 256) (l : Fin 128), xr c j (ix2 r l) = pad 3 I.xr (256 * t + r.val + j.val) (128 * c.val + l.val))
    (hh : ∀ l : Fin 128, hp c (ix2 0 l) = I.st (128 * c.val + l.val) (256 * t)) (r : Fin 256) (l : Fin 128) :
    hidC arg6 harg6 arg7 harg7 arg8 harg8 arg9 harg9 arg10 harg10 arg11 harg11 arg12 harg12 x5 x6 x7 x8 x9 x10 x11 xr hp c (ix2 r l)
      = I.st (128 * c.val + l.val) (256 * t + (r.val + 1)) := by
  have hc := convPart_at arg6 harg6 arg7 harg7 F (xr c) c hx
  have hr := gatePart_at F c (W := mat arg8 harg8 x7 c) (b := cell arg9 harg9 x8 0 (128 * c.val) 1 128 (by omega) (by omega)) (w := I.wa) (b' := I.ba) hc
    (fun i j => by rw [mat_at, F.wa]) (fun l => by rw [cell_row, F.ba])
  have hg := gatePart_at F c (W := mat arg10 harg10 x9 c) (b := cell arg11 harg11 x10 0 (128 * c.val) 1 128 (by omega) (by omega)) (w := I.wx) (b' := I.bx) hc
    (fun i j => by rw [mat_at, F.wx]) (fun l => by rw [cell_row, F.bx])
  have hl : ∀ (r : Fin 256) (l : Fin 128), logDecay (gate (convB (cell arg7 harg7 x6 0 (128 * c.val) 1 128 (by omega) (by omega)) (fun k => cell arg6 harg6 x5 k.val (128 * c.val) 1 128 (by omega) (by omega)) (xr c)) (mat arg8 harg8 x7 c)
      (cell arg9 harg9 x8 0 (128 * c.val) 1 128 (by omega) (by omega))) (cell arg12 harg12 x11 0 (128 * c.val) 1 128 (by omega) (by omega)) (ix2 r l) = I.logA (256 * t + r.val) (128 * c.val + l.val) := fun r l => by
    rw [logDecay_at, hr, cell_row, F.lam]; rfl
  unfold hidC hid
  refine states_at (A := fun l t => I.a t (128 * c.val + l)) (D := fun l t => I.d t (128 * c.val + l)) (B := 256 * t) (fun l t => I.a_bounds _ _) (fun r l => ?_) (fun r l => ?_) hh r l
  · exact congrArg Ideal.exp (hl r l)
  · rw [drive_at, hl, hg, hc]; rfl

theorem outC_at (h : FVec Ideal S256x128 .f32) (c : Fin 8) (hh : ∀ (r : Fin 256) (l : Fin 128), h (ix2 r l) = I.st (128 * c.val + l.val) (256 * t + (r.val + 1))) (r : Fin 256) (l : Fin 128) :
    outC arg1 harg1 x0 h c (ix2 r l) = I.st (128 * c.val + l.val) (256 * t + (r.val + 1)) * gelu (I.u (256 * t + r.val) (3072 + (128 * c.val + l.val))) := by
  unfold outC
  rw [gated_at, hh, cell_at, F.u]
  simp only [Nat.zero_add, Nat.add_assoc]

end

end Cert.KernelRecIdeal.Gen

end
-- ==== Proof.RecBuf.lean ====
module

public import proofs.«01_k».proof.Proof.RecPure

@[expose] public section

set_option maxRecDepth 16384

noncomputable section

open Idealize.ShloMosaic Idealize.ShloMosaic.TcCoe Idealize.SL.Sem
open Layer

/-! # Reading arrays back that were stored in pieces -/

namespace Cert.KernelRecIdeal.Gen

section

variable {κ : Kind} {sp : Space} {M N : ℕ} {φ : EltTy} (v : View sig κ sp ⟨2, ![M, N]⟩ φ)

/-- Part of an array, at an entry. -/
theorem readAt_at (f : v.ty.Contents (Elt Ideal)) {o p m n : ℕ} (inb : ∀ a, (![o, p] : Fin 2 → ℕ) a + (![m, n] : Fin 2 → ℕ) a ≤ (![M, N] : Fin 2 → ℕ) a) (i : Fin m) (j : Fin n)
    (hi : o + i.val < M) (hj : p + j.val < N) :
    View.readAt (Elt Ideal) v (Rect.unit (s := ⟨2, ![M, N]⟩) ![o, p] ![m, n] inb).toLoadRect f (ix2 i j) = v.read (Elt Ideal) f (ix2 ⟨o + i.val, hi⟩ ⟨p + j.val, hj⟩) := by
  refine congrArg (v.read (Elt Ideal) f) (funext fun a => ?_)
  match a with
  | ⟨0, _⟩ => exact Fin.ext (show o + 1 * i.val = o + i.val by omega)
  | ⟨1, _⟩ => exact Fin.ext (show p + 1 * j.val = p + j.val by omega)

/-- An entry that the newest piece covers. -/
theorem piece_at (f : v.ty.Contents (Elt Ideal)) {o p m n : ℕ} (inb : ∀ a, (![o, p] : Fin 2 → ℕ) a + (![m, n] : Fin 2 → ℕ) a ≤ (![M, N] : Fin 2 → ℕ) a)
    (w : (⟨2, ![m, n]⟩ : Shape).Idx → Elt Ideal φ) (L : List (View.Piece (Elt Ideal) ⟨2, ![M, N]⟩ φ)) (i : Fin m) (j : Fin n) (y : Fin M) (z : Fin N) (hy : y.val = o + i.val) (hz : z.val = p + j.val) :
    v.read (Elt Ideal) (v.writes (Elt Ideal) f (⟨Rect.unit (s := ⟨2, ![M, N]⟩) ![o, p] ![m, n] inb, w⟩ :: L)) (ix2 y z) = w (ix2 i j) :=
  View.read_writes_cons_unit_of_mem v f inb w L (ix2 y z) (ix2 i j) rfl fun a => by
    match a with
    | ⟨0, _⟩ => exact hy
    | ⟨1, _⟩ => exact hz

/-- An entry in rows that the newest piece misses. -/
theorem piece_row (f : v.ty.Contents (Elt Ideal)) {o p m n : ℕ} (inb : ∀ a, (![o, p] : Fin 2 → ℕ) a + (![m, n] : Fin 2 → ℕ) a ≤ (![M, N] : Fin 2 → ℕ) a)
    (w : (⟨2, ![m, n]⟩ : Shape).Idx → Elt Ideal φ) (L : List (View.Piece (Elt Ideal) ⟨2, ![M, N]⟩ φ)) (y : Fin M) (z : Fin N) (hy : y.val < o ∨ o + m ≤ y.val) :
    v.read (Elt Ideal) (v.writes (Elt Ideal) f (⟨Rect.unit (s := ⟨2, ![M, N]⟩) ![o, p] ![m, n] inb, w⟩ :: L)) (ix2 y z) = v.read (Elt Ideal) (v.writes (Elt Ideal) f L) (ix2 y z) :=
  View.read_writes_cons_unit_of_not_mem v f inb w L (ix2 y z) rfl 0 hy

/-- An entry in columns that the newest piece misses. -/
theorem piece_col (f : v.ty.Contents (Elt Ideal)) {o p m n : ℕ} (inb : ∀ a, (![o, p] : Fin 2 → ℕ) a + (![m, n] : Fin 2 → ℕ) a ≤ (![M, N] : Fin 2 → ℕ) a)
    (w : (⟨2, ![m, n]⟩ : Shape).Idx → Elt Ideal φ) (L : List (View.Piece (Elt Ideal) ⟨2, ![M, N]⟩ φ)) (y : Fin M) (z : Fin N) (hz : z.val < p ∨ p + n ≤ z.val) :
    v.read (Elt Ideal) (v.writes (Elt Ideal) f (⟨Rect.unit (s := ⟨2, ![M, N]⟩) ![o, p] ![m, n] inb, w⟩ :: L)) (ix2 y z) = v.read (Elt Ideal) (v.writes (Elt Ideal) f L) (ix2 y z) :=
  View.read_writes_cons_unit_of_not_mem v f inb w L (ix2 y z) rfl 1 hz

theorem cols_mem (f : v.ty.Contents (Elt Ideal)) {o w m : ℕ} (hM : m ≤ M) (hN : o + w * 8 ≤ N) (p : Fin 8 → (⟨2, ![m, w]⟩ : Shape).Idx → Elt Ideal φ) (L : List (View.Piece (Elt Ideal) ⟨2, ![M, N]⟩ φ))
    (i : Fin m) (j : Fin w) (c : Fin 8) (y : Fin M) (z : Fin N) (hy : y.val = i.val) (hz : z.val = o + w * c.val + j.val) :
    ∀ ks : List (Fin 8), c ∈ ks → v.read (Elt Ideal) (v.writes (Elt Ideal) f (ks.map (fun k => colPiece o w m hM hN k (p k)) ++ L)) (ix2 y z) = p c (ix2 i j)
  | [], h => absurd h (by simp)
  | k :: ks, h => by
    rw [List.map_cons, List.cons_append]
    by_cases e : c = k
    · subst e
      exact piece_at v f _ (p c) _ i j y z (by omega) hz
    · have h' : c ∈ ks := (List.mem_cons.mp h).resolve_left e
      refine (piece_col v f _ (p k) _ y z ?_).trans (cols_mem f hM hN p L i j c y z hy hz ks h')
      have := j.isLt
      rcases Nat.lt_or_gt_of_ne (fun x => e (Fin.ext x)) with hlt | hgt
      · left
        have : w * c.val + w ≤ w * k.val := by rw [← Nat.mul_succ]; exact Nat.mul_le_mul_left _ hlt
        omega
      · right
        have : w * k.val + w ≤ w * c.val := by rw [← Nat.mul_succ]; exact Nat.mul_le_mul_left _ hgt
        omega

/-- The column pieces, at an entry of one of them. -/
theorem cols_at (f : v.ty.Contents (Elt Ideal)) {o w m : ℕ} (hM : m ≤ M) (hN : o + w * 8 ≤ N) (p : Fin 8 → (⟨2, ![m, w]⟩ : Shape).Idx → Elt Ideal φ) (L : List (View.Piece (Elt Ideal) ⟨2, ![M, N]⟩ φ))
    (i : Fin m) (j : Fin w) (c : Fin 8) (y : Fin M) (z : Fin N) (hy : y.val = i.val) (hz : z.val = o + w * c.val + j.val) :
    v.read (Elt Ideal) (v.writes (Elt Ideal) f (cols o w m hM hN p ++ L)) (ix2 y z) = p c (ix2 i j) :=
  cols_mem v f hM hN p L i j c y z hy hz _ ((by decide : ∀ c : Fin 8, c ∈ [7, 6, 5, 4, 3, 2, 1, 0]) c)

/-- The column pieces of a whole array. -/
theorem cols_only (f : v.ty.Contents (Elt Ideal)) {o w m : ℕ} (hM : m ≤ M) (hN : o + w * 8 ≤ N) (p : Fin 8 → (⟨2, ![m, w]⟩ : Shape).Idx → Elt Ideal φ)
    (i : Fin m) (j : Fin w) (c : Fin 8) (y : Fin M) (z : Fin N) (hy : y.val = i.val) (hz : z.val = o + w * c.val + j.val) :
    v.read (Elt Ideal) (v.writes (Elt Ideal) f (cols o w m hM hN p)) (ix2 y z) = p c (ix2 i j) := by
  have := cols_at v f hM hN p [] i j c y z hy hz
  rwa [List.append_nil] at this

theorem cols_left_mem (f : v.ty.Contents (Elt Ideal)) {o w m : ℕ} (hM : m ≤ M) (hN : o + w * 8 ≤ N) (p : Fin 8 → (⟨2, ![m, w]⟩ : Shape).Idx → Elt Ideal φ) (L : List (View.Piece (Elt Ideal) ⟨2, ![M, N]⟩ φ))
    (y : Fin M) (z : Fin N) (hz : z.val < o) :
    ∀ ks : List (Fin 8), v.read (Elt Ideal) (v.writes (Elt Ideal) f (ks.map (fun k => colPiece o w m hM hN k (p k)) ++ L)) (ix2 y z) = v.read (Elt Ideal) (v.writes (Elt Ideal) f L) (ix2 y z)
  | [] => rfl
  | k :: ks => by
    rw [List.map_cons, List.cons_append]
    exact (piece_col v f _ (p k) _ y z (Or.inl (by omega))).trans (cols_left_mem f hM hN p L y z hz ks)

/-- The column pieces, at an entry before them. -/
theorem cols_left (f : v.ty.Contents (Elt Ideal)) {o w m : ℕ} (hM : m ≤ M) (hN : o + w * 8 ≤ N) (p : Fin 8 → (⟨2, ![m, w]⟩ : Shape).Idx → Elt Ideal φ) (L : List (View.Piece (Elt Ideal) ⟨2, ![M, N]⟩ φ))
    (y : Fin M) (z : Fin N) (hz : z.val < o) :
    v.read (Elt Ideal) (v.writes (Elt Ideal) f (cols o w m hM hN p ++ L)) (ix2 y z) = v.read (Elt Ideal) (v.writes (Elt Ideal) f L) (ix2 y z) :=
  cols_left_mem v f hM hN p L y z hz _

end

section

variable (arg1 : Memref sig .tc .vmem S256x4096 .f32) (harg1 : arg1.IsWhole)
  {I : Mix} {t : ℕ} {x0 : Vec Ideal S256x4096 .f32} {x1 : Vec Ideal S31x1024 .f32} {x2 x3 x4 : Vec Ideal S1x1024 .f32} {x5 : Vec Ideal S4x1024 .f32} {x6 : Vec Ideal S1x1024 .f32} {x7 : Vec Ideal S1x8x128x128 .bf16} {x8 : Vec Ideal S1x1024 .f32}
  {x9 : Vec Ideal S1x8x128x128 .bf16} {x10 : Vec Ideal S1x1024 .f32} {x11 : Vec Ideal S1x1024 .f32} (F : Fed I t x0 x1 x2 x3 x4 x5 x6 x7 x8 x9 x10 x11)
  {κ : Kind} {sp : Space}

theorem glu_piece (a b : FVec Ideal S256x1024 .f32) (r : Fin 256) (k : Fin 1024) : k0_pay5 a b (ix2 r k) = a (ix2 r k) * sigm (b (ix2 r k)) := by
  pointwise [k0_pay5]
  simp only [sub_eq_add_neg, zero_add]
  rfl

include F

/-- The gated rows below the rows kept, at a new row. -/
theorem glu_new (v : View sig κ sp S288x1024 .f32) (f : v.ty.Contents (Elt Ideal)) (L : List (View.Piece (Elt Ideal) S288x1024 .f32)) (i : Fin 288) (hi : 32 ≤ i.val) (k : Fin 1024) :
    v.read (Elt Ideal) (v.writes (Elt Ideal) f (gluPieces arg1 harg1 x0 ++ L)) (ix2 i k) = pad 32 I.glu (256 * t + i.val) k.val := by
  refine (piece_at (M := 288) (N := 1024) (o := 32) (p := 0) (m := 256) (n := 1024) v f _ _ L ⟨i.val - 32, by omega⟩ k i k (by dsimp only; omega) (by omega)).trans ?_
  rw [glu_piece, cell_at, cell_at, F.u, F.u]
  unfold Layer.pad Mix.glu
  rw [if_neg (by omega)]
  dsimp only
  rw [show 256 * t + (0 + (i.val - 32)) = 256 * t + i.val - 32 by omega, Nat.zero_add]

/-- The gated rows below the rows kept. -/
theorem glu_at (v : View sig κ sp S288x1024 .f32) (f : v.ty.Contents (Elt Ideal)) (L : List (View.Piece (Elt Ideal) S288x1024 .f32))
    (h : ∀ (i : Fin 288) (k : Fin 1024), i.val < 32 → v.read (Elt Ideal) (v.writes (Elt Ideal) f L) (ix2 i k) = pad 32 I.glu (256 * t + i.val) k.val) (i : Fin 288) (k : Fin 1024) :
    v.read (Elt Ideal) (v.writes (Elt Ideal) f (gluPieces arg1 harg1 x0 ++ L)) (ix2 i k) = pad 32 I.glu (256 * t + i.val) k.val := by
  by_cases hi : 32 ≤ i.val
  · exact glu_new arg1 harg1 F v f L i hi k
  · exact (piece_row (M := 288) (N := 1024) (o := 32) (p := 0) (m := 256) (n := 1024) v f _ _ L i k (Or.inl (by omega))).trans (h i k (by omega))

/-- The recurrent branch's rows below the rows kept, at a new row. -/
theorem xr_new (v : View sig κ sp S264x1024 .f32) (f : v.ty.Contents (Elt Ideal)) (L : List (View.Piece (Elt Ideal) S264x1024 .f32)) (i : Fin 264) (hi : 8 ≤ i.val) (k : Fin 1024) :
    v.read (Elt Ideal) (v.writes (Elt Ideal) f (xrPieces arg1 harg1 x0 ++ L)) (ix2 i k) = pad 8 I.xr (256 * t + i.val) k.val := by
  refine (piece_at (M := 264) (N := 1024) (o := 8) (p := 0) (m := 256) (n := 1024) v f _ _ L ⟨i.val - 8, by omega⟩ k i k (by dsimp only; omega) (by omega)).trans ?_
  refine (show _ = cell arg1 harg1 x0 0 2048 256 1024 (by decide) (by decide) (ix2 ⟨i.val - 8, by omega⟩ k) by pointwise [k0_pay112]).trans ?_
  rw [cell_at, F.u]
  unfold Layer.pad Mix.xr
  rw [if_neg (by omega)]
  dsimp only
  rw [show 256 * t + (0 + (i.val - 8)) = 256 * t + i.val - 8 by omega]

/-- The recurrent branch's rows below the rows kept. -/
theorem xr_at (v : View sig κ sp S264x1024 .f32) (f : v.ty.Contents (Elt Ideal)) (L : List (View.Piece (Elt Ideal) S264x1024 .f32))
    (h : ∀ (i : Fin 264) (k : Fin 1024), i.val < 8 → v.read (Elt Ideal) (v.writes (Elt Ideal) f L) (ix2 i k) = pad 8 I.xr (256 * t + i.val) k.val) (i : Fin 264) (k : Fin 1024) :
    v.read (Elt Ideal) (v.writes (Elt Ideal) f (xrPieces arg1 harg1 x0 ++ L)) (ix2 i k) = pad 8 I.xr (256 * t + i.val) k.val := by
  by_cases hi : 8 ≤ i.val
  · exact xr_new arg1 harg1 F v f L i hi k
  · exact (piece_row (M := 264) (N := 1024) (o := 8) (p := 0) (m := 256) (n := 1024) v f _ _ L i k (Or.inl (by omega))).trans (h i k (by omega))

/-- The result's rows. -/
theorem out_at (arg4 : Memref sig .tc .vmem S1x1024 .f32) (harg4 : arg4.IsWhole) (arg5 : Memref sig .tc .vmem S1x1024 .f32) (harg5 : arg5.IsWhole)
    (v : View sig κ sp S256x2048 .bf16) (f : v.ty.Contents (Elt Ideal)) (h : Fin 8 → FVec Ideal S256x128 .f32) (C : FVec Ideal S256x1024 .f32)
    (hh : ∀ (c : Fin 8) (r : Fin 256) (l : Fin 128), h c (ix2 r l) = I.st (128 * c.val + l.val) (256 * t + (r.val + 1)))
    (hC : ∀ (r : Fin 256) (k : Fin 1024), C (ix2 r k) = I.convA (256 * t + r.val) k.val) (r : Fin 256) (n : Fin 2048) :
    v.read (Elt Ideal) (v.writes (Elt Ideal) f (cols (M := 256) (N := 2048) (φ := .bf16) 1024 128 256 (by decide) (by decide) (fun k => outC arg1 harg1 x0 (h k) k)
      ++ [⟨Rect.unit ![0, 0] S256x1024.size inb_S256x2048_S256x1024_0_0,
        k0_pay111 (F := Ideal) (k0_pay110 C) (cell arg4 harg4 x3 0 0 1 1024 (by decide) (by decide)) (cell arg5 harg5 x4 0 0 1 1024 (by decide) (by decide))⟩])) (ix2 r n)
      = I.out (256 * t + r.val) n.val := by
  unfold Mix.out
  by_cases hn : n.val < 1024
  · rw [if_pos hn]
    refine (cols_left (M := 256) (N := 2048) (φ := .bf16) v f _ _ _ _ r n hn).trans ?_
    refine (piece_at (M := 256) (N := 2048) (φ := .bf16) (o := 0) (p := 0) (m := 256) (n := 1024) v f _ _ [] r ⟨n.val, hn⟩ r n (by omega) (by dsimp only; omega)).trans ?_
    exact left_at C _ _ r (hC r) (fun k => by rw [cell_row, F.lng]; dsimp only; rw [Nat.zero_add]) (fun k => by rw [cell_row, F.lnb]; dsimp only; rw [Nat.zero_add]) ⟨n.val, hn⟩
  · rw [if_neg hn]
    have e : 128 * ((n.val - 1024) / 128) + (n.val - 1024) % 128 = n.val - 1024 := by omega
    refine (cols_at (M := 256) (N := 2048) (φ := .bf16) v f _ _ _ _ r ⟨(n.val - 1024) % 128, Nat.mod_lt _ (by decide)⟩ ⟨(n.val - 1024) / 128, by omega⟩ r n rfl (by dsimp only; omega)).trans ?_
    rw [outC_at arg1 harg1 F _ _ (hh _)]
    dsimp only
    rw [e, Nat.add_assoc]

end

end Cert.KernelRecIdeal.Gen

end
-- ==== Proof.RecLater.lean ====
module

public import proofs.«01_k».proof.Proof.RecChunk

@[expose] public section

set_option maxRecDepth 65536

noncomputable section

open Idealize.ShloMosaic Idealize.ShloMosaic.TcCoe Idealize.SL.Sem
open Layer

/-! # What a later block of rows leaves -/

namespace Cert.KernelRecIdeal.Gen

variable (c : Dev nD) (i : grid0.Coords)
  (arg1 : Memref sig .tc .vmem S256x4096 .f32) (harg1 : arg1.IsWhole) (arg2 : Memref sig .tc .vmem S31x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S4x1024 .f32) (harg6 : arg6.IsWhole) (arg7 : Memref sig .tc .vmem S1x1024 .f32) (harg7 : arg7.IsWhole) (arg8 : Memref sig .tc .vmem S1x8x128x128 .bf16) (harg8 : arg8.IsWhole)
  (arg9 : Memref sig .tc .vmem S1x1024 .f32) (harg9 : arg9.IsWhole) (arg10 : Memref sig .tc .vmem S1x8x128x128 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S256x2048 .bf16) (harg13 : arg13.IsWhole) (arg14 : Memref sig .tc .vmem S288x1024 .f32) (harg14 : arg14.IsWhole)
  (arg15 : Memref sig .tc .vmem S256x1024 .f32) (harg15 : arg15.IsWhole) (arg16 : Memref sig .tc .vmem S264x1024 .f32) (harg16 : arg16.IsWhole) (arg17 : Memref sig .tc .vmem S1x1024 .f32) (harg17 : arg17.IsWhole)
  (hc0 : ¬cond0_0 i)
  (x0 : Vec Ideal S256x4096 .f32) (x1 : Vec Ideal S31x1024 .f32) (x2 : Vec Ideal S1x1024 .f32) (x3 : Vec Ideal S1x1024 .f32) (x4 : Vec Ideal S1x1024 .f32) (x5 : Vec Ideal S4x1024 .f32) (x6 : Vec Ideal S1x1024 .f32)
  (x7 : Vec Ideal S1x8x128x128 .bf16) (x8 : Vec Ideal S1x1024 .f32) (x9 : Vec Ideal S1x8x128x128 .bf16) (x10 : Vec Ideal S1x1024 .f32) (x11 : Vec Ideal S1x1024 .f32)
  (xs0 : Vec Ideal S288x1024 .f32) (xs2 : Vec Ideal S264x1024 .f32) (xs3 : Vec Ideal S1x1024 .f32)

/-- Chunk `c` of the rows with their history. -/
def histB (k : Fin 8) : FVec Ideal S288x128 .f32 :=
  View.readAt (Elt Ideal) arg14.view (Rect.unit (s := S288x1024) ![0, 128 * k.val] S288x128.size (inb2 (by omega) (by omega))).toLoadRect (arg14.view.writes (Elt Ideal) (harg14.unread xs0) (gluPieces arg1 harg1 x0))

/-- Chunk `c` of the recurrent branch's rows that meet a tap of the short convolution. -/
def xrB (k : Fin 8) : Fin 4 → FVec Ideal S256x128 .f32
  | 0 => View.readAt (Elt Ideal) arg16.view (Rect.unit (s := S264x1024) ![5, 128 * k.val] S256x128.size (inb2 (by omega) (by omega))).toLoadRect (arg16.view.writes (Elt Ideal) (harg16.unread xs2) (xrPieces arg1 harg1 x0))
  | 1 => View.readAt (Elt Ideal) arg16.view (Rect.unit (s := S264x1024) ![6, 128 * k.val] S256x128.size (inb2 (by omega) (by omega))).toLoadRect (arg16.view.writes (Elt Ideal) (harg16.unread xs2) (xrPieces arg1 harg1 x0))
  | 2 => View.readAt (Elt Ideal) arg16.view (Rect.unit (s := S264x1024) ![7, 128 * k.val] S256x128.size (inb2 (by omega) (by omega))).toLoadRect (arg16.view.writes (Elt Ideal) (harg16.unread xs2) (xrPieces arg1 harg1 x0))
  | 3 => arg16.view.readCov (xrPieces arg1 harg1 x0) (Rect.unit (s := S264x1024) ![8, 128 * k.val] S256x128.size (inb2 (by omega) (by omega))).toLoadRect

/-- Chunk `c` of the states of a block. -/
abbrev hidB (k : Fin 8) : FVec Ideal S256x128 .f32 :=
  hidC arg6 harg6 arg7 harg7 arg8 harg8 arg9 harg9 arg10 harg10 arg11 harg11 arg12 harg12 x5 x6 x7 x8 x9 x10 x11 (xrB arg1 harg1 arg16 harg16 x0 xs2)
    (fun k => cell arg17 harg17 xs3 0 (128 * k.val) 1 128 (by omega) (by omega)) k

/-- The long convolution's pieces. -/
abbrev convPB : List (View.Piece (Elt Ideal) S256x1024 .f32) :=
  cols (M := 256) (N := 1024) (φ := .f32) 0 128 256 (by decide) (by decide) (convC arg2 harg2 arg3 harg3 x1 x2 (histB arg1 harg1 arg14 harg14 x0 xs0))

set_option maxHeartbeats 4000000 in
/-- The states' pieces. -/
theorem last_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3).2.2.2.1
    = cols (M := 1) (N := 1024) (φ := .f32) 0 128 1 (by decide) (by decide) (fun k => lastState (hidB arg1 harg1 arg6 harg6 arg7 harg7 arg8 harg8 arg9 harg9 arg10 harg10 arg11 harg11 arg12 harg12 arg16 harg16 arg17 harg17 x0 x5 x6 x7 x8 x9 x10 x11 xs2 xs3 k)) := by
  unfold kernelRun0_B
  dsimp only
  rfl

set_option maxHeartbeats 4000000 in
/-- The result's pieces. -/
theorem out_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3).1
    = cols (M := 256) (N := 2048) (φ := .bf16) 1024 128 256 (by decide) (by decide)
        (fun k => outC arg1 harg1 x0 (hidB arg1 harg1 arg6 harg6 arg7 harg7 arg8 harg8 arg9 harg9 arg10 harg10 arg11 harg11 arg12 harg12 arg16 harg16 arg17 harg17 x0 x5 x6 x7 x8 x9 x10 x11 xs2 xs3 k) k)
      ++ [⟨Rect.unit ![0, 0] S256x1024.size inb_S256x2048_S256x1024_0_0,
        k0_pay111 (F := Ideal) (k0_pay110 (arg15.view.readCov (convPB arg1 harg1 arg2 harg2 arg3 harg3 arg14 harg14 x0 x1 x2 xs0) (Rect.unit ![0, 0] S256x1024.size inb_S256x1024_S256x1024_0_0).toLoadRect))
          (cell arg4 harg4 x3 0 0 1 1024 (by decide) (by decide)) (cell arg5 harg5 x4 0 0 1 1024 (by decide) (by decide))⟩] := by
  unfold kernelRun0_B
  dsimp only
  rfl

/-- The gated rows that are kept. -/
theorem glu_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3).2.1
    = ⟨Rect.unit ![0, 0] S32x1024.size inb_S288x1024_S32x1024_0_0, k0_pay109 (F := Ideal) (arg14.view.readCov (gluPieces arg1 harg1 x0) (Rect.unit (s := S288x1024) ![256, 0] S32x1024.size inb_S288x1024_S32x1024_256_0).toLoadRect)⟩ :: gluPieces arg1 harg1 x0 := by
  unfold kernelRun0_B
  dsimp only
  rfl

/-- The recurrent branch's rows that are kept. -/
theorem xr_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3).2.2.1
    = ⟨Rect.unit ![0, 0] S8x1024.size inb_S264x1024_S8x1024_0_0, k0_pay1 (F := Ideal) (arg16.view.readCov (xrPieces arg1 harg1 x0) (Rect.unit (s := S264x1024) ![256, 0] S8x1024.size inb_S264x1024_S8x1024_256_0).toLoadRect)⟩ :: xrPieces arg1 harg1 x0 := by
  unfold kernelRun0_B
  dsimp only
  rfl

end Cert.KernelRecIdeal.Gen

end
-- ==== Proof.RecFirst.lean ====
module

public import proofs.«01_k».proof.Proof.RecChunk

@[expose] public section

set_option maxRecDepth 65536

noncomputable section

open Idealize.ShloMosaic Idealize.ShloMosaic.TcCoe Idealize.SL.Sem
open Layer

/-! # What the first block of rows leaves -/

namespace Cert.KernelRecIdeal.Gen

variable (c : Dev nD) (i : grid0.Coords)
  (arg1 : Memref sig .tc .vmem S256x4096 .f32) (harg1 : arg1.IsWhole) (arg2 : Memref sig .tc .vmem S31x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S4x1024 .f32) (harg6 : arg6.IsWhole) (arg7 : Memref sig .tc .vmem S1x1024 .f32) (harg7 : arg7.IsWhole) (arg8 : Memref sig .tc .vmem S1x8x128x128 .bf16) (harg8 : arg8.IsWhole)
  (arg9 : Memref sig .tc .vmem S1x1024 .f32) (harg9 : arg9.IsWhole) (arg10 : Memref sig .tc .vmem S1x8x128x128 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S256x2048 .bf16) (harg13 : arg13.IsWhole) (arg14 : Memref sig .tc .vmem S288x1024 .f32) (harg14 : arg14.IsWhole)
  (arg15 : Memref sig .tc .vmem S256x1024 .f32) (harg15 : arg15.IsWhole) (arg16 : Memref sig .tc .vmem S264x1024 .f32) (harg16 : arg16.IsWhole) (arg17 : Memref sig .tc .vmem S1x1024 .f32) (harg17 : arg17.IsWhole)
  (hc0 : cond0_0 i)
  (x0 : Vec Ideal S256x4096 .f32) (x1 : Vec Ideal S31x1024 .f32) (x2 : Vec Ideal S1x1024 .f32) (x3 : Vec Ideal S1x1024 .f32) (x4 : Vec Ideal S1x1024 .f32) (x5 : Vec Ideal S4x1024 .f32) (x6 : Vec Ideal S1x1024 .f32)
  (x7 : Vec Ideal S1x8x128x128 .bf16) (x8 : Vec Ideal S1x1024 .f32) (x9 : Vec Ideal S1x8x128x128 .bf16) (x10 : Vec Ideal S1x1024 .f32) (x11 : Vec Ideal S1x1024 .f32)

/-- The gated rows of the block, below rows of zeros. -/
abbrev glu0 : List (View.Piece (Elt Ideal) S288x1024 .f32) := gluPieces arg1 harg1 x0 ++ [⟨Rect.unit ![0, 0] S32x1024.size inb_S288x1024_S32x1024_0_0, k0_pay2 (F := Ideal)⟩]

/-- The recurrent branch's rows of the block, below rows of zeros. -/
abbrev xr0 : List (View.Piece (Elt Ideal) S264x1024 .f32) := xrPieces arg1 harg1 x0 ++ [⟨Rect.unit ![0, 0] S8x1024.size inb_S264x1024_S8x1024_0_0, k0_pay3 (F := Ideal)⟩]

/-- Chunk `c` of the rows with their history. -/
def histA (k : Fin 8) : FVec Ideal S288x128 .f32 :=
  arg14.view.readCov (glu0 arg1 harg1 x0) (Rect.unit (s := S288x1024) ![0, 128 * k.val] S288x128.size (inb2 (by omega) (by omega))).toLoadRect

/-- Chunk `c` of the recurrent branch's rows that meet a tap of the short convolution. -/
def xrA (k : Fin 8) (j : Fin 4) : FVec Ideal S256x128 .f32 :=
  arg16.view.readCov (xr0 arg1 harg1 x0) (Rect.unit (s := S264x1024) ![5 + j.val, 128 * k.val] S256x128.size (inb2 (by omega) (by omega))).toLoadRect

/-- The state's pieces after `n` chunks. -/
def stP : ℕ → List (View.Piece (Elt Ideal) S1x1024 .f32)
  | 0 => [⟨Rect.unit ![0, 0] S1x1024.size inb_S1x1024_S1x1024_0_0, k0_pay4 (F := Ideal)⟩]
  | n + 1 => colPiece (M := 1) (N := 1024) (φ := .f32) 0 128 1 (by decide) (by decide) (Fin.ofNat 8 n)
      (lastState (hidC arg6 harg6 arg7 harg7 arg8 harg8 arg9 harg9 arg10 harg10 arg11 harg11 arg12 harg12 x5 x6 x7 x8 x9 x10 x11 (xrA arg1 harg1 arg16 x0)
        (fun k => arg17.view.readCov (stP n) (Rect.unit (s := S1x1024) ![0, 128 * k.val] S1x128.size (inb2 (by omega) (by omega))).toLoadRect) (Fin.ofNat 8 n))) :: stP n

/-- Chunk `c` of the states of a block. -/
abbrev hidA (k : Fin 8) : FVec Ideal S256x128 .f32 :=
  hidC arg6 harg6 arg7 harg7 arg8 harg8 arg9 harg9 arg10 harg10 arg11 harg11 arg12 harg12 x5 x6 x7 x8 x9 x10 x11 (xrA arg1 harg1 arg16 x0)
    (fun k => arg17.view.readCov (stP arg1 harg1 arg6 harg6 arg7 harg7 arg8 harg8 arg9 harg9 arg10 harg10 arg11 harg11 arg12 harg12 arg16 arg17 x0 x5 x6 x7 x8 x9 x10 x11 k.val) (Rect.unit (s := S1x1024) ![0, 128 * k.val] S1x128.size (inb2 (by omega) (by omega))).toLoadRect) k

/-- The long convolution's pieces. -/
abbrev convPA : List (View.Piece (Elt Ideal) S256x1024 .f32) :=
  cols (M := 256) (N := 1024) (φ := .f32) 0 128 256 (by decide) (by decide) (convC arg2 harg2 arg3 harg3 x1 x2 (histA arg1 harg1 arg14 x0))

set_option maxHeartbeats 4000000 in
/-- The states' pieces. -/
theorem last_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.2.1
    = stP arg1 harg1 arg6 harg6 arg7 harg7 arg8 harg8 arg9 harg9 arg10 harg10 arg11 harg11 arg12 harg12 arg16 arg17 x0 x5 x6 x7 x8 x9 x10 x11 8 := by
  unfold kernelRun0_A
  dsimp only
  rfl

set_option maxHeartbeats 4000000 in
/-- The result's pieces. -/
theorem out_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1
    = cols (M := 256) (N := 2048) (φ := .bf16) 1024 128 256 (by decide) (by decide)
        (fun k => outC arg1 harg1 x0 (hidA arg1 harg1 arg6 harg6 arg7 harg7 arg8 harg8 arg9 harg9 arg10 harg10 arg11 harg11 arg12 harg12 arg16 arg17 x0 x5 x6 x7 x8 x9 x10 x11 k) k)
      ++ [⟨Rect.unit ![0, 0] S256x1024.size inb_S256x2048_S256x1024_0_0,
        k0_pay111 (F := Ideal) (k0_pay110 (arg15.view.readCov (convPA arg1 harg1 arg2 harg2 arg3 harg3 arg14 x0 x1 x2) (Rect.unit ![0, 0] S256x1024.size inb_S256x1024_S256x1024_0_0).toLoadRect))
          (cell arg4 harg4 x3 0 0 1 1024 (by decide) (by decide)) (cell arg5 harg5 x4 0 0 1 1024 (by decide) (by decide))⟩] := by
  unfold kernelRun0_A
  dsimp only
  rfl

/-- The gated rows that are kept. -/
theorem glu_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1
    = ⟨Rect.unit ![0, 0] S32x1024.size inb_S288x1024_S32x1024_0_0, k0_pay109 (F := Ideal) (arg14.view.readCov (glu0 arg1 harg1 x0) (Rect.unit (s := S288x1024) ![256, 0] S32x1024.size inb_S288x1024_S32x1024_256_0).toLoadRect)⟩ :: glu0 arg1 harg1 x0 := by
  unfold kernelRun0_A
  dsimp only
  rfl

/-- The recurrent branch's rows that are kept. -/
theorem xr_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1
    = ⟨Rect.unit ![0, 0] S8x1024.size inb_S264x1024_S8x1024_0_0, k0_pay1 (F := Ideal) (arg16.view.readCov (xr0 arg1 harg1 x0) (Rect.unit (s := S264x1024) ![256, 0] S8x1024.size inb_S264x1024_S8x1024_256_0).toLoadRect)⟩ :: xr0 arg1 harg1 x0 := by
  unfold kernelRun0_A
  dsimp only
  rfl

end Cert.KernelRecIdeal.Gen

end
-- ==== Proof.RecHeld.lean ====
module

public import proofs.«01_k».proof.Proof.RecBuf
public import proofs.«01_k».proof.Proof.RecLater
public import proofs.«01_k».proof.Proof.RecFirst

@[expose] public section

set_option maxRecDepth 16384

noncomputable section

open Idealize.ShloMosaic Idealize.ShloMosaic.TcCoe Idealize.SL.Sem
open Layer

/-! # What a block of rows leaves, as tables -/

namespace Cert.KernelRecIdeal.Gen

/-- What a block of rows leaves: its rows of the result, and the rows and the states that the next block reads. -/
structure Left (I : Mix) (t : ℕ) (o : Vec Ideal S256x2048 .bf16) (g : Vec Ideal S288x1024 .f32) (x : Vec Ideal S264x1024 .f32) (s : Vec Ideal S1x1024 .f32) : Prop where
  out : ∀ (r : Fin 256) (n : Fin 2048), o (ix2 r n) = I.out (256 * t + r.val) n.val
  glu : ∀ (i : Fin 288) (k : Fin 1024), i.val < 32 → g (ix2 i k) = pad 32 I.glu (256 * (t + 1) + i.val) k.val
  xr : ∀ (i : Fin 264) (k : Fin 1024), i.val < 8 → x (ix2 i k) = pad 8 I.xr (256 * (t + 1) + i.val) k.val
  st : ∀ k : Fin 1024, s (ix2 0 k) = I.st k.val (256 * (t + 1))

theorem Left.at {I : Mix} {t t' : ℕ} (e : t = t') {o : Vec Ideal S256x2048 .bf16} {g : Vec Ideal S288x1024 .f32} {x : Vec Ideal S264x1024 .f32} {s : Vec Ideal S1x1024 .f32} (h : Left I t' o g x s) :
    Left I t o g x s := e ▸ h

variable (c : Dev nD) (i : grid0.Coords)
  (arg1 : Memref sig .tc .vmem S256x4096 .f32) (harg1 : arg1.IsWhole) (arg2 : Memref sig .tc .vmem S31x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S4x1024 .f32) (harg6 : arg6.IsWhole) (arg7 : Memref sig .tc .vmem S1x1024 .f32) (harg7 : arg7.IsWhole) (arg8 : Memref sig .tc .vmem S1x8x128x128 .bf16) (harg8 : arg8.IsWhole)
  (arg9 : Memref sig .tc .vmem S1x1024 .f32) (harg9 : arg9.IsWhole) (arg10 : Memref sig .tc .vmem S1x8x128x128 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S256x2048 .bf16) (harg13 : arg13.IsWhole) (arg14 : Memref sig .tc .vmem S288x1024 .f32) (harg14 : arg14.IsWhole)
  (arg15 : Memref sig .tc .vmem S256x1024 .f32) (harg15 : arg15.IsWhole) (arg16 : Memref sig .tc .vmem S264x1024 .f32) (harg16 : arg16.IsWhole) (arg17 : Memref sig .tc .vmem S1x1024 .f32) (harg17 : arg17.IsWhole)
  {I : Mix} {t : ℕ} {x0 : Vec Ideal S256x4096 .f32} {x1 : Vec Ideal S31x1024 .f32} {x2 : Vec Ideal S1x1024 .f32} {x3 : Vec Ideal S1x1024 .f32} {x4 : Vec Ideal S1x1024 .f32} {x5 : Vec Ideal S4x1024 .f32} {x6 : Vec Ideal S1x1024 .f32}
  {x7 : Vec Ideal S1x8x128x128 .bf16} {x8 : Vec Ideal S1x1024 .f32} {x9 : Vec Ideal S1x8x128x128 .bf16} {x10 : Vec Ideal S1x1024 .f32} {x11 : Vec Ideal S1x1024 .f32}

section later

variable (F : Fed I t x0 x1 x2 x3 x4 x5 x6 x7 x8 x9 x10 x11) (hc0 : ¬cond0_0 i) {xs0 : Vec Ideal S288x1024 .f32} {xs2 : Vec Ideal S264x1024 .f32} {xs3 : Vec Ideal S1x1024 .f32}
  (h0 : ∀ (i : Fin 288) (k : Fin 1024), i.val < 32 → xs0 (ix2 i k) = pad 32 I.glu (256 * t + i.val) k.val)
  (h2 : ∀ (i : Fin 264) (k : Fin 1024), i.val < 8 → xs2 (ix2 i k) = pad 8 I.xr (256 * t + i.val) k.val)
  (h3 : ∀ k : Fin 1024, xs3 (ix2 0 k) = I.st k.val (256 * t))

include F

include h0 in
theorem histB_at (c : Fin 8) (i : Fin 288) (l : Fin 128) :
    histB arg1 harg1 arg14 harg14 x0 xs0 c (ix2 i l) = pad 32 I.glu (256 * t + i.val) (128 * c.val + l.val) := by
  unfold histB
  refine (readAt_at (M := 288) (N := 1024) _ _ _ i l (by omega) (by omega)).trans ?_
  refine (glu_at arg1 harg1 F arg14.view (harg14.unread xs0) [] (fun i k hi => ?_) ⟨0 + i.val, by omega⟩ ⟨128 * c.val + l.val, by omega⟩).trans (by dsimp only; rw [Nat.zero_add])
  exact (congrFun (harg14.read_unread xs0) (ix2 i k)).trans (h0 i k hi)

include h2 in
theorem xrB_old (c : Fin 8) (j : Fin 4) (inb : _) (r : Fin 256) (l : Fin 128) :
    View.readAt (Elt Ideal) arg16.view (Rect.unit (s := S264x1024) ![5 + j.val, 128 * c.val] S256x128.size inb).toLoadRect (arg16.view.writes (Elt Ideal) (harg16.unread xs2) (xrPieces arg1 harg1 x0)) (ix2 r l)
      = pad 3 I.xr (256 * t + r.val + j.val) (128 * c.val + l.val) := by
  refine (readAt_at (M := 264) (N := 1024) _ _ _ r l (by omega) (by omega)).trans ?_
  refine (xr_at arg1 harg1 F arg16.view (harg16.unread xs2) [] (fun i k hi => ?_) ⟨5 + j.val + r.val, by omega⟩ ⟨128 * c.val + l.val, by omega⟩).trans ?_
  · exact (congrFun (harg16.read_unread xs2) (ix2 i k)).trans (h2 i k hi)
  · dsimp only
    rw [show 256 * t + (5 + j.val + r.val) = 256 * t + r.val + j.val + 5 by omega]
    exact pad_shift 3 5 _ _ _

include h2 in
theorem xrB_at (c : Fin 8) (j : Fin 4) (r : Fin 256) (l : Fin 128) :
    xrB arg1 harg1 arg16 harg16 x0 xs2 c j (ix2 r l) = pad 3 I.xr (256 * t + r.val + j.val) (128 * c.val + l.val) := by
  match j with
  | 0 => exact xrB_old arg1 harg1 arg16 harg16 F h2 c 0 _ r l
  | 1 => exact xrB_old arg1 harg1 arg16 harg16 F h2 c 1 _ r l
  | 2 => exact xrB_old arg1 harg1 arg16 harg16 F h2 c 2 _ r l
  | 3 =>
    refine (readAt_at (M := 264) (N := 1024) arg16.view (arg16.view.writes (Elt Ideal) arg16.view.junk (xrPieces arg1 harg1 x0)) _ r l (by omega) (by omega)).trans ?_
    refine (xr_new arg1 harg1 F arg16.view arg16.view.junk [] ⟨8 + r.val, by omega⟩ (by dsimp only; omega) ⟨128 * c.val + l.val, by omega⟩).trans ?_
    dsimp only
    rw [show 256 * t + (8 + r.val) = 256 * t + r.val + 3 + 5 by omega]
    exact pad_shift 3 5 _ _ _

include h2 h3 in
theorem hidB_at (c : Fin 8) (r : Fin 256) (l : Fin 128) :
    hidB arg1 harg1 arg6 harg6 arg7 harg7 arg8 harg8 arg9 harg9 arg10 harg10 arg11 harg11 arg12 harg12 arg16 harg16 arg17 harg17 x0 x5 x6 x7 x8 x9 x10 x11 xs2 xs3 c (ix2 r l)
      = I.st (128 * c.val + l.val) (256 * t + (r.val + 1)) :=
  hidC_at arg6 harg6 arg7 harg7 arg8 harg8 arg9 harg9 arg10 harg10 arg11 harg11 arg12 harg12 F _ _ c (xrB_at arg1 harg1 arg16 harg16 F h2 c) (fun l => by
    rw [cell_row, h3]) r l

/-- A whole array of the convolution's columns. -/
theorem conv_whole (hist : Fin 8 → FVec Ideal S288x128 .f32)
    (hh : ∀ (c : Fin 8) (i : Fin 288) (l : Fin 128), hist c (ix2 i l) = pad 32 I.glu (256 * t + i.val) (128 * c.val + l.val)) (r : Fin 256) (k : Fin 1024) :
    arg15.view.readCov (cols (M := 256) (N := 1024) (φ := .f32) 0 128 256 (by decide) (by decide) (convC arg2 harg2 arg3 harg3 x1 x2 hist)) (Rect.unit ![0, 0] S256x1024.size inb_S256x1024_S256x1024_0_0).toLoadRect (ix2 r k)
      = I.convA (256 * t + r.val) k.val := by
  refine (readAt_at (M := 256) (N := 1024) arg15.view (arg15.view.writes (Elt Ideal) arg15.view.junk _) _ r k (by omega) (by omega)).trans ?_
  have e : 128 * (k.val / 128) + k.val % 128 = k.val := by omega
  refine (cols_only (M := 256) (N := 1024) (φ := .f32) arg15.view _ _ _ _ r ⟨k.val % 128, Nat.mod_lt _ (by decide)⟩ ⟨k.val / 128, by omega⟩ _ _ (by dsimp only; omega) (by dsimp only; omega)).trans ?_
  rw [convC_at arg2 harg2 arg3 harg3 F hist _ (hh _)]
  dsimp only
  rw [e]

include h0 h2 h3 in
theorem left_later : Left I t (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3)
    (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3)
    (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3)
    (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs2 xs3) := by
  have hh := hidB_at arg1 harg1 arg6 harg6 arg7 harg7 arg8 harg8 arg9 harg9 arg10 harg10 arg11 harg11 arg12 harg12 arg16 harg16 arg17 harg17 F h2 h3
  refine ⟨fun r n => ?_, fun i k hi => ?_, fun i k hi => ?_, fun k => ?_⟩
  · unfold out0_B_12
    rw [out_later]
    exact out_at arg1 harg1 F arg4 harg4 arg5 harg5 _ _ _ _ hh (conv_whole arg2 harg2 arg3 harg3 arg15 F _ (histB_at arg1 harg1 arg14 harg14 F h0)) r n
  · unfold sout0_B_0
    rw [glu_later]
    refine (piece_at (M := 288) (N := 1024) (o := 0) (p := 0) (m := 32) (n := 1024) _ _ _ _ _ ⟨i.val, hi⟩ k i k (by dsimp only; omega) (by omega)).trans ?_
    refine (show _ = arg14.view.readCov (gluPieces arg1 harg1 x0) (Rect.unit (s := S288x1024) ![256, 0] S32x1024.size inb_S288x1024_S32x1024_256_0).toLoadRect (ix2 ⟨i.val, hi⟩ k) by pointwise [k0_pay109]).trans ?_
    refine (readAt_at (M := 288) (N := 1024) arg14.view (arg14.view.writes (Elt Ideal) arg14.view.junk (gluPieces arg1 harg1 x0)) _ ⟨i.val, hi⟩ k (by dsimp only; omega) (by omega)).trans ?_
    refine (glu_new arg1 harg1 F arg14.view _ [] _ (by dsimp only; omega) _).trans ?_
    dsimp only
    rw [Nat.zero_add, Nat.mul_add, Nat.mul_one, Nat.add_assoc]
  · unfold sout0_B_2
    rw [xr_later]
    refine (piece_at (M := 264) (N := 1024) (o := 0) (p := 0) (m := 8) (n := 1024) _ _ _ _ _ ⟨i.val, hi⟩ k i k (by dsimp only; omega) (by omega)).trans ?_
    refine (show _ = arg16.view.readCov (xrPieces arg1 harg1 x0) (Rect.unit (s := S264x1024) ![256, 0] S8x1024.size inb_S264x1024_S8x1024_256_0).toLoadRect (ix2 ⟨i.val, hi⟩ k) by pointwise [k0_pay1]).trans ?_
    refine (readAt_at (M := 264) (N := 1024) arg16.view (arg16.view.writes (Elt Ideal) arg16.view.junk (xrPieces arg1 harg1 x0)) _ ⟨i.val, hi⟩ k (by dsimp only; omega) (by omega)).trans ?_
    refine (xr_new arg1 harg1 F arg16.view _ [] _ (by dsimp only; omega) _).trans ?_
    dsimp only
    rw [Nat.zero_add, Nat.mul_add, Nat.mul_one, Nat.add_assoc]
  · unfold sout0_B_3
    rw [last_later]
    have e : 128 * (k.val / 128) + k.val % 128 = k.val := by omega
    refine (cols_only (M := 1) (N := 1024) (φ := .f32) _ _ _ _ _ (0 : Fin 1) ⟨k.val % 128, Nat.mod_lt _ (by decide)⟩ ⟨k.val / 128, by omega⟩ (0 : Fin 1) k rfl (by dsimp only; omega)).trans ?_
    rw [lastState_at, hh]
    dsimp only
    rw [e, Nat.mul_add, Nat.mul_one]
    rfl

end later

section first

variable (hc0 : cond0_0 i)

theorem pay2_at (i : Fin 32) (k : Fin 1024) : k0_pay2 (F := Ideal) (ix2 i k) = 0 := by
  pointwise [k0_pay2]

theorem pay3_at (i : Fin 8) (k : Fin 1024) : k0_pay3 (F := Ideal) (ix2 i k) = 0 := by
  pointwise [k0_pay3]

theorem pay4_at (i : Fin 1) (k : Fin 1024) : k0_pay4 (F := Ideal) (ix2 i k) = 0 := by
  pointwise [k0_pay4]

variable (F : Fed I 0 x0 x1 x2 x3 x4 x5 x6 x7 x8 x9 x10 x11)

include F

theorem glu0_at {κ : Kind} {sp : Space} (v : View sig κ sp S288x1024 .f32) (i : Fin 288) (k : Fin 1024) :
    v.read (Elt Ideal) (v.writes (Elt Ideal) v.junk (glu0 arg1 harg1 x0)) (ix2 i k) = pad 32 I.glu (256 * 0 + i.val) k.val := by
  refine glu_at arg1 harg1 F v v.junk _ (fun i k hi => ?_) i k
  refine (piece_at (M := 288) (N := 1024) (φ := .f32) (o := 0) (p := 0) (m := 32) (n := 1024) v _ _ _ [] ⟨i.val, hi⟩ k i k (by dsimp only; omega) (by omega)).trans ?_
  rw [pay2_at]
  exact (if_pos (by omega)).symm

theorem xr0_at {κ : Kind} {sp : Space} (v : View sig κ sp S264x1024 .f32) (i : Fin 264) (k : Fin 1024) :
    v.read (Elt Ideal) (v.writes (Elt Ideal) v.junk (xr0 arg1 harg1 x0)) (ix2 i k) = pad 8 I.xr (256 * 0 + i.val) k.val := by
  refine xr_at arg1 harg1 F v v.junk _ (fun i k hi => ?_) i k
  refine (piece_at (M := 264) (N := 1024) (φ := .f32) (o := 0) (p := 0) (m := 8) (n := 1024) v _ _ _ [] ⟨i.val, hi⟩ k i k (by dsimp only; omega) (by omega)).trans ?_
  rw [pay3_at]
  exact (if_pos (by omega)).symm

theorem histA_at (c : Fin 8) (i : Fin 288) (l : Fin 128) :
    histA arg1 harg1 arg14 x0 c (ix2 i l) = pad 32 I.glu (256 * 0 + i.val) (128 * c.val + l.val) := by
  unfold histA
  refine (readAt_at (M := 288) (N := 1024) arg14.view (arg14.view.writes (Elt Ideal) arg14.view.junk _) _ i l (by omega) (by omega)).trans ?_
  refine (glu0_at arg1 harg1 F arg14.view _ _).trans (by dsimp only; rw [show 256 * 0 + (0 + i.val) = 256 * 0 + i.val by omega])

theorem xrA_at (c : Fin 8) (j : Fin 4) (r : Fin 256) (l : Fin 128) :
    xrA arg1 harg1 arg16 x0 c j (ix2 r l) = pad 3 I.xr (256 * 0 + r.val + j.val) (128 * c.val + l.val) := by
  unfold xrA
  refine (readAt_at (M := 264) (N := 1024) arg16.view (arg16.view.writes (Elt Ideal) arg16.view.junk _) _ r l (by omega) (by omega)).trans ?_
  refine (xr0_at arg1 harg1 F arg16.view _ _).trans ?_
  dsimp only
  rw [show 256 * 0 + (5 + j.val + r.val) = 256 * 0 + r.val + j.val + 5 by omega]
  exact pad_shift 3 5 _ _ _

/-- The state after `n` chunks. -/
theorem stP_at {κ : Kind} {sp : Space} (v : View sig κ sp S1x1024 .f32) : ∀ (n : ℕ), n ≤ 8 → ∀ k : Fin 1024,
    v.read (Elt Ideal) (v.writes (Elt Ideal) v.junk (stP arg1 harg1 arg6 harg6 arg7 harg7 arg8 harg8 arg9 harg9 arg10 harg10 arg11 harg11 arg12 harg12 arg16 arg17 x0 x5 x6 x7 x8 x9 x10 x11 n)) (ix2 0 k) = if k.val < 128 * n then I.st k.val 256 else 0
  | 0, _, k => by
    rw [if_neg (by omega)]
    refine (piece_at (M := 1) (N := 1024) (φ := .f32) (o := 0) (p := 0) (m := 1) (n := 1024) v _ _ _ [] (0 : Fin 1) k (0 : Fin 1) k rfl (by omega)).trans ?_
    exact pay4_at 0 k
  | n + 1, hn, k => by
    have en : (Fin.ofNat 8 n).val = n := Nat.mod_eq_of_lt (by omega)
    unfold stP
    by_cases hk : 128 * n ≤ k.val ∧ k.val < 128 * n + 128
    · refine (piece_at (M := 1) (N := 1024) (φ := .f32) v _ _ _ _ (0 : Fin 1) (⟨k.val - 128 * n, by omega⟩ : Fin 128) (0 : Fin 1) k rfl (by rw [en]; dsimp only; omega)).trans ?_
      rw [if_pos (by omega), lastState_at]
      refine (hidC_at arg6 harg6 arg7 harg7 arg8 harg8 arg9 harg9 arg10 harg10 arg11 harg11 arg12 harg12 F _ _ _ (xrA_at arg1 harg1 arg16 F _) (fun l => ?_) _ _).trans ?_
      · refine (readAt_at (M := 1) (N := 1024) arg17.view (arg17.view.writes (Elt Ideal) arg17.view.junk _) _ (0 : Fin 1) l (by decide) (by omega)).trans ?_
        refine (stP_at arg17.view n (by omega) ⟨128 * (Fin.ofNat 8 n).val + l.val, by omega⟩).trans ?_
        rw [if_neg (by dsimp only; rw [en]; omega)]
        rfl
      · rw [en]
        dsimp only
        rw [show 128 * n + (k.val - 128 * n) = k.val by omega]
        rfl
    · refine (piece_col (M := 1) (N := 1024) (φ := .f32) v _ _ _ _ (0 : Fin 1) k (by rw [en]; omega)).trans ?_
      rw [stP_at v n (by omega) k]
      congr 1
      exact propext ⟨fun _ => by omega, fun _ => by omega⟩

theorem hidA_at (c : Fin 8) (r : Fin 256) (l : Fin 128) :
    hidA arg1 harg1 arg6 harg6 arg7 harg7 arg8 harg8 arg9 harg9 arg10 harg10 arg11 harg11 arg12 harg12 arg16 arg17 x0 x5 x6 x7 x8 x9 x10 x11 c (ix2 r l) = I.st (128 * c.val + l.val) (256 * 0 + (r.val + 1)) :=
  hidC_at arg6 harg6 arg7 harg7 arg8 harg8 arg9 harg9 arg10 harg10 arg11 harg11 arg12 harg12 F _ _ c (xrA_at arg1 harg1 arg16 F c) (fun l => by
    refine (readAt_at (M := 1) (N := 1024) arg17.view (arg17.view.writes (Elt Ideal) arg17.view.junk _) _ (0 : Fin 1) l (show 0 + 0 < 1 by decide) (show 128 * c.val + l.val < 1024 by omega)).trans ?_
    refine (stP_at arg1 harg1 arg6 harg6 arg7 harg7 arg8 harg8 arg9 harg9 arg10 harg10 arg11 harg11 arg12 harg12 arg16 arg17 F arg17.view c.val (by omega) ⟨128 * c.val + l.val, by omega⟩).trans ?_
    rw [if_neg (by dsimp only; omega)]
    rfl) r l

theorem left_first : Left I 0 (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
    (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
    (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) := by
  have hh := hidA_at arg1 harg1 arg6 harg6 arg7 harg7 arg8 harg8 arg9 harg9 arg10 harg10 arg11 harg11 arg12 harg12 arg16 arg17 F
  refine ⟨fun r n => ?_, fun i k hi => ?_, fun i k hi => ?_, fun k => ?_⟩
  · unfold out0_A_12
    rw [out_first]
    exact out_at arg1 harg1 F arg4 harg4 arg5 harg5 _ _ _ _ hh (conv_whole arg2 harg2 arg3 harg3 arg15 F _ (histA_at arg1 harg1 arg14 F)) r n
  · unfold sout0_A_0
    rw [glu_first]
    refine (piece_at (M := 288) (N := 1024) (o := 0) (p := 0) (m := 32) (n := 1024) _ _ _ _ _ ⟨i.val, hi⟩ k i k (by dsimp only; omega) (by omega)).trans ?_
    refine (show _ = arg14.view.readCov (glu0 arg1 harg1 x0) (Rect.unit (s := S288x1024) ![256, 0] S32x1024.size inb_S288x1024_S32x1024_256_0).toLoadRect (ix2 ⟨i.val, hi⟩ k) by pointwise [k0_pay109]).trans ?_
    refine (readAt_at (M := 288) (N := 1024) arg14.view (arg14.view.writes (Elt Ideal) arg14.view.junk (glu0 arg1 harg1 x0)) _ ⟨i.val, hi⟩ k (by dsimp only; omega) (by omega)).trans ?_
    refine (glu0_at arg1 harg1 F arg14.view _ _).trans ?_
    dsimp only
    rw [Nat.zero_add k.val, show 256 * 0 + (256 + i.val) = 256 * (0 + 1) + i.val by omega]
  · unfold sout0_A_2
    rw [xr_first]
    refine (piece_at (M := 264) (N := 1024) (o := 0) (p := 0) (m := 8) (n := 1024) _ _ _ _ _ ⟨i.val, hi⟩ k i k (by dsimp only; omega) (by omega)).trans ?_
    refine (show _ = arg16.view.readCov (xr0 arg1 harg1 x0) (Rect.unit (s := S264x1024) ![256, 0] S8x1024.size inb_S264x1024_S8x1024_256_0).toLoadRect (ix2 ⟨i.val, hi⟩ k) by pointwise [k0_pay1]).trans ?_
    refine (readAt_at (M := 264) (N := 1024) arg16.view (arg16.view.writes (Elt Ideal) arg16.view.junk (xr0 arg1 harg1 x0)) _ ⟨i.val, hi⟩ k (by dsimp only; omega) (by omega)).trans ?_
    refine (xr0_at arg1 harg1 F arg16.view _ _).trans ?_
    dsimp only
    rw [Nat.zero_add k.val, show 256 * 0 + (256 + i.val) = 256 * (0 + 1) + i.val by omega]
  · unfold sout0_A_3
    rw [last_first, stP_at arg1 harg1 arg6 harg6 arg7 harg7 arg8 harg8 arg9 harg9 arg10 harg10 arg11 harg11 arg12 harg12 arg16 arg17 F _ 8 le_rfl k, if_pos (by omega)]

end first

end Cert.KernelRecIdeal.Gen

end
-- ==== Proof.Rec.lean ====
module

public import proofs.«01_k».proof.Proof.RecHeld

@[expose] public section

set_option maxRecDepth 16384

noncomputable section

open Idealize.ShloMosaic Idealize.ShloMosaic.TcCoe Idealize.SL.Sem
open Layer

/-! # The gated linear recurrence: the kernel's result -/

namespace Cert.KernelRecIdeal.Gen

variable (m : (ℓ : Loc nD τ sig) → Buf (Elt Ideal) ℓ) (c : Dev nD)

/-- What the arguments hold. -/
abbrev mixT : Mix := mixOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-- Which block each window holds at each grid point. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0, 0, 0] ∧ win0_8.index t = ![0, 0] ∧ win0_9.index t = ![0, 0, 0, 0] ∧ win0_10.index t = ![0, 0]
    ∧ win0_11.index t = ![0, 0] ∧ win0_12.index t = ![t.val, 0] :=
  (by decide +kernel : ∀ t : Fin grid0.N, _)

theorem lt_N (t : Fin cfg0.N) : t.val < 32 := lt_of_lt_of_eq t.isLt N_0

set_option maxHeartbeats 4000000 in
theorem fed (t : Fin cfg0.N) : Fed (mixT m c) t.val (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) := by
  obtain ⟨e0, e1, e2, e3, e4, e5, e6, e7, e8, e9, e10, e11, -⟩ := idx t
  have h := lt_N t
  constructor
  case u =>
    intro r k
    refine Eq.trans ?_ (is_tab (M := 8192) (N := 4096) (φ := .f32) (m ((c : Thread nD τ).loc main_arg0)) ⟨256 * t.val + r.val, by omega⟩ k)
    blk_ext [iblk, V_main_arg0, e0]
  case caw | cbw =>
    intro r k
    refine Eq.trans ?_ (is_lay (M := _) (N := 1024) (φ := .f32) _ 0 r k)
    blk_simp [iblk, e1, e5]
    entry_read
    pointwise
    refine congrArg (m _) (funext fun a => ?_)
    match a with
    | ⟨0, _⟩ => rfl
    | ⟨1, _⟩ => exact Fin.ext (by blk_simp [e1, e5])
    | ⟨2, _⟩ => exact Fin.ext (by blk_simp [e1, e5])
  case wa | wx =>
    intro h i j
    refine Eq.trans ?_ (is_heads _ h i j)
    blk_simp [iblk, e7, e9]
    entry_read
    pointwise
    refine congrArg (m _) (funext fun a => ?_)
    match a with
    | ⟨0, _⟩ => exact Fin.ext (by blk_simp [e7, e9]; rfl)
    | ⟨1, _⟩ => exact Fin.ext (by blk_simp [e7, e9])
    | ⟨2, _⟩ => exact Fin.ext (by blk_simp [e7, e9])
    | ⟨3, _⟩ => exact Fin.ext (by blk_simp [e7, e9])
  all_goals
    intro k
    refine Eq.trans ?_ (is_row0 _ k)
    blk_simp [iblk, e2, e3, e4, e6, e8, e10, e11]
    entry_read
    pointwise
    refine congrArg (m _) (funext fun a => ?_)
    match a with
    | ⟨0, _⟩ => rfl
    | ⟨1, _⟩ => exact Fin.ext (by blk_simp [e2, e3, e4, e6, e8, e10, e11])

/-- What a grid point leaves. -/
def Held (t : Fin cfg0.N) : Prop :=
  Left (mixT m c) t.val (outsAt0 m c t.val t.isLt).1 (outsAt0 m c t.val t.isLt).2.1 (outsAt0 m c t.val t.isLt).2.2.1 (outsAt0 m c t.val t.isLt).2.2.2

theorem held_first (t : Fin cfg0.N) (h0 : t.val % 32 = 0) : Held m c t := by
  have e : t.val = 0 := by have := lt_N t; omega
  have hF := fed m c t
  unfold Held
  rw [outsAt0_A m c t h0]
  dsimp only
  rw [e] at hF
  exact Left.at e (left_first _ _ _ _ _ _ _ _ _ _ _ _ _ _ _ _ _ _ _ _ _ _ _ _ _ _ _ _ _ _ _ _ _ _ _ _ _ hF)

theorem held_later (t : Fin cfg0.N) (h0 : ¬t.val % 32 = 0) (h : Held m c ⟨t.val - 1, Nat.lt_of_le_of_lt (Nat.sub_le _ _) t.isLt⟩) : Held m c t := by
  have e : t.val - 1 + 1 = t.val := by omega
  obtain ⟨-, hg, hx, hs⟩ := h
  dsimp only at hg hx hs
  rw [e] at hg hx hs
  unfold Held
  rw [outsAt0_B m c t h0]
  dsimp only
  exact left_later _ _ _ _ _ _ _ _ _ _ _ _ _ _ _ _ _ _ _ _ _ _ _ _ _ _ _ _ _ _ _ _ _ _ _ _ (fed m c t) _ hg hx hs

theorem held : ∀ (n : ℕ) (hn : n < cfg0.N), Held m c ⟨n, hn⟩ := by
  intro n
  induction n with
  | zero => exact fun hn => held_first m c ⟨0, hn⟩ rfl
  | succ n ih =>
    intro hn
    have := lt_N ⟨n + 1, hn⟩
    exact held_later m c ⟨n + 1, hn⟩ (by dsimp only at this ⊢; omega) (ih (Nat.lt_of_succ_lt hn))

/-- The result: the convolution branch beside the gated states. -/
def result (I : Mix) : FVec Ideal S8192x2048 .bf16 := fun i => I.out (i 0).val (i 1).val

/-- The kernel's result array. -/
theorem kernel_array : (dats m 0 c).arrAt 12 cfg0.N = result (mixT m c) := by
  refine (dats m 0 c).arrAt_eq_of_covers 12 _ (by decide +kernel) fun t _ y => ?_
  obtain ⟨-, -, -, -, -, -, -, -, -, -, -, -, e12⟩ := idx t
  have hy0 : (y 0).val < 256 := (y 0).isLt
  have hy1 : (y 1).val < 2048 := (y 1).isLt
  blk_simp
  rw [after0_12]
  have hy : y = ix2 (⟨(y 0).val, hy0⟩ : Fin 256) (⟨(y 1).val, hy1⟩ : Fin 2048) := funext fun a => by
    match a with | ⟨0, _⟩ => rfl | ⟨1, _⟩ => rfl
  have key := (held m c t.val t.isLt).out ⟨(y 0).val, hy0⟩ ⟨(y 1).val, hy1⟩
  rw [← hy] at key
  refine key.trans ?_
  have r0 : ((((View.whole main_v27).slice (win0_12.rect t)).emb y) 0).val = 256 * t.val + (y 0).val := by blk_simp [e12]; omega
  have r1 : ((((View.whole main_v27).slice (win0_12.rect t)).emb y) 1).val = (y 1).val := by blk_simp [e12]
  unfold result
  rw [r0, r1]

end Cert.KernelRecIdeal.Gen

end
-- ==== Proof.RecRef.lean ====
module

public import proofs.«01_k».proof.Proof.RecSpec
public import proofs.«01_k».proof.Proof.Gen.ReferenceRecIdeal.Step

@[expose] public section

set_option maxRecDepth 16384

noncomputable section

open Idealize.ShloMosaic Idealize.ShloMosaic.TcCoe Idealize.SL.Sem
open Layer

/-! # The gated linear recurrence: what the reference computes before its loop -/

namespace Cert.ReferenceRecIdeal.Step

variable (x0 : FVec Ideal S8192x4096 .f32) (x1 : FVec Ideal S2x31x1024 .f32) (x2 x3 x4 : FVec Ideal S2x1024 .f32) (x5 : FVec Ideal S2x4x1024 .f32) (x6 : FVec Ideal S2x1024 .f32)
  (x7 : FVec Ideal S2x8x128x128 .f32) (x8 : FVec Ideal S2x1024 .f32) (x9 : FVec Ideal S2x8x128x128 .f32) (x10 x11 : FVec Ideal S2x1024 .f32)

/-- The gated rows. -/
theorem glu_at (t : Fin 8192) (k : Fin 1024) : A_main_v10 (F := Ideal) x0 x1 x2 x3 x4 x5 x6 x7 x8 x9 x10 x11 (ix2 t k) = (mixOf x0 x1 x2 x3 x4 x5 x6 x7 x8 x9 x10 x11).glu t.val k.val := by
  pointwise [A_main_v0, A_main_v1, A_main_v4, A_main_v5, A_main_v7, A_main_v9, A_main_v10, K_main_v6, K_main_v8, K_main_cst, K_main_cst_0]
  simp only [is_tab x0 _ _]
  rfl

theorem padA_at (i : Fin 8222) (k : Fin 1024) : A_main_v16 (F := Ideal) x0 x1 x2 x3 x4 x5 x6 x7 x8 x9 x10 x11 (ix2 i k) = Layer.pad 30 (mixOf x0 x1 x2 x3 x4 x5 x6 x7 x8 x9 x10 x11).glu i.val k.val := by
  pointwise [A_main_v16, K_main_v15, K_main_cst_1]
  unfold Layer.pad
  split
  · rfl
  · exact glu_at x0 x1 x2 x3 x4 x5 x6 x7 x8 x9 x10 x11 _ _

set_option maxHeartbeats 2000000 in
/-- The long convolution. -/
theorem convA_at (t : Fin 8192) (k : Fin 1024) : A_main_v237 (F := Ideal) x0 x1 x2 x3 x4 x5 x6 x7 x8 x9 x10 x11 (ix2 t k) = (mixOf x0 x1 x2 x3 x4 x5 x6 x7 x8 x9 x10 x11).convA t.val k.val := by
  pointwise [A_main_v11, A_main_v12, A_main_v13, A_main_v14, A_main_v17, A_main_v18, A_main_v19, A_main_v20, A_main_v21, A_main_v22, A_main_v24, A_main_v25, A_main_v26,
    A_main_v27, A_main_v28, A_main_v29, A_main_v30, A_main_v31, A_main_v32, A_main_v33, A_main_v34, A_main_v35, A_main_v36, A_main_v37, A_main_v38, A_main_v39, A_main_v40,
    A_main_v41, A_main_v42, A_main_v43, A_main_v44, A_main_v45, A_main_v46, A_main_v47, A_main_v48, A_main_v49, A_main_v50, A_main_v51, A_main_v52, A_main_v53, A_main_v54,
    A_main_v55, A_main_v56, A_main_v57, A_main_v58, A_main_v59, A_main_v60, A_main_v61, A_main_v62, A_main_v63, A_main_v64, A_main_v65, A_main_v66, A_main_v67, A_main_v68,
    A_main_v69, A_main_v70, A_main_v71, A_main_v72, A_main_v73, A_main_v74, A_main_v75, A_main_v76, A_main_v77, A_main_v78, A_main_v79, A_main_v80, A_main_v81, A_main_v82,
    A_main_v83, A_main_v84, A_main_v85, A_main_v86, A_main_v87, A_main_v88, A_main_v89, A_main_v90, A_main_v91, A_main_v92, A_main_v93, A_main_v94, A_main_v95, A_main_v96,
    A_main_v97, A_main_v98, A_main_v99, A_main_v100, A_main_v101, A_main_v102, A_main_v103, A_main_v104, A_main_v105, A_main_v106, A_main_v107, A_main_v108, A_main_v109,
    A_main_v110, A_main_v111, A_main_v112, A_main_v113, A_main_v114, A_main_v115, A_main_v116, A_main_v117, A_main_v118, A_main_v119, A_main_v120, A_main_v121, A_main_v122,
    A_main_v123, A_main_v124, A_main_v125, A_main_v126, A_main_v127, A_main_v128, A_main_v129, A_main_v130, A_main_v131, A_main_v132, A_main_v133, A_main_v134, A_main_v135,
    A_main_v136, A_main_v137, A_main_v138, A_main_v139, A_main_v140, A_main_v141, A_main_v142, A_main_v143, A_main_v144, A_main_v145, A_main_v146, A_main_v147, A_main_v148,
    A_main_v149, A_main_v150, A_main_v151, A_main_v152, A_main_v153, A_main_v154, A_main_v155, A_main_v156, A_main_v157, A_main_v158, A_main_v159, A_main_v160, A_main_v161,
    A_main_v162, A_main_v163, A_main_v164, A_main_v165, A_main_v166, A_main_v167, A_main_v168, A_main_v169, A_main_v170, A_main_v171, A_main_v172, A_main_v173, A_main_v174,
    A_main_v175, A_main_v176, A_main_v177, A_main_v178, A_main_v179, A_main_v180, A_main_v181, A_main_v182, A_main_v183, A_main_v184, A_main_v185, A_main_v186, A_main_v187,
    A_main_v188, A_main_v189, A_main_v190, A_main_v191, A_main_v192, A_main_v193, A_main_v194, A_main_v195, A_main_v196, A_main_v197, A_main_v198, A_main_v199, A_main_v200,
    A_main_v201, A_main_v202, A_main_v203, A_main_v204, A_main_v205, A_main_v206, A_main_v207, A_main_v208, A_main_v209, A_main_v210, A_main_v211, A_main_v212, A_main_v213,
    A_main_v214, A_main_v215, A_main_v216, A_main_v217, A_main_v218, A_main_v219, A_main_v220, A_main_v221, A_main_v222, A_main_v223, A_main_v224, A_main_v225, A_main_v226,
    A_main_v227, A_main_v228, A_main_v229, A_main_v230, A_main_v231, A_main_v232, A_main_v233, A_main_v234, A_main_v235, A_main_v236, A_main_v237, K_main_v23, K_main_cst_2]
  simp only [padA_at, is_lay x1 _ _ _, is_row0]
  unfold Mix.convA
  rw [Fin.sum_univ_eq_sum_range (fun j => (mixOf x0 x1 x2 x3 x4 x5 x6 x7 x8 x9 x10 x11).caw j k.val * Layer.pad 30 (mixOf x0 x1 x2 x3 x4 x5 x6 x7 x8 x9 x10 x11).glu (t.val + j) k.val) 31]
  simp only [Finset.sum_range_succ, Finset.sum_range_zero, zero_add, Nat.add_zero, Nat.add_comm t.val]
  rfl

/-- The convolution branch's result. -/
theorem left_at (t : Fin 8192) (k : Fin 1024) : A_main_v266 (F := Ideal) x0 x1 x2 x3 x4 x5 x6 x7 x8 x9 x10 x11 (ix2 t k) = (mixOf x0 x1 x2 x3 x4 x5 x6 x7 x8 x9 x10 x11).left t.val k.val := by
  pointwise [A_main_v238, A_main_v239, A_main_v240, A_main_v241, A_main_v242, A_main_v243, A_main_v245, A_main_v246, A_main_v247, A_main_v248, A_main_v249, A_main_v250,
    A_main_v252, A_main_v253, A_main_v254, A_main_v256, A_main_v257, A_main_v258, A_main_v259, A_main_v260, A_main_v261, A_main_v262, A_main_v263, A_main_v264, A_main_v265,
    A_main_v266, A_main_call0_v0, A_main_call0_v1, A_main_call0_v3, A_main_call0_v5, K_main_cst_3, K_main_cst_4, K_main_cst_5, K_main_cst_6, K_main_cst_7, K_main_v244,
    K_main_v251, K_main_v255,
    K_main_call0_v2, K_main_call0_v4, K_main_call0_cst, K_main_call0_cst_0]
  simp only [convA_at, is_row0]
  rfl

theorem padB_at (i : Fin 8195) (k : Fin 1024) : A_main_v272 (F := Ideal) x0 x1 x2 x3 x4 x5 x6 x7 x8 x9 x10 x11 (ix2 i k) = Layer.pad 3 (mixOf x0 x1 x2 x3 x4 x5 x6 x7 x8 x9 x10 x11).xr i.val k.val := by
  pointwise [A_main_v2, A_main_v272, K_main_v271, K_main_cst_8]
  unfold Layer.pad
  split
  · rfl
  · exact is_tab x0 _ _

/-- The short convolution. -/
theorem convB_at (t : Fin 8192) (k : Fin 1024) : A_main_v304 (F := Ideal) x0 x1 x2 x3 x4 x5 x6 x7 x8 x9 x10 x11 (ix2 t k) = (mixOf x0 x1 x2 x3 x4 x5 x6 x7 x8 x9 x10 x11).convB t.val k.val := by
  pointwise [A_main_v267, A_main_v268, A_main_v269, A_main_v270, A_main_v273, A_main_v274, A_main_v275, A_main_v276, A_main_v277, A_main_v278, A_main_v280, A_main_v281,
    A_main_v282, A_main_v283, A_main_v284, A_main_v285, A_main_v286, A_main_v287, A_main_v288, A_main_v289, A_main_v290, A_main_v291, A_main_v292, A_main_v293, A_main_v294,
    A_main_v295, A_main_v296, A_main_v297, A_main_v298, A_main_v299, A_main_v300, A_main_v301, A_main_v302, A_main_v303, A_main_v304, K_main_v279, K_main_cst_9]
  simp only [padB_at, is_lay x5 _ _ _, is_row0]
  unfold Mix.convB
  rw [Fin.sum_univ_eq_sum_range (fun j => (mixOf x0 x1 x2 x3 x4 x5 x6 x7 x8 x9 x10 x11).cbw j k.val * Layer.pad 3 (mixOf x0 x1 x2 x3 x4 x5 x6 x7 x8 x9 x10 x11).xr (t.val + j) k.val) 4]
  simp only [Finset.sum_range_succ, Finset.sum_range_zero, zero_add, Nat.add_zero, Nat.add_comm t.val]
  rfl

/-- The gate of the decay. -/
theorem gateA_at (t : Fin 8192) (k : Fin 1024) : A_main_v321 (F := Ideal) x0 x1 x2 x3 x4 x5 x6 x7 x8 x9 x10 x11 (ix2 t k) = (mixOf x0 x1 x2 x3 x4 x5 x6 x7 x8 x9 x10 x11).gate (mixOf x0 x1 x2 x3 x4 x5 x6 x7 x8 x9 x10 x11).wa (mixOf x0 x1 x2 x3 x4 x5 x6 x7 x8 x9 x10 x11).ba t.val k.val := by
  pointwise [A_main_v305, A_main_v306, A_main_v307, A_main_v308, A_main_v309, A_main_v310, A_main_v311, A_main_v312, A_main_v313, A_main_v314, A_main_v315, A_main_v316,
    A_main_v317, A_main_v319, A_main_v321, K_main_v318, K_main_v320, K_main_cst_10, K_main_cst_11]
  simp only [convB_at, is_heads, is_row0, mul_comm _ 128, mul_comm (heads x7 _ _ _)]
  rfl

/-- The gate of the drive. -/
theorem gateX_at (t : Fin 8192) (k : Fin 1024) : A_main_v337 (F := Ideal) x0 x1 x2 x3 x4 x5 x6 x7 x8 x9 x10 x11 (ix2 t k) = (mixOf x0 x1 x2 x3 x4 x5 x6 x7 x8 x9 x10 x11).gate (mixOf x0 x1 x2 x3 x4 x5 x6 x7 x8 x9 x10 x11).wx (mixOf x0 x1 x2 x3 x4 x5 x6 x7 x8 x9 x10 x11).bx t.val k.val := by
  pointwise [A_main_v305, A_main_v322, A_main_v323, A_main_v324, A_main_v325, A_main_v326, A_main_v327, A_main_v328, A_main_v329, A_main_v330, A_main_v331, A_main_v332,
    A_main_v333, A_main_v335, A_main_v337, K_main_v334, K_main_v336, K_main_cst_12, K_main_cst_13]
  simp only [convB_at, is_heads, is_row0, mul_comm _ 128, mul_comm (heads x9 _ _ _)]
  rfl

/-- The logarithm of the decay. -/
theorem logA_at (t : Fin 8192) (k : Fin 1024) : A_main_v346 (F := Ideal) x0 x1 x2 x3 x4 x5 x6 x7 x8 x9 x10 x11 (ix2 t k) = (mixOf x0 x1 x2 x3 x4 x5 x6 x7 x8 x9 x10 x11).logA t.val k.val := by
  pointwise [A_main_v339, A_main_v340, A_main_v341, A_main_v342, A_main_v343, A_main_v344, A_main_v345, A_main_v346, A_main_call1_v1, A_main_call1_v3, A_main_call1_v4,
    A_main_call1_v6, A_main_call1_v7, A_main_call1_v8, A_main_call1_v9, A_main_call1_v10, A_main_call1_v11,
    K_main_call1_v0, K_main_call1_v2, K_main_call1_v5, K_main_call1_cst, K_main_v338, K_main_cst_14]
  simp only [gateA_at, is_row0]
  rw [if_neg (fun h => h rfl)]
  rfl

/-- The decay. -/
theorem a_at (t : Fin 8192) (k : Fin 1024) : A_main_v347 (F := Ideal) x0 x1 x2 x3 x4 x5 x6 x7 x8 x9 x10 x11 (ix2 t k) = (mixOf x0 x1 x2 x3 x4 x5 x6 x7 x8 x9 x10 x11).a t.val k.val := by
  pointwise [A_main_v347]
  simp only [logA_at]
  rfl

theorem less_one (v : EReal) : -(v - 1) = 1 - v := by
  have h : (1 : EReal) ≠ ⊥ ∧ (1 : EReal) ≠ ⊤ := ⟨EReal.coe_ne_bot 1, EReal.coe_ne_top 1⟩
  rw [EReal.neg_sub (Or.inr h.1) (Or.inr h.2), sub_eq_add_neg, add_comm]

/-- The drive. -/
theorem d_at (t : Fin 8192) (k : Fin 1024) : A_main_v354 (F := Ideal) x0 x1 x2 x3 x4 x5 x6 x7 x8 x9 x10 x11 (ix2 t k) = (mixOf x0 x1 x2 x3 x4 x5 x6 x7 x8 x9 x10 x11).d t.val k.val := by
  pointwise [A_main_v349, A_main_v350, A_main_v351, A_main_v352, A_main_v353, A_main_v354, K_main_v348, K_main_cst_15]
  simp only [logA_at, gateX_at, convB_at]
  rw [less_one]
  rfl

/-- The gate of the states. -/
theorem gelu_at (t : Fin 8192) (k : Fin 1024) : A_main_v368 (F := Ideal) x0 x1 x2 x3 x4 x5 x6 x7 x8 x9 x10 x11 (ix2 t k) = gelu ((mixOf x0 x1 x2 x3 x4 x5 x6 x7 x8 x9 x10 x11).u t.val (3072 + k.val)) := by
  pointwise [A_main_v3, A_main_v356, A_main_v357, A_main_v359, A_main_v360, A_main_v362, A_main_v363, A_main_v365, A_main_v367, A_main_v368, K_main_v358, K_main_v361,
    K_main_v364, K_main_v366, K_main_cst_17, K_main_cst_18, K_main_cst_19, K_main_cst_20]
  simp only [is_tab x0 _ _]
  rfl

end Cert.ReferenceRecIdeal.Step

end
-- ==== Proof.RecLoop.lean ====
module

public import proofs.«01_k».proof.Proof.Rec
public import proofs.«01_k».proof.Proof.RecRef
public import proofs.«01_k».proof.Proof.Gen.ReferenceRecIdeal.Run
public import proofs.«01_k».proof.Proof.Gen.KernelRec.Frame
public import proofs.«01_k».proof.Proof.Gen.KernelRecIdeal.Frame
public import proofs.«01_k».proof.Proof.Gen.KernelRecIdeal.Value
public import proofs.«01_k».proof.Defs

@[expose] public section

set_option maxRecDepth 16384

noncomputable section

open Idealize.ShloMosaic Idealize.ShloMosaic.TcCoe Idealize.SL.Sem Idealize.ShloMosaic.StableHlo
open Layer

/-! # The gated linear recurrence: the reference's loop over the rows -/

namespace Cert.ReferenceRecIdeal.Step

/-- Where trip `j` starts its slices. -/
abbrev starts (j : ℕ) : Fin 2 → Int := fun k => BitVec.toInt ((![constantI S_ 32 (BitVec.ofNat 32 j), constantI S_ 32 0#32] : Fin 2 → (⟨S_, .i32⟩ : BufTy).Contents (Elt Ideal)) k (Shape.Idx.first Gen.h_S_))

theorem clamp_row {j : ℕ} (hj : j < 8192) : (min (max (BitVec.ofNat 32 j).toInt 0) ((8192 - 1 : ℕ) : Int)).toNat = j :=
  WordCmp.clamp_start_ofNat_of_le (by omega) (by omega)

theorem part_row {j : ℕ} (hj : j < 8192) (h : S1x1024.rank = S8192x1024.rank) : Host.clampedStart S8192x1024 S1x1024 h (starts j) 0 = j := clamp_row hj
theorem part_col (j : ℕ) (h : S1x1024.rank = S8192x1024.rank) : Host.clampedStart S8192x1024 S1x1024 h (starts j) 1 = 0 := rfl
theorem whole_row {j : ℕ} (hj : j < 8192) (h : S1x2048.rank = S8192x2048.rank) : Host.clampedStart S8192x2048 S1x2048 h (starts j) 0 = j := clamp_row hj
theorem whole_col (j : ℕ) (h : S1x2048.rank = S8192x2048.rank) : Host.clampedStart S8192x2048 S1x2048 h (starts j) 1 = 0 := rfl

/-- What the state holds before trip `j`. -/
structure At (I : Mix) (j : ℕ) (s : State Ideal) : Prop where
  st : ∀ k : Fin 1024, s.main_v370_5 (ix1 k) = I.st k.val j
  rows : ∀ (t : Fin 8192) (n : Fin 2048), t.val < j → s.main_v370_6 (ix2 t n) = I.out t.val n.val
  a : ∀ (t : Fin 8192) (k : Fin 1024), s.main_v370_0 (ix2 t k) = I.a t.val k.val
  d : ∀ (t : Fin 8192) (k : Fin 1024), s.main_v370_1 (ix2 t k) = I.d t.val k.val
  y : ∀ (t : Fin 8192) (k : Fin 1024), s.main_v370_2 (ix2 t k) = I.left t.val k.val
  g : ∀ (t : Fin 8192) (k : Fin 1024), s.main_v370_3 (ix2 t k) = gelu (I.u t.val (3072 + k.val))

section
variable {I : Mix} {j : ℕ} {s : State Ideal} (h : At I j s) (hj : j < 8192)
include h hj

/-- The next state. -/
theorem next_at (k : Fin 1024) : b13 j s (ix1 k) = I.st k.val (j + 1) := by
  pointwise [b0, b1, b2, b3, b4, b5, b12, b13]
  rw [h.st, h.a, h.d]
  dsimp only
  simp only [part_row hj, part_col, Nat.zero_add]
  exact (run_succ (fun t => I.a t k.val) (fun t => I.d t k.val) j).symm

/-- The rows after the trip. -/
theorem rows_at (t : Fin 8192) (n : Fin 2048) (ht : t.val < j + 1) : b18 j s (ix2 t n) = I.out t.val n.val := by
  pointwise [b6, b7, b8, b9, b10, b11, b14, b15, b16, b17, b18]
  simp only [next_at h hj, h.y, h.g, part_row hj, part_col, whole_row hj, whole_col, Nat.zero_add, Nat.sub_zero]
  by_cases e : t.val = j
  · rw [dif_pos ⟨⟨by omega, by omega⟩, Nat.zero_le _⟩]
    unfold Mix.out
    rw [e]
    split <;> rfl
  · rw [dif_neg (by omega)]
    exact h.rows t n (by omega)

end

end Cert.ReferenceRecIdeal.Step

namespace Cert.ReferenceRecIdeal.Value

open Cert.ReferenceRecIdeal.Step (State b13 b18)

/-- The state a valuation holds. -/
def stateOf (V : Valuation τ sig (Elt Ideal)) : State Ideal where
  main_v370_5 := V (Proc.devRef .tc main_v370_5)
  main_v370_6 := V (Proc.devRef .tc main_v370_6)
  main_v370_0 := V (Proc.devRef .tc main_v370_0)
  main_v370_1 := V (Proc.devRef .tc main_v370_1)
  main_v370_2 := V (Proc.devRef .tc main_v370_2)
  main_v370_3 := V (Proc.devRef .tc main_v370_3)

theorem next_state {V : Valuation τ sig (Elt Ideal)} {j : ℕ} (h : V (Proc.devRef .tc main_v370_4) = constantI S_ 32 (BitVec.ofNat 32 j)) : step_main_v370_5 V = b13 j (stateOf V) := by
  unfold step_main_v370_5 res_main_while0b_v377
  rw [h]
  rfl

theorem next_rows {V : Valuation τ sig (Elt Ideal)} {j : ℕ} (h : V (Proc.devRef .tc main_v370_4) = constantI S_ 32 (BitVec.ofNat 32 j)) : step_main_v370_6 V = b18 j (stateOf V) := by
  unfold step_main_v370_6 res_main_while0b_v377
  rw [h]
  rfl

theorem next_number {V : Valuation τ sig (Elt Ideal)} {j : ℕ} (h : V (Proc.devRef .tc main_v370_4) = constantI S_ 32 (BitVec.ofNat 32 j)) :
    step_main_v370_4 V = constantI S_ 32 (BitVec.ofNat 32 (j + 1)) := by
  unfold step_main_v370_4
  rw [h]
  funext i
  show BitVec.ofNat 32 j + 1#32 = BitVec.ofNat 32 (j + 1)
  rw [BitVec.ofNat_add]

variable (m : (ℓ : Loc nD τ sig) → Buf (Elt Ideal) ℓ) (c : Dev nD)

/-- What the arguments hold. -/
abbrev mixT : Mix := mixOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- What the operations before the loop leave at its buffers. -/
structure Entered (V : Valuation τ sig (Elt Ideal)) (s : State Ideal) : Prop where
  n : V (Proc.devRef .tc main_v370_4) = constantI S_ 32 (BitVec.ofNat 32 0)
  f5 : V (Proc.devRef .tc main_v370_5) = s.main_v370_5
  f6 : V (Proc.devRef .tc main_v370_6) = s.main_v370_6
  f0 : V (Proc.devRef .tc main_v370_0) = s.main_v370_0
  f1 : V (Proc.devRef .tc main_v370_1) = s.main_v370_1
  f2 : V (Proc.devRef .tc main_v370_2) = s.main_v370_2
  f3 : V (Proc.devRef .tc main_v370_3) = s.main_v370_3

set_option maxRecDepth 65536 in
set_option maxHeartbeats 4000000 in
theorem entered : Entered (entryContents preI m c) (Cert.ReferenceRecIdeal.Step.init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  constructor <;> (simp only [entryContents, afterL_cons, afterL_nil]; after_reads_simp) <;> rfl

theorem entry_number : entryContents preI m c (Proc.devRef .tc main_v370_4) = constantI S_ 32 (BitVec.ofNat 32 0) := (entered m c).n

theorem entry_state : stateOf (entryContents preI m c) = Cert.ReferenceRecIdeal.Step.init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  obtain ⟨-, e5, e6, e0, e1, e2, e3⟩ := entered m c
  unfold stateOf
  rw [e0, e1, e2, e3, e5, e6]

theorem entry_at : Cert.ReferenceRecIdeal.Step.At (mixT m c) 0 (stateOf (entryContents preI m c)) := by
  rw [entry_state]
  unfold Cert.ReferenceRecIdeal.Step.init
  refine ⟨fun k => ?_, fun t n h => absurd h (Nat.not_lt_zero _), Cert.ReferenceRecIdeal.Step.a_at _ _ _ _ _ _ _ _ _ _ _ _, Cert.ReferenceRecIdeal.Step.d_at _ _ _ _ _ _ _ _ _ _ _ _,
    Cert.ReferenceRecIdeal.Step.left_at _ _ _ _ _ _ _ _ _ _ _ _, Cert.ReferenceRecIdeal.Step.gelu_at _ _ _ _ _ _ _ _ _ _ _ _⟩
  pointwise [Cert.ReferenceRecIdeal.Step.K_main_v355, Cert.ReferenceRecIdeal.Step.K_main_cst_16]
  rfl

/-- Before every trip the contents are the states and the rows so far. -/
theorem iter_at : ∀ k, k ≤ 8192 → Cert.ReferenceRecIdeal.Step.At (mixT m c) k (stateOf (STEP^[k] (entryContents preI m c)))
    ∧ (STEP^[k] (entryContents preI m c)) (Proc.devRef .tc main_v370_4) = constantI S_ 32 (BitVec.ofNat 32 k) := by
  intro k
  induction k with
  | zero => exact fun _ => ⟨entry_at m c, entry_number m c⟩
  | succ k ih =>
    intro hk
    obtain ⟨h, hn⟩ := ih (Nat.le_of_succ_le hk)
    rw [Function.iterate_succ_apply']
    generalize STEP^[k] (entryContents preI m c) = V at h hn ⊢
    refine ⟨⟨fun i => ?_, fun t n ht => ?_, fun t i => ?_, fun t i => ?_, fun t i => ?_, fun t i => ?_⟩, (STEP_main_v370_4 V).trans (next_number hn)⟩
    · exact (congrFun ((STEP_main_v370_5 V).trans (next_state hn)) (ix1 i)).trans (Cert.ReferenceRecIdeal.Step.next_at h hk i)
    · exact (congrFun ((STEP_main_v370_6 V).trans (next_rows hn)) (ix2 t n)).trans (Cert.ReferenceRecIdeal.Step.rows_at h hk t n ht)
    · exact (congrFun (STEP_main_v370_0 V) (ix2 t i)).trans (h.a t i)
    · exact (congrFun (STEP_main_v370_1 V) (ix2 t i)).trans (h.d t i)
    · exact (congrFun (STEP_main_v370_2 V) (ix2 t i)).trans (h.y t i)
    · exact (congrFun (STEP_main_v370_3 V) (ix2 t i)).trans (h.g t i)

/-- The reference's result array. -/
theorem reference_array : out_main_v371 (STEP^[8192] (entryContents preI m c)) = Cert.KernelRecIdeal.Gen.result (mixT m c) := by
  obtain ⟨h, -⟩ := iter_at m c 8192 le_rfl
  generalize STEP^[8192] (entryContents preI m c) = V at h ⊢
  funext y
  obtain ⟨r, n, rfl⟩ : ∃ (r : Fin 8192) (n : Fin 2048), y = ix2 r n := ⟨y 0, y 1, funext fun a => by
    match a with | ⟨0, _⟩ => rfl | ⟨1, _⟩ => rfl⟩
  exact h.rows r n r.isLt

end Cert.ReferenceRecIdeal.Value

namespace Claims

theorem frame_rec : Cert.quiescent_KernelRec := fun m ρ _ => Cert.KernelRec.Gen.frame m ρ
theorem frame_reci : Cert.quiescent_KernelRecIdeal := fun m ρ _ => Cert.KernelRecIdeal.Gen.frame m ρ
theorem frame_recr : Cert.quiescent_ReferenceRecIdeal := fun m ρ _ =>
  (θ_run Cert.ReferenceRecIdeal.defs _ _).mono (fun r h => ⟨fun c => (h c).2, Idealize.ShloMosaic.sem_eq_zero_of_no_sems (by decide) r.2⟩)
    (Cert.ReferenceRecIdeal.Value.run (F := Ideal) m ρ)

/-- Kernel and reference end at the same array. -/
theorem algebraic_rec : Cert.algebraic_KernelRecIdeal_ReferenceRecIdeal := by
  intro m ρ m' ρ' _ hagree
  refine ⟨fun c => Cert.KernelRecIdeal.Gen.result (Cert.KernelRecIdeal.Gen.mixT m c),
    (θ_run Cert.KernelRecIdeal.defs _ _).mono (fun _ h c => ⟨(h c).1.trans (Cert.KernelRecIdeal.Gen.kernel_array m c), (h c).2⟩) (Cert.KernelRecIdeal.Value.run_blocks (F := Ideal) m ρ), ?_⟩
  refine (θ_run Cert.ReferenceRecIdeal.defs _ _).mono (fun _ h c => ⟨(h c).1.trans ?_, (h c).2⟩) (Cert.ReferenceRecIdeal.Value.run (F := Ideal) m' ρ')
  obtain ⟨h0, h1, h2, h3, h4, h5, h6, h7, h8, h9, h10, h11⟩ := hagree c
  refine (Cert.ReferenceRecIdeal.Value.reference_array m' c).trans ?_
  unfold Cert.ReferenceRecIdeal.Value.mixT
  rw [h0, h1, h2, h3, h4, h5, h6, h7, h8, h9, h10, h11]

end Claims

end
-- ==== Proof.lean ====
module

public import proofs.«01_k».proof.Defs
public import proofs.«01_k».proof.Proof.Attention
public import proofs.«01_k».proof.Proof.Mlp
public import proofs.«01_k».proof.Proof.Out
public import proofs.«01_k».proof.Proof.Qkv
public import proofs.«01_k».proof.Proof.In
public import proofs.«01_k».proof.Proof.Ple
public import proofs.«01_k».proof.Proof.Mid
public import proofs.«01_k».proof.Proof.RecLoop
public import proofs.«01_k».proof.Proof.Gen.Kernel
public import proofs.«01_k».proof.Proof.Gen.KernelIdeal
public import proofs.«01_k».proof.Proof.Gen.ReferenceIdeal
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlp.Frame
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.KernelMlpIdeal.Value
public import proofs.«01_k».proof.Proof.Gen.ReferenceMlpIdeal
public import proofs.«01_k».proof.Proof.Gen.ReferenceMlpIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelPle
public import proofs.«01_k».proof.Proof.Gen.KernelPle.Skeleton
public import proofs.«01_k».proof.Proof.Gen.KernelPle.Launch
public import proofs.«01_k».proof.Proof.Gen.KernelPle.Points
public import proofs.«01_k».proof.Proof.Gen.KernelPle.Frame
public import proofs.«01_k».proof.Proof.Gen.KernelPleIdeal
public import proofs.«01_k».proof.Proof.Gen.KernelPleIdeal.Skeleton
public import proofs.«01_k».proof.Proof.Gen.KernelPleIdeal.Launch
public import proofs.«01_k».proof.Proof.Gen.KernelPleIdeal.Points
public import proofs.«01_k».proof.Proof.Gen.KernelPleIdeal.Frame
public import proofs.«01_k».proof.Proof.Gen.KernelPleIdeal.Value
public import proofs.«01_k».proof.Proof.Gen.ReferencePleIdeal
public import proofs.«01_k».proof.Proof.Gen.ReferencePleIdeal.Run
public import proofs.«01_k».proof.Proof.Gen.KernelMid
public import proofs.«01_k».proof.Proof.Gen.KernelMid.Skeleton
public import proofs.«01_k».proof.Proof.Gen.KernelMid.Launch
public import proofs.«01_k».proof.Proof.Gen.KernelMid.Points
public import proofs.«01_k».proof.Proof.Gen.KernelMid.Frame
public import proofs.«01_k».proof.Proof.Gen.KernelMidIdeal
public import proofs.«01_k».proof.Proof.Gen.KernelMidIdeal.Skeleton
public import proofs.«01_k».proof.Proof.Gen.KernelMidIdeal.Launch
public import proofs.«01_k».proof.Proof.Gen.KernelMidIdeal.Points
public import proofs.«01_k».proof.Proof.Gen.KernelMidIdeal.Frame
public import proofs.«01_k».proof.Proof.Gen.KernelMidIdeal.Value
public import proofs.«01_k».proof.Proof.Gen.ReferenceMidIdeal
public import proofs.«01_k».proof.Proof.Gen.ReferenceMidIdeal.Run
public import proofs.«01_k».proof.Proof.Gen.KernelRec
public import proofs.«01_k».proof.Proof.Gen.KernelRec.Skeleton
public import proofs.«01_k».proof.Proof.Gen.KernelRec.Launch
public import proofs.«01_k».proof.Proof.Gen.KernelRec.Points
public import proofs.«01_k».proof.Proof.Gen.KernelRec.Frame
public import proofs.«01_k».proof.Proof.Gen.KernelRecIdeal
public import proofs.«01_k».proof.Proof.Gen.KernelRecIdeal.Skeleton
public import proofs.«01_k».proof.Proof.Gen.KernelRecIdeal.Launch
public import proofs.«01_k».proof.Proof.Gen.KernelRecIdeal.Points
public import proofs.«01_k».proof.Proof.Gen.KernelRecIdeal.Frame
public import proofs.«01_k».proof.Proof.Gen.KernelRecIdeal.Value
public import proofs.«01_k».proof.Proof.Gen.ReferenceRecIdeal
public import proofs.«01_k».proof.Proof.Gen.ReferenceRecIdeal.Run
public import proofs.«01_k».proof.Proof.Gen.ReferenceRecIdeal.Step
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelMlp.Gen.facts, Cert.KernelMlpIdeal.Gen.facts, Cert.ReferenceMlpIdeal.Gen.facts,
    Cert.KernelOut.Gen.facts, Cert.KernelOutIdeal.Gen.facts, Cert.ReferenceOutIdeal.Gen.facts,
    Cert.KernelQkv.Gen.facts, Cert.KernelQkvIdeal.Gen.facts, Cert.ReferenceQkvIdeal.Gen.facts,
    Cert.KernelIn.Gen.facts, Cert.KernelInIdeal.Gen.facts, Cert.ReferenceInIdeal.Gen.facts,
    Cert.KernelPle.Gen.facts, Cert.KernelPleIdeal.Gen.facts, Cert.ReferencePleIdeal.Gen.facts,
    Cert.KernelMid.Gen.facts, Cert.KernelMidIdeal.Gen.facts, Cert.ReferenceMidIdeal.Gen.facts,
    Cert.KernelRec.Gen.facts, Cert.KernelRecIdeal.Gen.facts, Cert.ReferenceRecIdeal.Gen.facts,
    Claims.frame_p, Claims.frame_pi, Claims.frame_ri,
    Claims.frame_mlp, Claims.frame_mlpi, Claims.frame_mlpr,
    Claims.frame_out, Claims.frame_outi, Claims.frame_outr,
    Claims.frame_qkv, Claims.frame_qkvi, Claims.frame_qkvr,
    Claims.frame_in, Claims.frame_ini, Claims.frame_inr,
    Claims.frame_ple, Claims.frame_plei, Claims.frame_pler,
    Claims.frame_mid, Claims.frame_midi, Claims.frame_midr,
    Claims.frame_rec, Claims.frame_reci, Claims.frame_recr,
    Claims.preserves, Claims.algebraic,
    trivial, Claims.algebraic_mlp,
    trivial, Claims.algebraic_out,
    trivial, Claims.algebraic_qkv,
    trivial, Claims.algebraic_in,
    trivial, Claims.algebraic_ple,
    trivial, Claims.algebraic_mid,
    trivial, Claims.algebraic_rec⟩

end Cert.Proof

end
